-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete_tree_and_finite [hPre_complete_tree_and_finite : Cert.Pre_complete_tree_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_complete_tree_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete_tree_and_finite [hPre_complete_tree_and_finite : Cert.Pre_complete_tree_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete_tree_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_complete_tree_and_finite [hKernelIdeal : Cert.KernelIdeal.Facts] [hPre_complete_tree_and_finite : Cert.Pre_complete_tree_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete_tree_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_complete_tree_and_finite [hReferenceIdeal : Cert.ReferenceIdeal.Facts] [hPre_complete_tree_and_finite : Cert.Pre_complete_tree_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete_tree_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_complete_tree_and_finite [hKernelIdeal : Cert.KernelIdeal.Facts] [hReferenceIdeal : Cert.ReferenceIdeal.Facts] [hPre_complete_tree_and_finite : Cert.Pre_complete_tree_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete_tree_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v537) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_complete_tree_and_finite : Cert.Pre_complete_tree_and_finite.Facts),
    quiescent_Kernel (hKernel := hKernel)
    ∧ quiescent_KernelIdeal (hKernelIdeal := hKernelIdeal)
    ∧ quiescent_KernelIdeal_pre_complete_tree_and_finite (hKernelIdeal := hKernelIdeal) (hPre_complete_tree_and_finite := hPre_complete_tree_and_finite)
    ∧ quiescent_ReferenceIdeal (hReferenceIdeal := hReferenceIdeal)
    ∧ quiescent_ReferenceIdeal_pre_complete_tree_and_finite (hReferenceIdeal := hReferenceIdeal) (hPre_complete_tree_and_finite := hPre_complete_tree_and_finite)
    ∧ preserves_Kernel_KernelIdeal
    ∧ algebraic_KernelIdeal_ReferenceIdeal_pre_complete_tree_and_finite (hKernelIdeal := hKernelIdeal) (hReferenceIdeal := hReferenceIdeal) (hPre_complete_tree_and_finite := hPre_complete_tree_and_finite)
-- ==== Pre_complete_tree_and_finite.lean ====
abbrev S32x4095x128 : Shape := ⟨3, ![32, 4095, 128]⟩
abbrev S4095 : Shape := ⟨1, ![4095]⟩
abbrev S128x128 : Shape := ⟨2, ![128, 128]⟩
abbrev S128 : Shape := ⟨1, ![128]⟩
abbrev S64 : Shape := ⟨1, ![64]⟩
abbrev S64x128 : Shape := ⟨2, ![64, 128]⟩
abbrev S128x64 : Shape := ⟨2, ![128, 64]⟩
abbrev S_ : Shape := ⟨0, ![]⟩

class Facts : Prop where
  bcast_S_S4095 : S_.BroadcastsInDim S4095 (![] : Fin 0 → Fin S4095.rank)
  reducesTo_S4095_S_d0 : S4095.ReducesTo [0] S_
  h_S_ : 0 < S_.numel
  bcast_S_S32x4095x128 : S_.BroadcastsInDim S32x4095x128 (![] : Fin 0 → Fin S32x4095x128.rank)
  reducesTo_S32x4095x128_S_d0_1_2 : S32x4095x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_

variable [Facts]

def fn_where {F : FTy → Type} [FloatOps F] (arg0 : IVec S4095 1) (arg1 : IVec S4095 32) (arg2 : IVec S_ 32) : IVec S4095 32 :=
  let v0 : IVec S_ 32 := id arg2
  let v1 : IVec S4095 32 := broadcastInDim S4095 ![] bcast_S_S4095 v0
  let v2 : IVec S4095 32 := select arg0 arg1 v1
  v2

def fn_part4 {F : FTy → Type} [FloatOps F] (main_v27 : IVec S_ 1) (main_v64 : IVec S_ 1) (main_v65 : FVec F S128x64 .f32) : IVec S_ 1 :=
  let main_cst_28 : FVec F S_ .f32 := constant S_ .f32 0x7F800000#32
  let main_v66 : FVec F S128x64 .f32 := broadcastInDim S128x64 ![] bcast_S_S128x64 main_cst_28
  let main_v67 : IVec S128x64 1 := cmpf .olt main_v65 main_v66
  let main_c_29 : IVec S_ 1 := constantI S_ 1 1#1
  let main_v68 : IVec S_ 1 := (fun x v => Host.reduce IntOp.andi x v reducesTo_S128x64_S_d0_1 h_S_) main_v67 main_c_29
  let main_v69 : IVec S_ 1 := andi main_v64 main_v68
  let main_v70 : IVec S_ 1 := andi main_v27 main_v69
  main_v70

def fn_part3 {F : FTy → Type} [FloatOps F] (main_arg8 : FVec F S64 .f32) (main_arg9 : FVec F S64x128 .f32) (main_arg10 : FVec F S64x128 .f32) (main_arg12 : FVec F S128x64 .f32) (main_v27 : IVec S_ 1) (main_v46 : IVec S_ 1) (main_v48 : IVec S64 1) : IVec S_ 1 :=
  let main_c_21 : IVec S_ 1 := constantI S_ 1 1#1
  let main_v49 : IVec S_ 1 := (fun x v => Host.reduce IntOp.andi x v reducesTo_S64_S_d0 h_S_) main_v48 main_c_21
  let main_v50 : IVec S_ 1 := andi main_v46 main_v49
  let main_cst_22 : FVec F S_ .f32 := constant S_ .f32 0x7F800000#32
  let main_v51 : FVec F S64 .f32 := broadcastInDim S64 ![] bcast_S_S64 main_cst_22
  let main_v52 : IVec S64 1 := cmpf .olt main_arg8 main_v51
  let main_c_23 : IVec S_ 1 := constantI S_ 1 1#1
  let main_v53 : IVec S_ 1 := (fun x v => Host.reduce IntOp.andi x v reducesTo_S64_S_d0 h_S_) main_v52 main_c_23
  let main_v54 : IVec S_ 1 := andi main_v50 main_v53
  let main_v55 : FVec F S64x128 .f32 := Host.absf main_arg9
  let main_cst_24 : FVec F S_ .f32 := constant S_ .f32 0x7F800000#32
  let main_v56 : FVec F S64x128 .f32 := broadcastInDim S64x128 ![] bcast_S_S64x128 main_cst_24
  let main_v57 : IVec S64x128 1 := cmpf .olt main_v55 main_v56
  let main_c_25 : IVec S_ 1 := constantI S_ 1 1#1
  let main_v58 : IVec S_ 1 := (fun x v => Host.reduce IntOp.andi x v reducesTo_S64x128_S_d0_1 h_S_) main_v57 main_c_25
  let main_v59 : IVec S_ 1 := andi main_v54 main_v58
  let main_v60 : FVec F S64x128 .f32 := Host.absf main_arg10
  let main_cst_26 : FVec F S_ .f32 := constant S_ .f32 0x7F800000#32
  let main_v61 : FVec F S64x128 .f32 := broadcastInDim S64x128 ![] bcast_S_S64x128 main_cst_26
  let main_v62 : IVec S64x128 1 := cmpf .olt main_v60 main_v61
  let main_c_27 : IVec S_ 1 := constantI S_ 1 1#1
  let main_v63 : IVec S_ 1 := (fun x v => Host.reduce IntOp.andi x v reducesTo_S64x128_S_d0_1 h_S_) main_v62 main_c_27
  let main_v64 : IVec S_ 1 := andi main_v59 main_v63
  let main_v65 : FVec F S128x64 .f32 := Host.absf main_arg12
  fn_part4 (F := F) main_v27 main_v64 main_v65

def fn_part2 {F : FTy → Type} [FloatOps F] (main_arg3 : FVec F S128x128 .f32) (main_arg4 : FVec F S128 .f32) (main_arg5 : FVec F S128x128 .f32) (main_arg7 : FVec F S64 .f32) (main_arg8 : FVec F S64 .f32) (main_arg9 : FVec F S64x128 .f32) (main_arg10 : FVec F S64x128 .f32) (main_arg12 : FVec F S128x64 .f32) (main_v27 : IVec S_ 1) (main_v31 : IVec S_ 1) : IVec S_ 1 :=
  let main_v32 : FVec F S128x128 .f32 := Host.absf main_arg3
  let main_cst_14 : FVec F S_ .f32 := constant S_ .f32 0x7F800000#32
  let main_v33 : FVec F S128x128 .f32 := broadcastInDim S128x128 ![] bcast_S_S128x128 main_cst_14
  let main_v34 : IVec S128x128 1 := cmpf .olt main_v32 main_v33
  let main_c_15 : IVec S_ 1 := constantI S_ 1 1#1
  let main_v35 : IVec S_ 1 := (fun x v => Host.reduce IntOp.andi x v reducesTo_S128x128_S_d0_1 h_S_) main_v34 main_c_15
  let main_v36 : IVec S_ 1 := andi main_v31 main_v35
  let main_v37 : FVec F S128 .f32 := Host.absf main_arg4
  let main_cst_16 : FVec F S_ .f32 := constant S_ .f32 0x7F800000#32
  let main_v38 : FVec F S128 .f32 := broadcastInDim S128 ![] bcast_S_S128 main_cst_16
  let main_v39 : IVec S128 1 := cmpf .olt main_v37 main_v38
  let main_c_17 : IVec S_ 1 := constantI S_ 1 1#1
  let main_v40 : IVec S_ 1 := (fun x v => Host.reduce IntOp.andi x v reducesTo_S128_S_d0 h_S_) main_v39 main_c_17
  let main_v41 : IVec S_ 1 := andi main_v36 main_v40
  let main_v42 : FVec F S128x128 .f32 := Host.absf main_arg5
  let main_cst_18 : FVec F S_ .f32 := constant S_ .f32 0x7F800000#32
  let main_v43 : FVec F S128x128 .f32 := broadcastInDim S128x128 ![] bcast_S_S128x128 main_cst_18
  let main_v44 : IVec S128x128 1 := cmpf .olt main_v42 main_v43
  let main_c_19 : IVec S_ 1 := constantI S_ 1 1#1
  let main_v45 : IVec S_ 1 := (fun x v => Host.reduce IntOp.andi x v reducesTo_S128x128_S_d0_1 h_S_) main_v44 main_c_19
  let main_v46 : IVec S_ 1 := andi main_v41 main_v45
  let main_cst_20 : FVec F S_ .f32 := constant S_ .f32 0x7F800000#32
  let main_v47 : FVec F S64 .f32 := broadcastInDim S64 ![] bcast_S_S64 main_cst_20
  let main_v48 : IVec S64 1 := cmpf .olt main_arg7 main_v47
  fn_part3 (F := F) main_arg8 main_arg9 main_arg10 main_arg12 main_v27 main_v46 main_v48

def fn_part1 {F : FTy → Type} [FloatOps F] (main_arg0 : FVec F S32x4095x128 .f32) (main_arg2 : IVec S4095 32) (main_arg3 : FVec F S128x128 .f32) (main_arg4 : FVec F S128 .f32) (main_arg5 : FVec F S128x128 .f32) (main_arg7 : FVec F S64 .f32) (main_arg8 : FVec F S64 .f32) (main_arg9 : FVec F S64x128 .f32) (main_arg10 : FVec F S64x128 .f32) (main_arg12 : FVec F S128x64 .f32) (main_v0 : IVec S4095 32) (main_v13 : IVec S_ 1) (main_v15 : IVec S4095 32) : IVec S_ 1 :=
  let main_c_7 : IVec S_ 32 := constantI S_ 32 2#32
  let main_v16 : IVec S4095 32 := broadcastInDim S4095 ![] bcast_S_S4095 main_c_7
  let main_v17 : IVec S4095 32 := addi main_v15 main_v16
  let main_c_8 : IVec S_ 32 := constantI S_ 32 4095#32
  let main_v18 : IVec S4095 32 := broadcastInDim S4095 ![] bcast_S_S4095 main_c_8
  let main_v19 : IVec S4095 1 := cmpi .slt main_v17 main_v18
  let main_c_9 : IVec S_ 32 := constantI S_ 32 2#32
  let main_v20 : IVec S4095 32 := broadcastInDim S4095 ![] bcast_S_S4095 main_c_9
  let main_v21 : IVec S4095 32 := muli main_v20 main_v0
  let main_c_10 : IVec S_ 32 := constantI S_ 32 2#32
  let main_v22 : IVec S4095 32 := broadcastInDim S4095 ![] bcast_S_S4095 main_c_10
  let main_v23 : IVec S4095 32 := addi main_v21 main_v22
  let main_c_11 : IVec S_ 32 := constantI S_ 32 4294967295#32
  let main_v24 : IVec S4095 32 := fn_where (F := F) main_v19 main_v23 main_c_11
  let main_v25 : IVec S4095 1 := cmpi .eq main_arg2 main_v24
  let main_c_12 : IVec S_ 1 := constantI S_ 1 1#1
  let main_v26 : IVec S_ 1 := (fun x v => Host.reduce IntOp.andi x v reducesTo_S4095_S_d0 h_S_) main_v25 main_c_12
  let main_v27 : IVec S_ 1 := andi main_v13 main_v26
  let main_v28 : FVec F S32x4095x128 .f32 := Host.absf main_arg0
  let main_cst : FVec F S_ .f32 := constant S_ .f32 0x7F800000#32
  let main_v29 : FVec F S32x4095x128 .f32 := broadcastInDim S32x4095x128 ![] bcast_S_S32x4095x128 main_cst
  let main_v30 : IVec S32x4095x128 1 := cmpf .olt main_v28 main_v29
  let main_c_13 : IVec S_ 1 := constantI S_ 1 1#1
  let main_v31 : IVec S_ 1 := (fun x v => Host.reduce IntOp.andi x v reducesTo_S32x4095x128_S_d0_1_2 h_S_) main_v30 main_c_13
  fn_part2 (F := F) main_arg3 main_arg4 main_arg5 main_arg7 main_arg8 main_arg9 main_arg10 main_arg12 main_v27 main_v31

def fn {F : FTy → Type} [FloatOps F] (main_arg0 : FVec F S32x4095x128 .f32) (main_arg1 : IVec S4095 32) (main_arg2 : IVec S4095 32) (main_arg3 : FVec F S128x128 .f32) (main_arg4 : FVec F S128 .f32) (main_arg5 : FVec F S128x128 .f32) (main_arg6 : FVec F S64 .f32) (main_arg7 : FVec F S64 .f32) (main_arg8 : FVec F S64 .f32) (main_arg9 : FVec F S64x128 .f32) (main_arg10 : FVec F S64x128 .f32) (main_arg11 : FVec F S128x64 .f32) (main_arg12 : FVec F S128x64 .f32) : IVec S_ 1 :=
  let main_v0 : IVec S4095 32 := iotaInDim S4095 32 0
  let main_c : IVec S_ 32 := constantI S_ 32 2#32
  let main_v1 : IVec S4095 32 := broadcastInDim S4095 ![] bcast_S_S4095 main_c
  let main_v2 : IVec S4095 32 := muli main_v1 main_v0
  let main_c_0 : IVec S_ 32 := constantI S_ 32 1#32
  let main_v3 : IVec S4095 32 := broadcastInDim S4095 ![] bcast_S_S4095 main_c_0
  let main_v4 : IVec S4095 32 := addi main_v2 main_v3
  let main_c_1 : IVec S_ 32 := constantI S_ 32 4095#32
  let main_v5 : IVec S4095 32 := broadcastInDim S4095 ![] bcast_S_S4095 main_c_1
  let main_v6 : IVec S4095 1 := cmpi .slt main_v4 main_v5
  let main_c_2 : IVec S_ 32 := constantI S_ 32 2#32
  let main_v7 : IVec S4095 32 := broadcastInDim S4095 ![] bcast_S_S4095 main_c_2
  let main_v8 : IVec S4095 32 := muli main_v7 main_v0
  let main_c_3 : IVec S_ 32 := constantI S_ 32 1#32
  let main_v9 : IVec S4095 32 := broadcastInDim S4095 ![] bcast_S_S4095 main_c_3
  let main_v10 : IVec S4095 32 := addi main_v8 main_v9
  let main_c_4 : IVec S_ 32 := constantI S_ 32 4294967295#32
  let main_v11 : IVec S4095 32 := fn_where (F := F) main_v6 main_v10 main_c_4
  let main_v12 : IVec S4095 1 := cmpi .eq main_arg1 main_v11
  let main_c_5 : IVec S_ 1 := constantI S_ 1 1#1
  let main_v13 : IVec S_ 1 := (fun x v => Host.reduce IntOp.andi x v reducesTo_S4095_S_d0 h_S_) main_v12 main_c_5
  let main_c_6 : IVec S_ 32 := constantI S_ 32 2#32
  let main_v14 : IVec S4095 32 := broadcastInDim S4095 ![] bcast_S_S4095 main_c_6
  let main_v15 : IVec S4095 32 := muli main_v14 main_v0
  fn_part1 (F := F) main_arg0 main_arg2 main_arg3 main_arg4 main_arg5 main_arg7 main_arg8 main_arg9 main_arg10 main_arg12 main_v0 main_v13 main_v15
-- ==== Kernel.lean ====
abbrev S32x4095x128 : Shape := ⟨3, ![32, 4095, 128]⟩
abbrev S4095 : Shape := ⟨1, ![4095]⟩
abbrev S128x128 : Shape := ⟨2, ![128, 128]⟩
abbrev S128 : Shape := ⟨1, ![128]⟩
abbrev S64 : Shape := ⟨1, ![64]⟩
abbrev S64x128 : Shape := ⟨2, ![64, 128]⟩
abbrev S128x64 : Shape := ⟨2, ![128, 64]⟩
abbrev S1x128 : Shape := ⟨2, ![1, 128]⟩
abbrev S1x64 : Shape := ⟨2, ![1, 64]⟩
abbrev S4096x8x128 : Shape := ⟨3, ![4096, 8, 128]⟩
abbrev S4x8x512x128 : Shape := ⟨4, ![4, 8, 512, 128]⟩
abbrev S5 : Shape := ⟨1, ![5]⟩
abbrev S1x1x128 : Shape := ⟨3, ![1, 1, 128]⟩
abbrev S64x1 : Shape := ⟨2, ![64, 1]⟩
abbrev S1 : Shape := ⟨1, ![1]⟩
abbrev S_ : Shape := ⟨0, ![]⟩
abbrev S1x8x512x128 : Shape := ⟨4, ![1, 8, 512, 128]⟩
abbrev S8x512x128 : Shape := ⟨3, ![8, 512, 128]⟩
abbrev S512x8x128 : Shape := ⟨3, ![512, 8, 128]⟩
abbrev S4096x128 : Shape := ⟨2, ![4096, 128]⟩
abbrev S1x8x511x128 : Shape := ⟨4, ![1, 8, 511, 128]⟩
abbrev S8x511x128 : Shape := ⟨3, ![8, 511, 128]⟩
abbrev S2048x8x128 : Shape := ⟨3, ![2048, 8, 128]⟩
abbrev S1024x2x8x128 : Shape := ⟨4, ![1024, 2, 8, 128]⟩
abbrev S1024x8x128 : Shape := ⟨3, ![1024, 8, 128]⟩
abbrev S512x2x8x128 : Shape := ⟨4, ![512, 2, 8, 128]⟩
abbrev S256x2x8x128 : Shape := ⟨4, ![256, 2, 8, 128]⟩
abbrev S256x8x128 : Shape := ⟨3, ![256, 8, 128]⟩
abbrev S128x2x8x128 : Shape := ⟨4, ![128, 2, 8, 128]⟩
abbrev S128x8x128 : Shape := ⟨3, ![128, 8, 128]⟩
abbrev S64x2x8x128 : Shape := ⟨4, ![64, 2, 8, 128]⟩
abbrev S64x8x128 : Shape := ⟨3, ![64, 8, 128]⟩
abbrev S32x2x8x128 : Shape := ⟨4, ![32, 2, 8, 128]⟩
abbrev S32x8x128 : Shape := ⟨3, ![32, 8, 128]⟩
abbrev S16x2x8x128 : Shape := ⟨4, ![16, 2, 8, 128]⟩
abbrev S16x8x128 : Shape := ⟨3, ![16, 8, 128]⟩
abbrev S8x2x8x128 : Shape := ⟨4, ![8, 2, 8, 128]⟩
abbrev S8x8x128 : Shape := ⟨3, ![8, 8, 128]⟩
abbrev S4x2x8x128 : Shape := ⟨4, ![4, 2, 8, 128]⟩
abbrev S4x8x128 : Shape := ⟨3, ![4, 8, 128]⟩
abbrev S2x2x8x128 : Shape := ⟨4, ![2, 2, 8, 128]⟩
abbrev S2x8x128 : Shape := ⟨3, ![2, 8, 128]⟩
abbrev S1x2x8x128 : Shape := ⟨4, ![1, 2, 8, 128]⟩
abbrev S1x8x128 : Shape := ⟨3, ![1, 8, 128]⟩

abbrev nBuf : Space → Nat
  | .hbm => 18
  | .vmem => 14
  | .smem => 0
  | _ => 0

abbrev bufTy : (tb : Table) → Fin (tcTables nBuf tb) → BufTy
  | .hbm, ⟨0, _⟩ => ⟨S32x4095x128, .f32⟩
  | .hbm, ⟨1, _⟩ => ⟨S4095, .i32⟩
  | .hbm, ⟨2, _⟩ => ⟨S4095, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x128, .f32⟩
  | .hbm, ⟨10, _⟩ => ⟨S64x128, .f32⟩
  | .hbm, ⟨11, _⟩ => ⟨S128x64, .f32⟩
  | .hbm, ⟨12, _⟩ => ⟨S128x64, .f32⟩
  | .hbm, ⟨13, _⟩ => ⟨S1x128, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S32x4095x128, .f32⟩
  | .local _ .vmem, ⟨0, _⟩ => ⟨S128x128, .f32⟩
  | .local _ .vmem, ⟨1, _⟩ => ⟨S1x128, .f32⟩
  | .local _ .vmem, ⟨2, _⟩ => ⟨S128x128, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x128, .f32⟩
  | .local _ .vmem, ⟨7, _⟩ => ⟨S64x128, .f32⟩
  | .local _ .vmem, ⟨8, _⟩ => ⟨S128x64, .f32⟩
  | .local _ .vmem, ⟨9, _⟩ => ⟨S128x64, .f32⟩
  | .local _ .vmem, ⟨10, _⟩ => ⟨S4096x8x128, .bf16⟩
  | .local _ .vmem, ⟨11, _⟩ => ⟨S4096x8x128, .f32⟩
  | .local _ .vmem, ⟨12, _⟩ => ⟨S4x8x512x128, .f32⟩
  | .local _ .vmem, ⟨13, _⟩ => ⟨S4x8x512x128, .f32⟩
  | _, _ => ⟨S32x4095x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S32x4095x128 : Shape := ⟨3, ![32, 4095, 128]⟩
abbrev S4095 : Shape := ⟨1, ![4095]⟩
abbrev S128x128 : Shape := ⟨2, ![128, 128]⟩
abbrev S128 : Shape := ⟨1, ![128]⟩
abbrev S64 : Shape := ⟨1, ![64]⟩
abbrev S64x128 : Shape := ⟨2, ![64, 128]⟩
abbrev S128x64 : Shape := ⟨2, ![128, 64]⟩
abbrev S1x1x128 : Shape := ⟨3, ![1, 1, 128]⟩
abbrev S32x4095x64 : Shape := ⟨3, ![32, 4095, 64]⟩
abbrev S1x1x64 : Shape := ⟨3, ![1, 1, 64]⟩
abbrev S_ : Shape := ⟨0, ![]⟩
abbrev S2048 : Shape := ⟨1, ![2048]⟩
abbrev S1x2048x1 : Shape := ⟨3, ![1, 2048, 1]⟩
abbrev S2048x1 : Shape := ⟨2, ![2048, 1]⟩
abbrev S32x2048x64 : Shape := ⟨3, ![32, 2048, 64]⟩
abbrev S1 : Shape := ⟨1, ![1]⟩
abbrev S1024 : Shape := ⟨1, ![1024]⟩
abbrev S1x1024x1 : Shape := ⟨3, ![1, 1024, 1]⟩
abbrev S1024x1 : Shape := ⟨2, ![1024, 1]⟩
abbrev S32x1024x64 : Shape := ⟨3, ![32, 1024, 64]⟩
abbrev S512 : Shape := ⟨1, ![512]⟩
abbrev S1x512x1 : Shape := ⟨3, ![1, 512, 1]⟩
abbrev S512x1 : Shape := ⟨2, ![512, 1]⟩
abbrev S32x512x64 : Shape := ⟨3, ![32, 512, 64]⟩
abbrev S256 : Shape := ⟨1, ![256]⟩
abbrev S1x256x1 : Shape := ⟨3, ![1, 256, 1]⟩
abbrev S256x1 : Shape := ⟨2, ![256, 1]⟩
abbrev S32x256x64 : Shape := ⟨3, ![32, 256, 64]⟩
abbrev S1x128x1 : Shape := ⟨3, ![1, 128, 1]⟩
abbrev S128x1 : Shape := ⟨2, ![128, 1]⟩
abbrev S32x128x64 : Shape := ⟨3, ![32, 128, 64]⟩
abbrev S1x64x1 : Shape := ⟨3, ![1, 64, 1]⟩
abbrev S64x1 : Shape := ⟨2, ![64, 1]⟩
abbrev S32x64x64 : Shape := ⟨3, ![32, 64, 64]⟩
abbrev S32 : Shape := ⟨1, ![32]⟩
abbrev S1x32x1 : Shape := ⟨3, ![1, 32, 1]⟩
abbrev S32x1 : Shape := ⟨2, ![32, 1]⟩
abbrev S32x32x64 : Shape := ⟨3, ![32, 32, 64]⟩
abbrev S16 : Shape := ⟨1, ![16]⟩
abbrev S1x16x1 : Shape := ⟨3, ![1, 16, 1]⟩
abbrev S16x1 : Shape := ⟨2, ![16, 1]⟩
abbrev S32x16x64 : Shape := ⟨3, ![32, 16, 64]⟩
abbrev S8 : Shape := ⟨1, ![8]⟩
abbrev S1x8x1 : Shape := ⟨3, ![1, 8, 1]⟩
abbrev S8x1 : Shape := ⟨2, ![8, 1]⟩
abbrev S32x8x64 : Shape := ⟨3, ![32, 8, 64]⟩
abbrev S4 : Shape := ⟨1, ![4]⟩
abbrev S1x4x1 : Shape := ⟨3, ![1, 4, 1]⟩
abbrev S4x1 : Shape := ⟨2, ![4, 1]⟩
abbrev S32x4x64 : Shape := ⟨3, ![32, 4, 64]⟩
abbrev S2 : Shape := ⟨1, ![2]⟩
abbrev S1x2x1 : Shape := ⟨3, ![1, 2, 1]⟩
abbrev S2x1 : Shape := ⟨2, ![2, 1]⟩
abbrev S32x2x64 : Shape := ⟨3, ![32, 2, 64]⟩
abbrev S1x1x1 : Shape := ⟨3, ![1, 1, 1]⟩
abbrev S1x1 : Shape := ⟨2, ![1, 1]⟩
abbrev S32x1x64 : Shape := ⟨3, ![32, 1, 64]⟩

abbrev nBuf : Space → Nat
  | .hbm => 1009
  | .vmem => 0
  | .smem => 0
  | _ => 0

abbrev hbmTy0_0 (i : Nat) : BufTy := match i % 128 with
  | 0 => ⟨S32x4095x128, .f32⟩
  | 1 => ⟨S4095, .i32⟩
  | 2 => ⟨S4095, .i32⟩
  | 3 => ⟨S128x128, .f32⟩
  | 4 => ⟨S128, .f32⟩
  | 5 => ⟨S128x128, .f32⟩
  | 6 => ⟨S64, .f32⟩
  | 7 => ⟨S64, .f32⟩
  | 8 => ⟨S64, .f32⟩
  | 9 => ⟨S64x128, .f32⟩
  | 10 => ⟨S64x128, .f32⟩
  | 11 => ⟨S128x64, .f32⟩
  | 12 => ⟨S128x64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S64, .f32⟩
  | 22 => ⟨S128x128, .f32⟩
  | 23 => ⟨S32x4095x128, .f32⟩
  | 24 => ⟨S1x1x128, .f32⟩
  | 25 => ⟨S32x4095x128, .f32⟩
  | 26 => ⟨S32x4095x128, .f32⟩
  | 27 => ⟨S128x64, .f32⟩
  | 28 => ⟨S32x4095x64, .f32⟩
  | 29 => ⟨S1x1x64, .f32⟩
  | 30 => ⟨S32x4095x64, .f32⟩
  | 31 => ⟨S32x4095x64, .f32⟩
  | 32 => ⟨S128x64, .f32⟩
  | 33 => ⟨S32x4095x64, .f32⟩
  | 34 => ⟨S1x1x64, .f32⟩
  | 35 => ⟨S32x4095x64, .f32⟩
  | 36 => ⟨S32x4095x64, .f32⟩
  | 37 => ⟨S_, .f32⟩
  | 38 => ⟨S32x4095x64, .f32⟩
  | 39 => ⟨S_, .f32⟩
  | 40 => ⟨S32x4095x64, .f32⟩
  | 41 => ⟨S2048, .i32⟩
  | 42 => ⟨S2048, .i32⟩
  | 43 => ⟨S_, .i32⟩
  | 44 => ⟨S2048, .i32⟩
  | 45 => ⟨S2048, .i1⟩
  | 46 => ⟨S1x2048x1, .i1⟩
  | 47 => ⟨S_, .i32⟩
  | 48 => ⟨S2048, .i32⟩
  | 49 => ⟨S2048, .i1⟩
  | 50 => ⟨S1x2048x1, .i1⟩
  | 51 => ⟨S_, .i32⟩
  | 52 => ⟨S_, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S_, .i32⟩
  | 61 => ⟨S_, .i32⟩
  | 62 => ⟨S2048, .i32⟩
  | 63 => ⟨S2048, .i32⟩
  | 64 => ⟨S_, .i32⟩
  | 65 => ⟨S2048, .i32⟩
  | 66 => ⟨S2048, .i32⟩
  | 67 => ⟨S2048x1, .i32⟩
  | 68 => ⟨S32x2048x64, .f32⟩
  | 69 => ⟨S_, .f32⟩
  | 70 => ⟨S_, .f32⟩
  | 71 => ⟨S32x2048x64, .i1⟩
  | 72 => ⟨S32x2048x64, .f32⟩
  | 73 => ⟨S32x2048x64, .f32⟩
  | 74 => ⟨S2048x1, .i32⟩
  | 75 => ⟨S32x2048x64, .f32⟩
  | 76 => ⟨S_, .f32⟩
  | 77 => ⟨S_, .f32⟩
  | 78 => ⟨S32x2048x64, .i1⟩
  | 79 => ⟨S32x2048x64, .f32⟩
  | 80 => ⟨S32x2048x64, .f32⟩
  | 81 => ⟨S32x2048x64, .f32⟩
  | 82 => ⟨S2048x1, .i32⟩
  | 83 => ⟨S32x2048x64, .f32⟩
  | 84 => ⟨S_, .f32⟩
  | 85 => ⟨S_, .f32⟩
  | 86 => ⟨S32x2048x64, .i1⟩
  | 87 => ⟨S32x2048x64, .f32⟩
  | 88 => ⟨S32x2048x64, .f32⟩
  | 89 => ⟨S2048x1, .i32⟩
  | 90 => ⟨S32x2048x64, .f32⟩
  | 91 => ⟨S_, .f32⟩
  | 92 => ⟨S_, .f32⟩
  | 93 => ⟨S32x2048x64, .i1⟩
  | 94 => ⟨S32x2048x64, .f32⟩
  | 95 => ⟨S32x2048x64, .f32⟩
  | 96 => ⟨S32x2048x64, .f32⟩
  | 97 => ⟨S1x1x64, .f32⟩
  | 98 => ⟨S32x2048x64, .f32⟩
  | 99 => ⟨S32x2048x64, .f32⟩
  | 100 => ⟨S1x1x64, .f32⟩
  | 101 => ⟨S32x2048x64, .f32⟩
  | 102 => ⟨S32x2048x64, .f32⟩
  | 103 => ⟨S32x2048x64, .f32⟩
  | 104 => ⟨S32x2048x64, .f32⟩
  | 105 => ⟨S32x2048x64, .f32⟩
  | 106 => ⟨S1x1x64, .f32⟩
  | 107 => ⟨S32x2048x64, .f32⟩
  | 108 => ⟨S32x2048x64, .f32⟩
  | 109 => ⟨S1x1x64, .f32⟩
  | 110 => ⟨S32x2048x64, .f32⟩
  | 111 => ⟨S32x2048x64, .f32⟩
  | 112 => ⟨S32x2048x64, .f32⟩
  | 113 => ⟨S32x2048x64, .f32⟩
  | 114 => ⟨S32x2048x64, .f32⟩
  | 115 => ⟨S_, .i32⟩
  | 116 => ⟨S1, .i32⟩
  | 117 => ⟨S32x4095x64, .f32⟩
  | 118 => ⟨S_, .i32⟩
  | 119 => ⟨S1, .i32⟩
  | 120 => ⟨S32x4095x64, .f32⟩
  | 121 => ⟨S1024, .i32⟩
  | 122 => ⟨S1024, .i32⟩
  | 123 => ⟨S_, .i32⟩
  | 124 => ⟨S1024, .i32⟩
  | 125 => ⟨S1024, .i1⟩
  | 126 => ⟨S1x1024x1, .i1⟩
  | 127 => ⟨S_, .i32⟩
  | _ => ⟨S32x4095x128, .f32⟩

abbrev hbmTy0_1 (i : Nat) : BufTy := match i % 128 with
  | 0 => ⟨S1024, .i32⟩
  | 1 => ⟨S1024, .i1⟩
  | 2 => ⟨S1x1024x1, .i1⟩
  | 3 => ⟨S_, .i32⟩
  | 4 => ⟨S_, .i32⟩
  | 5 => ⟨S_, .i32⟩
  | 6 => ⟨S1024, .i32⟩
  | 7 => ⟨S1024, .i32⟩
  | 8 => ⟨S_, .i32⟩
  | 9 => ⟨S1024, .i32⟩
  | 10 => ⟨S1024, .i32⟩
  | 11 => ⟨S_, .i32⟩
  | 12 => ⟨S_, .i32⟩
  | 13 => ⟨S_, .i32⟩
  | 14 => ⟨S1024, .i32⟩
  | 15 => ⟨S1024, .i32⟩
  | 16 => ⟨S_, .i32⟩
  | 17 => ⟨S1024, .i32⟩
  | 18 => ⟨S1024, .i32⟩
  | 19 => ⟨S1024x1, .i32⟩
  | 20 => ⟨S32x1024x64, .f32⟩
  | 21 => ⟨S_, .f32⟩
  | 22 => ⟨S_, .f32⟩
  | 23 => ⟨S32x1024x64, .i1⟩
  | 24 => ⟨S32x1024x64, .f32⟩
  | 25 => ⟨S32x1024x64, .f32⟩
  | 26 => ⟨S1024x1, .i32⟩
  | 27 => ⟨S32x1024x64, .f32⟩
  | 28 => ⟨S_, .f32⟩
  | 29 => ⟨S_, .f32⟩
  | 30 => ⟨S32x1024x64, .i1⟩
  | 31 => ⟨S32x1024x64, .f32⟩
  | 32 => ⟨S32x1024x64, .f32⟩
  | 33 => ⟨S32x1024x64, .f32⟩
  | 34 => ⟨S1024x1, .i32⟩
  | 35 => ⟨S32x1024x64, .f32⟩
  | 36 => ⟨S_, .f32⟩
  | 37 => ⟨S_, .f32⟩
  | 38 => ⟨S32x1024x64, .i1⟩
  | 39 => ⟨S32x1024x64, .f32⟩
  | 40 => ⟨S32x1024x64, .f32⟩
  | 41 => ⟨S1024x1, .i32⟩
  | 42 => ⟨S32x1024x64, .f32⟩
  | 43 => ⟨S_, .f32⟩
  | 44 => ⟨S_, .f32⟩
  | 45 => ⟨S32x1024x64, .i1⟩
  | 46 => ⟨S32x1024x64, .f32⟩
  | 47 => ⟨S32x1024x64, .f32⟩
  | 48 => ⟨S32x1024x64, .f32⟩
  | 49 => ⟨S1x1x64, .f32⟩
  | 50 => ⟨S32x1024x64, .f32⟩
  | 51 => ⟨S32x1024x64, .f32⟩
  | 52 => ⟨S1x1x64, .f32⟩
  | 53 => ⟨S32x1024x64, .f32⟩
  | 54 => ⟨S32x1024x64, .f32⟩
  | 55 => ⟨S32x1024x64, .f32⟩
  | 56 => ⟨S32x1024x64, .f32⟩
  | 57 => ⟨S32x1024x64, .f32⟩
  | 58 => ⟨S1x1x64, .f32⟩
  | 59 => ⟨S32x1024x64, .f32⟩
  | 60 => ⟨S32x1024x64, .f32⟩
  | 61 => ⟨S1x1x64, .f32⟩
  | 62 => ⟨S32x1024x64, .f32⟩
  | 63 => ⟨S32x1024x64, .f32⟩
  | 64 => ⟨S32x1024x64, .f32⟩
  | 65 => ⟨S32x1024x64, .f32⟩
  | 66 => ⟨S32x1024x64, .f32⟩
  | 67 => ⟨S_, .i32⟩
  | 68 => ⟨S1, .i32⟩
  | 69 => ⟨S32x4095x64, .f32⟩
  | 70 => ⟨S_, .i32⟩
  | 71 => ⟨S1, .i32⟩
  | 72 => ⟨S32x4095x64, .f32⟩
  | 73 => ⟨S512, .i32⟩
  | 74 => ⟨S512, .i32⟩
  | 75 => ⟨S_, .i32⟩
  | 76 => ⟨S512, .i32⟩
  | 77 => ⟨S512, .i1⟩
  | 78 => ⟨S1x512x1, .i1⟩
  | 79 => ⟨S_, .i32⟩
  | 80 => ⟨S512, .i32⟩
  | 81 => ⟨S512, .i1⟩
  | 82 => ⟨S1x512x1, .i1⟩
  | 83 => ⟨S_, .i32⟩
  | 84 => ⟨S_, .i32⟩
  | 85 => ⟨S_, .i32⟩
  | 86 => ⟨S512, .i32⟩
  | 87 => ⟨S512, .i32⟩
  | 88 => ⟨S_, .i32⟩
  | 89 => ⟨S512, .i32⟩
  | 90 => ⟨S512, .i32⟩
  | 91 => ⟨S_, .i32⟩
  | 92 => ⟨S_, .i32⟩
  | 93 => ⟨S_, .i32⟩
  | 94 => ⟨S512, .i32⟩
  | 95 => ⟨S512, .i32⟩
  | 96 => ⟨S_, .i32⟩
  | 97 => ⟨S512, .i32⟩
  | 98 => ⟨S512, .i32⟩
  | 99 => ⟨S512x1, .i32⟩
  | 100 => ⟨S32x512x64, .f32⟩
  | 101 => ⟨S_, .f32⟩
  | 102 => ⟨S_, .f32⟩
  | 103 => ⟨S32x512x64, .i1⟩
  | 104 => ⟨S32x512x64, .f32⟩
  | 105 => ⟨S32x512x64, .f32⟩
  | 106 => ⟨S512x1, .i32⟩
  | 107 => ⟨S32x512x64, .f32⟩
  | 108 => ⟨S_, .f32⟩
  | 109 => ⟨S_, .f32⟩
  | 110 => ⟨S32x512x64, .i1⟩
  | 111 => ⟨S32x512x64, .f32⟩
  | 112 => ⟨S32x512x64, .f32⟩
  | 113 => ⟨S32x512x64, .f32⟩
  | 114 => ⟨S512x1, .i32⟩
  | 115 => ⟨S32x512x64, .f32⟩
  | 116 => ⟨S_, .f32⟩
  | 117 => ⟨S_, .f32⟩
  | 118 => ⟨S32x512x64, .i1⟩
  | 119 => ⟨S32x512x64, .f32⟩
  | 120 => ⟨S32x512x64, .f32⟩
  | 121 => ⟨S512x1, .i32⟩
  | 122 => ⟨S32x512x64, .f32⟩
  | 123 => ⟨S_, .f32⟩
  | 124 => ⟨S_, .f32⟩
  | 125 => ⟨S32x512x64, .i1⟩
  | 126 => ⟨S32x512x64, .f32⟩
  | 127 => ⟨S32x512x64, .f32⟩
  | _ => ⟨S32x4095x128, .f32⟩

abbrev hbmTy0_2 (i : Nat) : BufTy := match i % 128 with
  | 0 => ⟨S32x512x64, .f32⟩
  | 1 => ⟨S1x1x64, .f32⟩
  | 2 => ⟨S32x512x64, .f32⟩
  | 3 => ⟨S32x512x64, .f32⟩
  | 4 => ⟨S1x1x64, .f32⟩
  | 5 => ⟨S32x512x64, .f32⟩
  | 6 => ⟨S32x512x64, .f32⟩
  | 7 => ⟨S32x512x64, .f32⟩
  | 8 => ⟨S32x512x64, .f32⟩
  | 9 => ⟨S32x512x64, .f32⟩
  | 10 => ⟨S1x1x64, .f32⟩
  | 11 => ⟨S32x512x64, .f32⟩
  | 12 => ⟨S32x512x64, .f32⟩
  | 13 => ⟨S1x1x64, .f32⟩
  | 14 => ⟨S32x512x64, .f32⟩
  | 15 => ⟨S32x512x64, .f32⟩
  | 16 => ⟨S32x512x64, .f32⟩
  | 17 => ⟨S32x512x64, .f32⟩
  | 18 => ⟨S32x512x64, .f32⟩
  | 19 => ⟨S_, .i32⟩
  | 20 => ⟨S1, .i32⟩
  | 21 => ⟨S32x4095x64, .f32⟩
  | 22 => ⟨S_, .i32⟩
  | 23 => ⟨S1, .i32⟩
  | 24 => ⟨S32x4095x64, .f32⟩
  | 25 => ⟨S256, .i32⟩
  | 26 => ⟨S256, .i32⟩
  | 27 => ⟨S_, .i32⟩
  | 28 => ⟨S256, .i32⟩
  | 29 => ⟨S256, .i1⟩
  | 30 => ⟨S1x256x1, .i1⟩
  | 31 => ⟨S_, .i32⟩
  | 32 => ⟨S256, .i32⟩
  | 33 => ⟨S256, .i1⟩
  | 34 => ⟨S1x256x1, .i1⟩
  | 35 => ⟨S_, .i32⟩
  | 36 => ⟨S_, .i32⟩
  | 37 => ⟨S_, .i32⟩
  | 38 => ⟨S256, .i32⟩
  | 39 => ⟨S256, .i32⟩
  | 40 => ⟨S_, .i32⟩
  | 41 => ⟨S256, .i32⟩
  | 42 => ⟨S256, .i32⟩
  | 43 => ⟨S_, .i32⟩
  | 44 => ⟨S_, .i32⟩
  | 45 => ⟨S_, .i32⟩
  | 46 => ⟨S256, .i32⟩
  | 47 => ⟨S256, .i32⟩
  | 48 => ⟨S_, .i32⟩
  | 49 => ⟨S256, .i32⟩
  | 50 => ⟨S256, .i32⟩
  | 51 => ⟨S256x1, .i32⟩
  | 52 => ⟨S32x256x64, .f32⟩
  | 53 => ⟨S_, .f32⟩
  | 54 => ⟨S_, .f32⟩
  | 55 => ⟨S32x256x64, .i1⟩
  | 56 => ⟨S32x256x64, .f32⟩
  | 57 => ⟨S32x256x64, .f32⟩
  | 58 => ⟨S256x1, .i32⟩
  | 59 => ⟨S32x256x64, .f32⟩
  | 60 => ⟨S_, .f32⟩
  | 61 => ⟨S_, .f32⟩
  | 62 => ⟨S32x256x64, .i1⟩
  | 63 => ⟨S32x256x64, .f32⟩
  | 64 => ⟨S32x256x64, .f32⟩
  | 65 => ⟨S32x256x64, .f32⟩
  | 66 => ⟨S256x1, .i32⟩
  | 67 => ⟨S32x256x64, .f32⟩
  | 68 => ⟨S_, .f32⟩
  | 69 => ⟨S_, .f32⟩
  | 70 => ⟨S32x256x64, .i1⟩
  | 71 => ⟨S32x256x64, .f32⟩
  | 72 => ⟨S32x256x64, .f32⟩
  | 73 => ⟨S256x1, .i32⟩
  | 74 => ⟨S32x256x64, .f32⟩
  | 75 => ⟨S_, .f32⟩
  | 76 => ⟨S_, .f32⟩
  | 77 => ⟨S32x256x64, .i1⟩
  | 78 => ⟨S32x256x64, .f32⟩
  | 79 => ⟨S32x256x64, .f32⟩
  | 80 => ⟨S32x256x64, .f32⟩
  | 81 => ⟨S1x1x64, .f32⟩
  | 82 => ⟨S32x256x64, .f32⟩
  | 83 => ⟨S32x256x64, .f32⟩
  | 84 => ⟨S1x1x64, .f32⟩
  | 85 => ⟨S32x256x64, .f32⟩
  | 86 => ⟨S32x256x64, .f32⟩
  | 87 => ⟨S32x256x64, .f32⟩
  | 88 => ⟨S32x256x64, .f32⟩
  | 89 => ⟨S32x256x64, .f32⟩
  | 90 => ⟨S1x1x64, .f32⟩
  | 91 => ⟨S32x256x64, .f32⟩
  | 92 => ⟨S32x256x64, .f32⟩
  | 93 => ⟨S1x1x64, .f32⟩
  | 94 => ⟨S32x256x64, .f32⟩
  | 95 => ⟨S32x256x64, .f32⟩
  | 96 => ⟨S32x256x64, .f32⟩
  | 97 => ⟨S32x256x64, .f32⟩
  | 98 => ⟨S32x256x64, .f32⟩
  | 99 => ⟨S_, .i32⟩
  | 100 => ⟨S1, .i32⟩
  | 101 => ⟨S32x4095x64, .f32⟩
  | 102 => ⟨S_, .i32⟩
  | 103 => ⟨S1, .i32⟩
  | 104 => ⟨S32x4095x64, .f32⟩
  | 105 => ⟨S128, .i32⟩
  | 106 => ⟨S128, .i32⟩
  | 107 => ⟨S_, .i32⟩
  | 108 => ⟨S128, .i32⟩
  | 109 => ⟨S128, .i1⟩
  | 110 => ⟨S1x128x1, .i1⟩
  | 111 => ⟨S_, .i32⟩
  | 112 => ⟨S128, .i32⟩
  | 113 => ⟨S128, .i1⟩
  | 114 => ⟨S1x128x1, .i1⟩
  | 115 => ⟨S_, .i32⟩
  | 116 => ⟨S_, .i32⟩
  | 117 => ⟨S_, .i32⟩
  | 118 => ⟨S128, .i32⟩
  | 119 => ⟨S128, .i32⟩
  | 120 => ⟨S_, .i32⟩
  | 121 => ⟨S128, .i32⟩
  | 122 => ⟨S128, .i32⟩
  | 123 => ⟨S_, .i32⟩
  | 124 => ⟨S_, .i32⟩
  | 125 => ⟨S_, .i32⟩
  | 126 => ⟨S128, .i32⟩
  | 127 => ⟨S128, .i32⟩
  | _ => ⟨S32x4095x128, .f32⟩

abbrev hbmTy0_3 (i : Nat) : BufTy := match i % 128 with
  | 0 => ⟨S_, .i32⟩
  | 1 => ⟨S128, .i32⟩
  | 2 => ⟨S128, .i32⟩
  | 3 => ⟨S128x1, .i32⟩
  | 4 => ⟨S32x128x64, .f32⟩
  | 5 => ⟨S_, .f32⟩
  | 6 => ⟨S_, .f32⟩
  | 7 => ⟨S32x128x64, .i1⟩
  | 8 => ⟨S32x128x64, .f32⟩
  | 9 => ⟨S32x128x64, .f32⟩
  | 10 => ⟨S128x1, .i32⟩
  | 11 => ⟨S32x128x64, .f32⟩
  | 12 => ⟨S_, .f32⟩
  | 13 => ⟨S_, .f32⟩
  | 14 => ⟨S32x128x64, .i1⟩
  | 15 => ⟨S32x128x64, .f32⟩
  | 16 => ⟨S32x128x64, .f32⟩
  | 17 => ⟨S32x128x64, .f32⟩
  | 18 => ⟨S128x1, .i32⟩
  | 19 => ⟨S32x128x64, .f32⟩
  | 20 => ⟨S_, .f32⟩
  | 21 => ⟨S_, .f32⟩
  | 22 => ⟨S32x128x64, .i1⟩
  | 23 => ⟨S32x128x64, .f32⟩
  | 24 => ⟨S32x128x64, .f32⟩
  | 25 => ⟨S128x1, .i32⟩
  | 26 => ⟨S32x128x64, .f32⟩
  | 27 => ⟨S_, .f32⟩
  | 28 => ⟨S_, .f32⟩
  | 29 => ⟨S32x128x64, .i1⟩
  | 30 => ⟨S32x128x64, .f32⟩
  | 31 => ⟨S32x128x64, .f32⟩
  | 32 => ⟨S32x128x64, .f32⟩
  | 33 => ⟨S1x1x64, .f32⟩
  | 34 => ⟨S32x128x64, .f32⟩
  | 35 => ⟨S32x128x64, .f32⟩
  | 36 => ⟨S1x1x64, .f32⟩
  | 37 => ⟨S32x128x64, .f32⟩
  | 38 => ⟨S32x128x64, .f32⟩
  | 39 => ⟨S32x128x64, .f32⟩
  | 40 => ⟨S32x128x64, .f32⟩
  | 41 => ⟨S32x128x64, .f32⟩
  | 42 => ⟨S1x1x64, .f32⟩
  | 43 => ⟨S32x128x64, .f32⟩
  | 44 => ⟨S32x128x64, .f32⟩
  | 45 => ⟨S1x1x64, .f32⟩
  | 46 => ⟨S32x128x64, .f32⟩
  | 47 => ⟨S32x128x64, .f32⟩
  | 48 => ⟨S32x128x64, .f32⟩
  | 49 => ⟨S32x128x64, .f32⟩
  | 50 => ⟨S32x128x64, .f32⟩
  | 51 => ⟨S_, .i32⟩
  | 52 => ⟨S1, .i32⟩
  | 53 => ⟨S32x4095x64, .f32⟩
  | 54 => ⟨S_, .i32⟩
  | 55 => ⟨S1, .i32⟩
  | 56 => ⟨S32x4095x64, .f32⟩
  | 57 => ⟨S64, .i32⟩
  | 58 => ⟨S64, .i32⟩
  | 59 => ⟨S_, .i32⟩
  | 60 => ⟨S64, .i32⟩
  | 61 => ⟨S64, .i1⟩
  | 62 => ⟨S1x64x1, .i1⟩
  | 63 => ⟨S_, .i32⟩
  | 64 => ⟨S64, .i32⟩
  | 65 => ⟨S64, .i1⟩
  | 66 => ⟨S1x64x1, .i1⟩
  | 67 => ⟨S_, .i32⟩
  | 68 => ⟨S_, .i32⟩
  | 69 => ⟨S_, .i32⟩
  | 70 => ⟨S64, .i32⟩
  | 71 => ⟨S64, .i32⟩
  | 72 => ⟨S_, .i32⟩
  | 73 => ⟨S64, .i32⟩
  | 74 => ⟨S64, .i32⟩
  | 75 => ⟨S_, .i32⟩
  | 76 => ⟨S_, .i32⟩
  | 77 => ⟨S_, .i32⟩
  | 78 => ⟨S64, .i32⟩
  | 79 => ⟨S64, .i32⟩
  | 80 => ⟨S_, .i32⟩
  | 81 => ⟨S64, .i32⟩
  | 82 => ⟨S64, .i32⟩
  | 83 => ⟨S64x1, .i32⟩
  | 84 => ⟨S32x64x64, .f32⟩
  | 85 => ⟨S_, .f32⟩
  | 86 => ⟨S_, .f32⟩
  | 87 => ⟨S32x64x64, .i1⟩
  | 88 => ⟨S32x64x64, .f32⟩
  | 89 => ⟨S32x64x64, .f32⟩
  | 90 => ⟨S64x1, .i32⟩
  | 91 => ⟨S32x64x64, .f32⟩
  | 92 => ⟨S_, .f32⟩
  | 93 => ⟨S_, .f32⟩
  | 94 => ⟨S32x64x64, .i1⟩
  | 95 => ⟨S32x64x64, .f32⟩
  | 96 => ⟨S32x64x64, .f32⟩
  | 97 => ⟨S32x64x64, .f32⟩
  | 98 => ⟨S64x1, .i32⟩
  | 99 => ⟨S32x64x64, .f32⟩
  | 100 => ⟨S_, .f32⟩
  | 101 => ⟨S_, .f32⟩
  | 102 => ⟨S32x64x64, .i1⟩
  | 103 => ⟨S32x64x64, .f32⟩
  | 104 => ⟨S32x64x64, .f32⟩
  | 105 => ⟨S64x1, .i32⟩
  | 106 => ⟨S32x64x64, .f32⟩
  | 107 => ⟨S_, .f32⟩
  | 108 => ⟨S_, .f32⟩
  | 109 => ⟨S32x64x64, .i1⟩
  | 110 => ⟨S32x64x64, .f32⟩
  | 111 => ⟨S32x64x64, .f32⟩
  | 112 => ⟨S32x64x64, .f32⟩
  | 113 => ⟨S1x1x64, .f32⟩
  | 114 => ⟨S32x64x64, .f32⟩
  | 115 => ⟨S32x64x64, .f32⟩
  | 116 => ⟨S1x1x64, .f32⟩
  | 117 => ⟨S32x64x64, .f32⟩
  | 118 => ⟨S32x64x64, .f32⟩
  | 119 => ⟨S32x64x64, .f32⟩
  | 120 => ⟨S32x64x64, .f32⟩
  | 121 => ⟨S32x64x64, .f32⟩
  | 122 => ⟨S1x1x64, .f32⟩
  | 123 => ⟨S32x64x64, .f32⟩
  | 124 => ⟨S32x64x64, .f32⟩
  | 125 => ⟨S1x1x64, .f32⟩
  | 126 => ⟨S32x64x64, .f32⟩
  | 127 => ⟨S32x64x64, .f32⟩
  | _ => ⟨S32x4095x128, .f32⟩

abbrev hbmTy0_4 (i : Nat) : BufTy := match i % 128 with
  | 0 => ⟨S32x64x64, .f32⟩
  | 1 => ⟨S32x64x64, .f32⟩
  | 2 => ⟨S32x64x64, .f32⟩
  | 3 => ⟨S_, .i32⟩
  | 4 => ⟨S1, .i32⟩
  | 5 => ⟨S32x4095x64, .f32⟩
  | 6 => ⟨S_, .i32⟩
  | 7 => ⟨S1, .i32⟩
  | 8 => ⟨S32x4095x64, .f32⟩
  | 9 => ⟨S32, .i32⟩
  | 10 => ⟨S32, .i32⟩
  | 11 => ⟨S_, .i32⟩
  | 12 => ⟨S32, .i32⟩
  | 13 => ⟨S32, .i1⟩
  | 14 => ⟨S1x32x1, .i1⟩
  | 15 => ⟨S_, .i32⟩
  | 16 => ⟨S32, .i32⟩
  | 17 => ⟨S32, .i1⟩
  | 18 => ⟨S1x32x1, .i1⟩
  | 19 => ⟨S_, .i32⟩
  | 20 => ⟨S_, .i32⟩
  | 21 => ⟨S_, .i32⟩
  | 22 => ⟨S32, .i32⟩
  | 23 => ⟨S32, .i32⟩
  | 24 => ⟨S_, .i32⟩
  | 25 => ⟨S32, .i32⟩
  | 26 => ⟨S32, .i32⟩
  | 27 => ⟨S_, .i32⟩
  | 28 => ⟨S_, .i32⟩
  | 29 => ⟨S_, .i32⟩
  | 30 => ⟨S32, .i32⟩
  | 31 => ⟨S32, .i32⟩
  | 32 => ⟨S_, .i32⟩
  | 33 => ⟨S32, .i32⟩
  | 34 => ⟨S32, .i32⟩
  | 35 => ⟨S32x1, .i32⟩
  | 36 => ⟨S32x32x64, .f32⟩
  | 37 => ⟨S_, .f32⟩
  | 38 => ⟨S_, .f32⟩
  | 39 => ⟨S32x32x64, .i1⟩
  | 40 => ⟨S32x32x64, .f32⟩
  | 41 => ⟨S32x32x64, .f32⟩
  | 42 => ⟨S32x1, .i32⟩
  | 43 => ⟨S32x32x64, .f32⟩
  | 44 => ⟨S_, .f32⟩
  | 45 => ⟨S_, .f32⟩
  | 46 => ⟨S32x32x64, .i1⟩
  | 47 => ⟨S32x32x64, .f32⟩
  | 48 => ⟨S32x32x64, .f32⟩
  | 49 => ⟨S32x32x64, .f32⟩
  | 50 => ⟨S32x1, .i32⟩
  | 51 => ⟨S32x32x64, .f32⟩
  | 52 => ⟨S_, .f32⟩
  | 53 => ⟨S_, .f32⟩
  | 54 => ⟨S32x32x64, .i1⟩
  | 55 => ⟨S32x32x64, .f32⟩
  | 56 => ⟨S32x32x64, .f32⟩
  | 57 => ⟨S32x1, .i32⟩
  | 58 => ⟨S32x32x64, .f32⟩
  | 59 => ⟨S_, .f32⟩
  | 60 => ⟨S_, .f32⟩
  | 61 => ⟨S32x32x64, .i1⟩
  | 62 => ⟨S32x32x64, .f32⟩
  | 63 => ⟨S32x32x64, .f32⟩
  | 64 => ⟨S32x32x64, .f32⟩
  | 65 => ⟨S1x1x64, .f32⟩
  | 66 => ⟨S32x32x64, .f32⟩
  | 67 => ⟨S32x32x64, .f32⟩
  | 68 => ⟨S1x1x64, .f32⟩
  | 69 => ⟨S32x32x64, .f32⟩
  | 70 => ⟨S32x32x64, .f32⟩
  | 71 => ⟨S32x32x64, .f32⟩
  | 72 => ⟨S32x32x64, .f32⟩
  | 73 => ⟨S32x32x64, .f32⟩
  | 74 => ⟨S1x1x64, .f32⟩
  | 75 => ⟨S32x32x64, .f32⟩
  | 76 => ⟨S32x32x64, .f32⟩
  | 77 => ⟨S1x1x64, .f32⟩
  | 78 => ⟨S32x32x64, .f32⟩
  | 79 => ⟨S32x32x64, .f32⟩
  | 80 => ⟨S32x32x64, .f32⟩
  | 81 => ⟨S32x32x64, .f32⟩
  | 82 => ⟨S32x32x64, .f32⟩
  | 83 => ⟨S_, .i32⟩
  | 84 => ⟨S1, .i32⟩
  | 85 => ⟨S32x4095x64, .f32⟩
  | 86 => ⟨S_, .i32⟩
  | 87 => ⟨S1, .i32⟩
  | 88 => ⟨S32x4095x64, .f32⟩
  | 89 => ⟨S16, .i32⟩
  | 90 => ⟨S16, .i32⟩
  | 91 => ⟨S_, .i32⟩
  | 92 => ⟨S16, .i32⟩
  | 93 => ⟨S16, .i1⟩
  | 94 => ⟨S1x16x1, .i1⟩
  | 95 => ⟨S_, .i32⟩
  | 96 => ⟨S16, .i32⟩
  | 97 => ⟨S16, .i1⟩
  | 98 => ⟨S1x16x1, .i1⟩
  | 99 => ⟨S_, .i32⟩
  | 100 => ⟨S_, .i32⟩
  | 101 => ⟨S_, .i32⟩
  | 102 => ⟨S16, .i32⟩
  | 103 => ⟨S16, .i32⟩
  | 104 => ⟨S_, .i32⟩
  | 105 => ⟨S16, .i32⟩
  | 106 => ⟨S16, .i32⟩
  | 107 => ⟨S_, .i32⟩
  | 108 => ⟨S_, .i32⟩
  | 109 => ⟨S_, .i32⟩
  | 110 => ⟨S16, .i32⟩
  | 111 => ⟨S16, .i32⟩
  | 112 => ⟨S_, .i32⟩
  | 113 => ⟨S16, .i32⟩
  | 114 => ⟨S16, .i32⟩
  | 115 => ⟨S16x1, .i32⟩
  | 116 => ⟨S32x16x64, .f32⟩
  | 117 => ⟨S_, .f32⟩
  | 118 => ⟨S_, .f32⟩
  | 119 => ⟨S32x16x64, .i1⟩
  | 120 => ⟨S32x16x64, .f32⟩
  | 121 => ⟨S32x16x64, .f32⟩
  | 122 => ⟨S16x1, .i32⟩
  | 123 => ⟨S32x16x64, .f32⟩
  | 124 => ⟨S_, .f32⟩
  | 125 => ⟨S_, .f32⟩
  | 126 => ⟨S32x16x64, .i1⟩
  | 127 => ⟨S32x16x64, .f32⟩
  | _ => ⟨S32x4095x128, .f32⟩

abbrev hbmTy0_5 (i : Nat) : BufTy := match i % 128 with
  | 0 => ⟨S32x16x64, .f32⟩
  | 1 => ⟨S32x16x64, .f32⟩
  | 2 => ⟨S16x1, .i32⟩
  | 3 => ⟨S32x16x64, .f32⟩
  | 4 => ⟨S_, .f32⟩
  | 5 => ⟨S_, .f32⟩
  | 6 => ⟨S32x16x64, .i1⟩
  | 7 => ⟨S32x16x64, .f32⟩
  | 8 => ⟨S32x16x64, .f32⟩
  | 9 => ⟨S16x1, .i32⟩
  | 10 => ⟨S32x16x64, .f32⟩
  | 11 => ⟨S_, .f32⟩
  | 12 => ⟨S_, .f32⟩
  | 13 => ⟨S32x16x64, .i1⟩
  | 14 => ⟨S32x16x64, .f32⟩
  | 15 => ⟨S32x16x64, .f32⟩
  | 16 => ⟨S32x16x64, .f32⟩
  | 17 => ⟨S1x1x64, .f32⟩
  | 18 => ⟨S32x16x64, .f32⟩
  | 19 => ⟨S32x16x64, .f32⟩
  | 20 => ⟨S1x1x64, .f32⟩
  | 21 => ⟨S32x16x64, .f32⟩
  | 22 => ⟨S32x16x64, .f32⟩
  | 23 => ⟨S32x16x64, .f32⟩
  | 24 => ⟨S32x16x64, .f32⟩
  | 25 => ⟨S32x16x64, .f32⟩
  | 26 => ⟨S1x1x64, .f32⟩
  | 27 => ⟨S32x16x64, .f32⟩
  | 28 => ⟨S32x16x64, .f32⟩
  | 29 => ⟨S1x1x64, .f32⟩
  | 30 => ⟨S32x16x64, .f32⟩
  | 31 => ⟨S32x16x64, .f32⟩
  | 32 => ⟨S32x16x64, .f32⟩
  | 33 => ⟨S32x16x64, .f32⟩
  | 34 => ⟨S32x16x64, .f32⟩
  | 35 => ⟨S_, .i32⟩
  | 36 => ⟨S1, .i32⟩
  | 37 => ⟨S32x4095x64, .f32⟩
  | 38 => ⟨S_, .i32⟩
  | 39 => ⟨S1, .i32⟩
  | 40 => ⟨S32x4095x64, .f32⟩
  | 41 => ⟨S8, .i32⟩
  | 42 => ⟨S8, .i32⟩
  | 43 => ⟨S_, .i32⟩
  | 44 => ⟨S8, .i32⟩
  | 45 => ⟨S8, .i1⟩
  | 46 => ⟨S1x8x1, .i1⟩
  | 47 => ⟨S_, .i32⟩
  | 48 => ⟨S8, .i32⟩
  | 49 => ⟨S8, .i1⟩
  | 50 => ⟨S1x8x1, .i1⟩
  | 51 => ⟨S_, .i32⟩
  | 52 => ⟨S_, .i32⟩
  | 53 => ⟨S_, .i32⟩
  | 54 => ⟨S8, .i32⟩
  | 55 => ⟨S8, .i32⟩
  | 56 => ⟨S_, .i32⟩
  | 57 => ⟨S8, .i32⟩
  | 58 => ⟨S8, .i32⟩
  | 59 => ⟨S_, .i32⟩
  | 60 => ⟨S_, .i32⟩
  | 61 => ⟨S_, .i32⟩
  | 62 => ⟨S8, .i32⟩
  | 63 => ⟨S8, .i32⟩
  | 64 => ⟨S_, .i32⟩
  | 65 => ⟨S8, .i32⟩
  | 66 => ⟨S8, .i32⟩
  | 67 => ⟨S8x1, .i32⟩
  | 68 => ⟨S32x8x64, .f32⟩
  | 69 => ⟨S_, .f32⟩
  | 70 => ⟨S_, .f32⟩
  | 71 => ⟨S32x8x64, .i1⟩
  | 72 => ⟨S32x8x64, .f32⟩
  | 73 => ⟨S32x8x64, .f32⟩
  | 74 => ⟨S8x1, .i32⟩
  | 75 => ⟨S32x8x64, .f32⟩
  | 76 => ⟨S_, .f32⟩
  | 77 => ⟨S_, .f32⟩
  | 78 => ⟨S32x8x64, .i1⟩
  | 79 => ⟨S32x8x64, .f32⟩
  | 80 => ⟨S32x8x64, .f32⟩
  | 81 => ⟨S32x8x64, .f32⟩
  | 82 => ⟨S8x1, .i32⟩
  | 83 => ⟨S32x8x64, .f32⟩
  | 84 => ⟨S_, .f32⟩
  | 85 => ⟨S_, .f32⟩
  | 86 => ⟨S32x8x64, .i1⟩
  | 87 => ⟨S32x8x64, .f32⟩
  | 88 => ⟨S32x8x64, .f32⟩
  | 89 => ⟨S8x1, .i32⟩
  | 90 => ⟨S32x8x64, .f32⟩
  | 91 => ⟨S_, .f32⟩
  | 92 => ⟨S_, .f32⟩
  | 93 => ⟨S32x8x64, .i1⟩
  | 94 => ⟨S32x8x64, .f32⟩
  | 95 => ⟨S32x8x64, .f32⟩
  | 96 => ⟨S32x8x64, .f32⟩
  | 97 => ⟨S1x1x64, .f32⟩
  | 98 => ⟨S32x8x64, .f32⟩
  | 99 => ⟨S32x8x64, .f32⟩
  | 100 => ⟨S1x1x64, .f32⟩
  | 101 => ⟨S32x8x64, .f32⟩
  | 102 => ⟨S32x8x64, .f32⟩
  | 103 => ⟨S32x8x64, .f32⟩
  | 104 => ⟨S32x8x64, .f32⟩
  | 105 => ⟨S32x8x64, .f32⟩
  | 106 => ⟨S1x1x64, .f32⟩
  | 107 => ⟨S32x8x64, .f32⟩
  | 108 => ⟨S32x8x64, .f32⟩
  | 109 => ⟨S1x1x64, .f32⟩
  | 110 => ⟨S32x8x64, .f32⟩
  | 111 => ⟨S32x8x64, .f32⟩
  | 112 => ⟨S32x8x64, .f32⟩
  | 113 => ⟨S32x8x64, .f32⟩
  | 114 => ⟨S32x8x64, .f32⟩
  | 115 => ⟨S_, .i32⟩
  | 116 => ⟨S1, .i32⟩
  | 117 => ⟨S32x4095x64, .f32⟩
  | 118 => ⟨S_, .i32⟩
  | 119 => ⟨S1, .i32⟩
  | 120 => ⟨S32x4095x64, .f32⟩
  | 121 => ⟨S4, .i32⟩
  | 122 => ⟨S4, .i32⟩
  | 123 => ⟨S_, .i32⟩
  | 124 => ⟨S4, .i32⟩
  | 125 => ⟨S4, .i1⟩
  | 126 => ⟨S1x4x1, .i1⟩
  | 127 => ⟨S_, .i32⟩
  | _ => ⟨S32x4095x128, .f32⟩

abbrev hbmTy0_6 (i : Nat) : BufTy := match i % 128 with
  | 0 => ⟨S4, .i32⟩
  | 1 => ⟨S4, .i1⟩
  | 2 => ⟨S1x4x1, .i1⟩
  | 3 => ⟨S_, .i32⟩
  | 4 => ⟨S_, .i32⟩
  | 5 => ⟨S_, .i32⟩
  | 6 => ⟨S4, .i32⟩
  | 7 => ⟨S4, .i32⟩
  | 8 => ⟨S_, .i32⟩
  | 9 => ⟨S4, .i32⟩
  | 10 => ⟨S4, .i32⟩
  | 11 => ⟨S_, .i32⟩
  | 12 => ⟨S_, .i32⟩
  | 13 => ⟨S_, .i32⟩
  | 14 => ⟨S4, .i32⟩
  | 15 => ⟨S4, .i32⟩
  | 16 => ⟨S_, .i32⟩
  | 17 => ⟨S4, .i32⟩
  | 18 => ⟨S4, .i32⟩
  | 19 => ⟨S4x1, .i32⟩
  | 20 => ⟨S32x4x64, .f32⟩
  | 21 => ⟨S_, .f32⟩
  | 22 => ⟨S_, .f32⟩
  | 23 => ⟨S32x4x64, .i1⟩
  | 24 => ⟨S32x4x64, .f32⟩
  | 25 => ⟨S32x4x64, .f32⟩
  | 26 => ⟨S4x1, .i32⟩
  | 27 => ⟨S32x4x64, .f32⟩
  | 28 => ⟨S_, .f32⟩
  | 29 => ⟨S_, .f32⟩
  | 30 => ⟨S32x4x64, .i1⟩
  | 31 => ⟨S32x4x64, .f32⟩
  | 32 => ⟨S32x4x64, .f32⟩
  | 33 => ⟨S32x4x64, .f32⟩
  | 34 => ⟨S4x1, .i32⟩
  | 35 => ⟨S32x4x64, .f32⟩
  | 36 => ⟨S_, .f32⟩
  | 37 => ⟨S_, .f32⟩
  | 38 => ⟨S32x4x64, .i1⟩
  | 39 => ⟨S32x4x64, .f32⟩
  | 40 => ⟨S32x4x64, .f32⟩
  | 41 => ⟨S4x1, .i32⟩
  | 42 => ⟨S32x4x64, .f32⟩
  | 43 => ⟨S_, .f32⟩
  | 44 => ⟨S_, .f32⟩
  | 45 => ⟨S32x4x64, .i1⟩
  | 46 => ⟨S32x4x64, .f32⟩
  | 47 => ⟨S32x4x64, .f32⟩
  | 48 => ⟨S32x4x64, .f32⟩
  | 49 => ⟨S1x1x64, .f32⟩
  | 50 => ⟨S32x4x64, .f32⟩
  | 51 => ⟨S32x4x64, .f32⟩
  | 52 => ⟨S1x1x64, .f32⟩
  | 53 => ⟨S32x4x64, .f32⟩
  | 54 => ⟨S32x4x64, .f32⟩
  | 55 => ⟨S32x4x64, .f32⟩
  | 56 => ⟨S32x4x64, .f32⟩
  | 57 => ⟨S32x4x64, .f32⟩
  | 58 => ⟨S1x1x64, .f32⟩
  | 59 => ⟨S32x4x64, .f32⟩
  | 60 => ⟨S32x4x64, .f32⟩
  | 61 => ⟨S1x1x64, .f32⟩
  | 62 => ⟨S32x4x64, .f32⟩
  | 63 => ⟨S32x4x64, .f32⟩
  | 64 => ⟨S32x4x64, .f32⟩
  | 65 => ⟨S32x4x64, .f32⟩
  | 66 => ⟨S32x4x64, .f32⟩
  | 67 => ⟨S_, .i32⟩
  | 68 => ⟨S1, .i32⟩
  | 69 => ⟨S32x4095x64, .f32⟩
  | 70 => ⟨S_, .i32⟩
  | 71 => ⟨S1, .i32⟩
  | 72 => ⟨S32x4095x64, .f32⟩
  | 73 => ⟨S2, .i32⟩
  | 74 => ⟨S2, .i32⟩
  | 75 => ⟨S_, .i32⟩
  | 76 => ⟨S2, .i32⟩
  | 77 => ⟨S2, .i1⟩
  | 78 => ⟨S1x2x1, .i1⟩
  | 79 => ⟨S_, .i32⟩
  | 80 => ⟨S2, .i32⟩
  | 81 => ⟨S2, .i1⟩
  | 82 => ⟨S1x2x1, .i1⟩
  | 83 => ⟨S_, .i32⟩
  | 84 => ⟨S_, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S_, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2x1, .i32⟩
  | 100 => ⟨S32x2x64, .f32⟩
  | 101 => ⟨S_, .f32⟩
  | 102 => ⟨S_, .f32⟩
  | 103 => ⟨S32x2x64, .i1⟩
  | 104 => ⟨S32x2x64, .f32⟩
  | 105 => ⟨S32x2x64, .f32⟩
  | 106 => ⟨S2x1, .i32⟩
  | 107 => ⟨S32x2x64, .f32⟩
  | 108 => ⟨S_, .f32⟩
  | 109 => ⟨S_, .f32⟩
  | 110 => ⟨S32x2x64, .i1⟩
  | 111 => ⟨S32x2x64, .f32⟩
  | 112 => ⟨S32x2x64, .f32⟩
  | 113 => ⟨S32x2x64, .f32⟩
  | 114 => ⟨S2x1, .i32⟩
  | 115 => ⟨S32x2x64, .f32⟩
  | 116 => ⟨S_, .f32⟩
  | 117 => ⟨S_, .f32⟩
  | 118 => ⟨S32x2x64, .i1⟩
  | 119 => ⟨S32x2x64, .f32⟩
  | 120 => ⟨S32x2x64, .f32⟩
  | 121 => ⟨S2x1, .i32⟩
  | 122 => ⟨S32x2x64, .f32⟩
  | 123 => ⟨S_, .f32⟩
  | 124 => ⟨S_, .f32⟩
  | 125 => ⟨S32x2x64, .i1⟩
  | 126 => ⟨S32x2x64, .f32⟩
  | 127 => ⟨S32x2x64, .f32⟩
  | _ => ⟨S32x4095x128, .f32⟩

abbrev hbmTy0_7 (i : Nat) : BufTy := match i % 128 with
  | 0 => ⟨S32x2x64, .f32⟩
  | 1 => ⟨S1x1x64, .f32⟩
  | 2 => ⟨S32x2x64, .f32⟩
  | 3 => ⟨S32x2x64, .f32⟩
  | 4 => ⟨S1x1x64, .f32⟩
  | 5 => ⟨S32x2x64, .f32⟩
  | 6 => ⟨S32x2x64, .f32⟩
  | 7 => ⟨S32x2x64, .f32⟩
  | 8 => ⟨S32x2x64, .f32⟩
  | 9 => ⟨S32x2x64, .f32⟩
  | 10 => ⟨S1x1x64, .f32⟩
  | 11 => ⟨S32x2x64, .f32⟩
  | 12 => ⟨S32x2x64, .f32⟩
  | 13 => ⟨S1x1x64, .f32⟩
  | 14 => ⟨S32x2x64, .f32⟩
  | 15 => ⟨S32x2x64, .f32⟩
  | 16 => ⟨S32x2x64, .f32⟩
  | 17 => ⟨S32x2x64, .f32⟩
  | 18 => ⟨S32x2x64, .f32⟩
  | 19 => ⟨S_, .i32⟩
  | 20 => ⟨S1, .i32⟩
  | 21 => ⟨S32x4095x64, .f32⟩
  | 22 => ⟨S_, .i32⟩
  | 23 => ⟨S1, .i32⟩
  | 24 => ⟨S32x4095x64, .f32⟩
  | 25 => ⟨S1, .i32⟩
  | 26 => ⟨S1, .i32⟩
  | 27 => ⟨S_, .i32⟩
  | 28 => ⟨S1, .i32⟩
  | 29 => ⟨S1, .i1⟩
  | 30 => ⟨S1x1x1, .i1⟩
  | 31 => ⟨S_, .i32⟩
  | 32 => ⟨S1, .i32⟩
  | 33 => ⟨S1, .i1⟩
  | 34 => ⟨S1x1x1, .i1⟩
  | 35 => ⟨S_, .i32⟩
  | 36 => ⟨S_, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S_, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1x1, .i32⟩
  | 52 => ⟨S32x1x64, .f32⟩
  | 53 => ⟨S_, .f32⟩
  | 54 => ⟨S_, .f32⟩
  | 55 => ⟨S32x1x64, .i1⟩
  | 56 => ⟨S32x1x64, .f32⟩
  | 57 => ⟨S32x1x64, .f32⟩
  | 58 => ⟨S1x1, .i32⟩
  | 59 => ⟨S32x1x64, .f32⟩
  | 60 => ⟨S_, .f32⟩
  | 61 => ⟨S_, .f32⟩
  | 62 => ⟨S32x1x64, .i1⟩
  | 63 => ⟨S32x1x64, .f32⟩
  | 64 => ⟨S32x1x64, .f32⟩
  | 65 => ⟨S32x1x64, .f32⟩
  | 66 => ⟨S1x1, .i32⟩
  | 67 => ⟨S32x1x64, .f32⟩
  | 68 => ⟨S_, .f32⟩
  | 69 => ⟨S_, .f32⟩
  | 70 => ⟨S32x1x64, .i1⟩
  | 71 => ⟨S32x1x64, .f32⟩
  | 72 => ⟨S32x1x64, .f32⟩
  | 73 => ⟨S1x1, .i32⟩
  | 74 => ⟨S32x1x64, .f32⟩
  | 75 => ⟨S_, .f32⟩
  | 76 => ⟨S_, .f32⟩
  | 77 => ⟨S32x1x64, .i1⟩
  | 78 => ⟨S32x1x64, .f32⟩
  | 79 => ⟨S32x1x64, .f32⟩
  | 80 => ⟨S32x1x64, .f32⟩
  | 81 => ⟨S1x1x64, .f32⟩
  | 82 => ⟨S32x1x64, .f32⟩
  | 83 => ⟨S32x1x64, .f32⟩
  | 84 => ⟨S1x1x64, .f32⟩
  | 85 => ⟨S32x1x64, .f32⟩
  | 86 => ⟨S32x1x64, .f32⟩
  | 87 => ⟨S32x1x64, .f32⟩
  | 88 => ⟨S32x1x64, .f32⟩
  | 89 => ⟨S32x1x64, .f32⟩
  | 90 => ⟨S1x1x64, .f32⟩
  | 91 => ⟨S32x1x64, .f32⟩
  | 92 => ⟨S32x1x64, .f32⟩
  | 93 => ⟨S1x1x64, .f32⟩
  | 94 => ⟨S32x1x64, .f32⟩
  | 95 => ⟨S32x1x64, .f32⟩
  | 96 => ⟨S32x1x64, .f32⟩
  | 97 => ⟨S32x1x64, .f32⟩
  | 98 => ⟨S32x1x64, .f32⟩
  | 99 => ⟨S_, .i32⟩
  | 100 => ⟨S1, .i32⟩
  | 101 => ⟨S32x4095x64, .f32⟩
  | 102 => ⟨S_, .i32⟩
  | 103 => ⟨S1, .i32⟩
  | 104 => ⟨S32x4095x64, .f32⟩
  | 105 => ⟨S64x128, .f32⟩
  | 106 => ⟨S32x4095x128, .f32⟩
  | 107 => ⟨S64x128, .f32⟩
  | 108 => ⟨S32x4095x128, .f32⟩
  | 109 => ⟨S32x4095x128, .f32⟩
  | 110 => ⟨S128x128, .f32⟩
  | 111 => ⟨S32x4095x128, .f32⟩
  | 112 => ⟨S32x4095x128, .f32⟩
  | _ => ⟨S32x4095x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S32x4095x128, .f32⟩

abbrev bufTy : (tb : Table) → Fin (tcTables nBuf tb) → BufTy
  | .hbm, ⟨i, _⟩ => hbmTy i
  | _, _ => ⟨S32x4095x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_2 : Ref sig .tc := ⟨.hbm, 51, rfl⟩
abbrev main_c_3 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v34 : Ref sig .tc := ⟨.hbm, 58, rfl⟩
abbrev main_c_4 : Ref sig .tc := ⟨.hbm, 59, rfl⟩
abbrev main_c_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v35 : Ref sig .tc := ⟨.hbm, 66, rfl⟩
abbrev main_call2_v0 : Ref sig .tc := ⟨.hbm, 67, rfl⟩
abbrev main_v36 : Ref sig .tc := ⟨.hbm, 68, rfl⟩
abbrev main_cst_6 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v37 : Ref sig .tc := ⟨.hbm, 73, rfl⟩
abbrev main_call4_v0 : Ref sig .tc := ⟨.hbm, 74, rfl⟩
abbrev main_v38 : Ref sig .tc := ⟨.hbm, 75, rfl⟩
abbrev main_cst_7 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_v39 : Ref sig .tc := ⟨.hbm, 80, rfl⟩
abbrev main_v40 : Ref sig .tc := ⟨.hbm, 81, rfl⟩
abbrev main_call6_v0 : Ref sig .tc := ⟨.hbm, 82, rfl⟩
abbrev main_v41 : Ref sig .tc := ⟨.hbm, 83, rfl⟩
abbrev main_cst_8 : Ref sig .tc := ⟨.hbm, 84, rfl⟩
abbrev main_call7_v0 : Ref sig .tc := ⟨.hbm, 85, rfl⟩
abbrev main_call7_v1 : Ref sig .tc := ⟨.hbm, 86, rfl⟩
abbrev main_call7_v2 : Ref sig .tc := ⟨.hbm, 87, rfl⟩
abbrev main_v42 : Ref sig .tc := ⟨.hbm, 88, rfl⟩
abbrev main_call8_v0 : Ref sig .tc := ⟨.hbm, 89, rfl⟩
abbrev main_v43 : Ref sig .tc := ⟨.hbm, 90, rfl⟩
abbrev main_cst_9 : Ref sig .tc := ⟨.hbm, 91, rfl⟩
abbrev main_call9_v0 : Ref sig .tc := ⟨.hbm, 92, rfl⟩
abbrev main_call9_v1 : Ref sig .tc := ⟨.hbm, 93, rfl⟩
abbrev main_call9_v2 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_10 : Ref sig .tc := ⟨.hbm, 115, rfl⟩
abbrev main_v64 : Ref sig .tc := ⟨.hbm, 116, rfl⟩
abbrev main_v65 : Ref sig .tc := ⟨.hbm, 117, rfl⟩
abbrev main_c_11 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_c_12 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_13 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_14 : Ref sig .tc := ⟨.hbm, 131, rfl⟩
abbrev main_c_15 : Ref sig .tc := ⟨.hbm, 132, rfl⟩
abbrev main_call10_v0 : Ref sig .tc := ⟨.hbm, 133, rfl⟩
abbrev main_call10_v1 : Ref sig .tc := ⟨.hbm, 134, rfl⟩
abbrev main_call10_v2 : Ref sig .tc := ⟨.hbm, 135, rfl⟩
abbrev main_call10_v3 : Ref sig .tc := ⟨.hbm, 136, rfl⟩
abbrev main_call10_v4 : Ref sig .tc := ⟨.hbm, 137, rfl⟩
abbrev main_v76 : Ref sig .tc := ⟨.hbm, 138, rfl⟩
abbrev main_c_16 : Ref sig .tc := ⟨.hbm, 139, rfl⟩
abbrev main_c_17 : Ref sig .tc := ⟨.hbm, 140, rfl⟩
abbrev main_call11_v0 : Ref sig .tc := ⟨.hbm, 141, rfl⟩
abbrev main_call11_v1 : Ref sig .tc := ⟨.hbm, 142, rfl⟩
abbrev main_call11_v2 : Ref sig .tc := ⟨.hbm, 143, rfl⟩
abbrev main_call11_v3 : Ref sig .tc := ⟨.hbm, 144, rfl⟩
abbrev main_call11_v4 : Ref sig .tc := ⟨.hbm, 145, rfl⟩
abbrev main_v77 : Ref sig .tc := ⟨.hbm, 146, rfl⟩
abbrev main_call12_v0 : Ref sig .tc := ⟨.hbm, 147, rfl⟩
abbrev main_v78 : Ref sig .tc := ⟨.hbm, 148, rfl⟩
abbrev main_cst_18 : Ref sig .tc := ⟨.hbm, 149, rfl⟩
abbrev main_call13_v0 : Ref sig .tc := ⟨.hbm, 150, rfl⟩
abbrev main_call13_v1 : Ref sig .tc := ⟨.hbm, 151, rfl⟩
abbrev main_call13_v2 : Ref sig .tc := ⟨.hbm, 152, rfl⟩
abbrev main_v79 : Ref sig .tc := ⟨.hbm, 153, rfl⟩
abbrev main_call14_v0 : Ref sig .tc := ⟨.hbm, 154, rfl⟩
abbrev main_v80 : Ref sig .tc := ⟨.hbm, 155, rfl⟩
abbrev main_cst_19 : Ref sig .tc := ⟨.hbm, 156, rfl⟩
abbrev main_call15_v0 : Ref sig .tc := ⟨.hbm, 157, rfl⟩
abbrev main_call15_v1 : Ref sig .tc := ⟨.hbm, 158, rfl⟩
abbrev main_call15_v2 : Ref sig .tc := ⟨.hbm, 159, rfl⟩
abbrev main_v81 : Ref sig .tc := ⟨.hbm, 160, rfl⟩
abbrev main_v82 : Ref sig .tc := ⟨.hbm, 161, rfl⟩
abbrev main_call16_v0 : Ref sig .tc := ⟨.hbm, 162, rfl⟩
abbrev main_v83 : Ref sig .tc := ⟨.hbm, 163, rfl⟩
abbrev main_cst_20 : Ref sig .tc := ⟨.hbm, 164, rfl⟩
abbrev main_call17_v0 : Ref sig .tc := ⟨.hbm, 165, rfl⟩
abbrev main_call17_v1 : Ref sig .tc := ⟨.hbm, 166, rfl⟩
abbrev main_call17_v2 : Ref sig .tc := ⟨.hbm, 167, rfl⟩
abbrev main_v84 : Ref sig .tc := ⟨.hbm, 168, rfl⟩
abbrev main_call18_v0 : Ref sig .tc := ⟨.hbm, 169, rfl⟩
abbrev main_v85 : Ref sig .tc := ⟨.hbm, 170, rfl⟩
abbrev main_cst_21 : Ref sig .tc := ⟨.hbm, 171, rfl⟩
abbrev main_call19_v0 : Ref sig .tc := ⟨.hbm, 172, rfl⟩
abbrev main_call19_v1 : Ref sig .tc := ⟨.hbm, 173, rfl⟩
abbrev main_call19_v2 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_c_22 : Ref sig .tc := ⟨.hbm, 195, rfl⟩
abbrev main_v106 : Ref sig .tc := ⟨.hbm, 196, rfl⟩
abbrev main_v107 : Ref sig .tc := ⟨.hbm, 197, rfl⟩
abbrev main_c_23 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_c_24 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_c_25 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_c_26 : Ref sig .tc := ⟨.hbm, 211, rfl⟩
abbrev main_c_27 : Ref sig .tc := ⟨.hbm, 212, rfl⟩
abbrev main_call20_v0 : Ref sig .tc := ⟨.hbm, 213, rfl⟩
abbrev main_call20_v1 : Ref sig .tc := ⟨.hbm, 214, rfl⟩
abbrev main_call20_v2 : Ref sig .tc := ⟨.hbm, 215, rfl⟩
abbrev main_call20_v3 : Ref sig .tc := ⟨.hbm, 216, rfl⟩
abbrev main_call20_v4 : Ref sig .tc := ⟨.hbm, 217, rfl⟩
abbrev main_v118 : Ref sig .tc := ⟨.hbm, 218, rfl⟩
abbrev main_c_28 : Ref sig .tc := ⟨.hbm, 219, rfl⟩
abbrev main_c_29 : Ref sig .tc := ⟨.hbm, 220, rfl⟩
abbrev main_call21_v0 : Ref sig .tc := ⟨.hbm, 221, rfl⟩
abbrev main_call21_v1 : Ref sig .tc := ⟨.hbm, 222, rfl⟩
abbrev main_call21_v2 : Ref sig .tc := ⟨.hbm, 223, rfl⟩
abbrev main_call21_v3 : Ref sig .tc := ⟨.hbm, 224, rfl⟩
abbrev main_call21_v4 : Ref sig .tc := ⟨.hbm, 225, rfl⟩
abbrev main_v119 : Ref sig .tc := ⟨.hbm, 226, rfl⟩
abbrev main_call22_v0 : Ref sig .tc := ⟨.hbm, 227, rfl⟩
abbrev main_v120 : Ref sig .tc := ⟨.hbm, 228, rfl⟩
abbrev main_cst_30 : Ref sig .tc := ⟨.hbm, 229, rfl⟩
abbrev main_call23_v0 : Ref sig .tc := ⟨.hbm, 230, rfl⟩
abbrev main_call23_v1 : Ref sig .tc := ⟨.hbm, 231, rfl⟩
abbrev main_call23_v2 : Ref sig .tc := ⟨.hbm, 232, rfl⟩
abbrev main_v121 : Ref sig .tc := ⟨.hbm, 233, rfl⟩
abbrev main_call24_v0 : Ref sig .tc := ⟨.hbm, 234, rfl⟩
abbrev main_v122 : Ref sig .tc := ⟨.hbm, 235, rfl⟩
abbrev main_cst_31 : Ref sig .tc := ⟨.hbm, 236, rfl⟩
abbrev main_call25_v0 : Ref sig .tc := ⟨.hbm, 237, rfl⟩
abbrev main_call25_v1 : Ref sig .tc := ⟨.hbm, 238, rfl⟩
abbrev main_call25_v2 : Ref sig .tc := ⟨.hbm, 239, rfl⟩
abbrev main_v123 : Ref sig .tc := ⟨.hbm, 240, rfl⟩
abbrev main_v124 : Ref sig .tc := ⟨.hbm, 241, rfl⟩
abbrev main_call26_v0 : Ref sig .tc := ⟨.hbm, 242, rfl⟩
abbrev main_v125 : Ref sig .tc := ⟨.hbm, 243, rfl⟩
abbrev main_cst_32 : Ref sig .tc := ⟨.hbm, 244, rfl⟩
abbrev main_call27_v0 : Ref sig .tc := ⟨.hbm, 245, rfl⟩
abbrev main_call27_v1 : Ref sig .tc := ⟨.hbm, 246, rfl⟩
abbrev main_call27_v2 : Ref sig .tc := ⟨.hbm, 247, rfl⟩
abbrev main_v126 : Ref sig .tc := ⟨.hbm, 248, rfl⟩
abbrev main_call28_v0 : Ref sig .tc := ⟨.hbm, 249, rfl⟩
abbrev main_v127 : Ref sig .tc := ⟨.hbm, 250, rfl⟩
abbrev main_cst_33 : Ref sig .tc := ⟨.hbm, 251, rfl⟩
abbrev main_call29_v0 : Ref sig .tc := ⟨.hbm, 252, rfl⟩
abbrev main_call29_v1 : Ref sig .tc := ⟨.hbm, 253, rfl⟩
abbrev main_call29_v2 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_v147 : Ref sig .tc := ⟨.hbm, 274, rfl⟩
abbrev main_c_34 : Ref sig .tc := ⟨.hbm, 275, rfl⟩
abbrev main_v148 : Ref sig .tc := ⟨.hbm, 276, rfl⟩
abbrev main_v149 : Ref sig .tc := ⟨.hbm, 277, rfl⟩
abbrev main_c_35 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_c_36 : Ref sig .tc := ⟨.hbm, 283, rfl⟩
abbrev main_v154 : Ref sig .tc := ⟨.hbm, 284, rfl⟩
abbrev main_v155 : Ref sig .tc := ⟨.hbm, 285, rfl⟩
abbrev main_v156 : Ref sig .tc := ⟨.hbm, 286, rfl⟩
abbrev main_c_37 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_c_38 : Ref sig .tc := ⟨.hbm, 291, rfl⟩
abbrev main_c_39 : Ref sig .tc := ⟨.hbm, 292, rfl⟩
abbrev main_call30_v0 : Ref sig .tc := ⟨.hbm, 293, rfl⟩
abbrev main_call30_v1 : Ref sig .tc := ⟨.hbm, 294, rfl⟩
abbrev main_call30_v2 : Ref sig .tc := ⟨.hbm, 295, rfl⟩
abbrev main_call30_v3 : Ref sig .tc := ⟨.hbm, 296, rfl⟩
abbrev main_call30_v4 : Ref sig .tc := ⟨.hbm, 297, rfl⟩
abbrev main_v160 : Ref sig .tc := ⟨.hbm, 298, rfl⟩
abbrev main_c_40 : Ref sig .tc := ⟨.hbm, 299, rfl⟩
abbrev main_c_41 : Ref sig .tc := ⟨.hbm, 300, rfl⟩
abbrev main_call31_v0 : Ref sig .tc := ⟨.hbm, 301, rfl⟩
abbrev main_call31_v1 : Ref sig .tc := ⟨.hbm, 302, rfl⟩
abbrev main_call31_v2 : Ref sig .tc := ⟨.hbm, 303, rfl⟩
abbrev main_call31_v3 : Ref sig .tc := ⟨.hbm, 304, rfl⟩
abbrev main_call31_v4 : Ref sig .tc := ⟨.hbm, 305, rfl⟩
abbrev main_v161 : Ref sig .tc := ⟨.hbm, 306, rfl⟩
abbrev main_call32_v0 : Ref sig .tc := ⟨.hbm, 307, rfl⟩
abbrev main_v162 : Ref sig .tc := ⟨.hbm, 308, rfl⟩
abbrev main_cst_42 : Ref sig .tc := ⟨.hbm, 309, rfl⟩
abbrev main_call33_v0 : Ref sig .tc := ⟨.hbm, 310, rfl⟩
abbrev main_call33_v1 : Ref sig .tc := ⟨.hbm, 311, rfl⟩
abbrev main_call33_v2 : Ref sig .tc := ⟨.hbm, 312, rfl⟩
abbrev main_v163 : Ref sig .tc := ⟨.hbm, 313, rfl⟩
abbrev main_call34_v0 : Ref sig .tc := ⟨.hbm, 314, rfl⟩
abbrev main_v164 : Ref sig .tc := ⟨.hbm, 315, rfl⟩
abbrev main_cst_43 : Ref sig .tc := ⟨.hbm, 316, rfl⟩
abbrev main_call35_v0 : Ref sig .tc := ⟨.hbm, 317, rfl⟩
abbrev main_call35_v1 : Ref sig .tc := ⟨.hbm, 318, rfl⟩
abbrev main_call35_v2 : Ref sig .tc := ⟨.hbm, 319, rfl⟩
abbrev main_v165 : Ref sig .tc := ⟨.hbm, 320, rfl⟩
abbrev main_v166 : Ref sig .tc := ⟨.hbm, 321, rfl⟩
abbrev main_call36_v0 : Ref sig .tc := ⟨.hbm, 322, rfl⟩
abbrev main_v167 : Ref sig .tc := ⟨.hbm, 323, rfl⟩
abbrev main_cst_44 : Ref sig .tc := ⟨.hbm, 324, rfl⟩
abbrev main_call37_v0 : Ref sig .tc := ⟨.hbm, 325, rfl⟩
abbrev main_call37_v1 : Ref sig .tc := ⟨.hbm, 326, rfl⟩
abbrev main_call37_v2 : Ref sig .tc := ⟨.hbm, 327, rfl⟩
abbrev main_v168 : Ref sig .tc := ⟨.hbm, 328, rfl⟩
abbrev main_call38_v0 : Ref sig .tc := ⟨.hbm, 329, rfl⟩
abbrev main_v169 : Ref sig .tc := ⟨.hbm, 330, rfl⟩
abbrev main_cst_45 : Ref sig .tc := ⟨.hbm, 331, rfl⟩
abbrev main_call39_v0 : Ref sig .tc := ⟨.hbm, 332, rfl⟩
abbrev main_call39_v1 : Ref sig .tc := ⟨.hbm, 333, rfl⟩
abbrev main_call39_v2 : Ref sig .tc := ⟨.hbm, 334, rfl⟩
abbrev main_v170 : Ref sig .tc := ⟨.hbm, 335, rfl⟩
abbrev main_v171 : Ref sig .tc := ⟨.hbm, 336, rfl⟩
abbrev main_v172 : Ref sig .tc := ⟨.hbm, 337, rfl⟩
abbrev main_v173 : Ref sig .tc := ⟨.hbm, 338, rfl⟩
abbrev main_v174 : Ref sig .tc := ⟨.hbm, 339, rfl⟩
abbrev main_v175 : Ref sig .tc := ⟨.hbm, 340, rfl⟩
abbrev main_v176 : Ref sig .tc := ⟨.hbm, 341, rfl⟩
abbrev main_v177 : Ref sig .tc := ⟨.hbm, 342, rfl⟩
abbrev main_v178 : Ref sig .tc := ⟨.hbm, 343, rfl⟩
abbrev main_v179 : Ref sig .tc := ⟨.hbm, 344, rfl⟩
abbrev main_v180 : Ref sig .tc := ⟨.hbm, 345, rfl⟩
abbrev main_v181 : Ref sig .tc := ⟨.hbm, 346, rfl⟩
abbrev main_v182 : Ref sig .tc := ⟨.hbm, 347, rfl⟩
abbrev main_v183 : Ref sig .tc := ⟨.hbm, 348, rfl⟩
abbrev main_v184 : Ref sig .tc := ⟨.hbm, 349, rfl⟩
abbrev main_v185 : Ref sig .tc := ⟨.hbm, 350, rfl⟩
abbrev main_v186 : Ref sig .tc := ⟨.hbm, 351, rfl⟩
abbrev main_v187 : Ref sig .tc := ⟨.hbm, 352, rfl⟩
abbrev main_v188 : Ref sig .tc := ⟨.hbm, 353, rfl⟩
abbrev main_v189 : Ref sig .tc := ⟨.hbm, 354, rfl⟩
abbrev main_c_46 : Ref sig .tc := ⟨.hbm, 355, rfl⟩
abbrev main_v190 : Ref sig .tc := ⟨.hbm, 356, rfl⟩
abbrev main_v191 : Ref sig .tc := ⟨.hbm, 357, rfl⟩
abbrev main_c_47 : Ref sig .tc := ⟨.hbm, 358, rfl⟩
abbrev main_v192 : Ref sig .tc := ⟨.hbm, 359, rfl⟩
abbrev main_v193 : Ref sig .tc := ⟨.hbm, 360, rfl⟩
abbrev main_v194 : Ref sig .tc := ⟨.hbm, 361, rfl⟩
abbrev main_v195 : Ref sig .tc := ⟨.hbm, 362, rfl⟩
abbrev main_c_48 : Ref sig .tc := ⟨.hbm, 363, rfl⟩
abbrev main_v196 : Ref sig .tc := ⟨.hbm, 364, rfl⟩
abbrev main_v197 : Ref sig .tc := ⟨.hbm, 365, rfl⟩
abbrev main_v198 : Ref sig .tc := ⟨.hbm, 366, rfl⟩
abbrev main_c_49 : Ref sig .tc := ⟨.hbm, 367, rfl⟩
abbrev main_v199 : Ref sig .tc := ⟨.hbm, 368, rfl⟩
abbrev main_v200 : Ref sig .tc := ⟨.hbm, 369, rfl⟩
abbrev main_v201 : Ref sig .tc := ⟨.hbm, 370, rfl⟩
abbrev main_c_50 : Ref sig .tc := ⟨.hbm, 371, rfl⟩
abbrev main_c_51 : Ref sig .tc := ⟨.hbm, 372, rfl⟩
abbrev main_call40_v0 : Ref sig .tc := ⟨.hbm, 373, rfl⟩
abbrev main_call40_v1 : Ref sig .tc := ⟨.hbm, 374, rfl⟩
abbrev main_call40_v2 : Ref sig .tc := ⟨.hbm, 375, rfl⟩
abbrev main_call40_v3 : Ref sig .tc := ⟨.hbm, 376, rfl⟩
abbrev main_call40_v4 : Ref sig .tc := ⟨.hbm, 377, rfl⟩
abbrev main_v202 : Ref sig .tc := ⟨.hbm, 378, rfl⟩
abbrev main_c_52 : Ref sig .tc := ⟨.hbm, 379, rfl⟩
abbrev main_c_53 : Ref sig .tc := ⟨.hbm, 380, rfl⟩
abbrev main_call41_v0 : Ref sig .tc := ⟨.hbm, 381, rfl⟩
abbrev main_call41_v1 : Ref sig .tc := ⟨.hbm, 382, rfl⟩
abbrev main_call41_v2 : Ref sig .tc := ⟨.hbm, 383, rfl⟩
abbrev main_call41_v3 : Ref sig .tc := ⟨.hbm, 384, rfl⟩
abbrev main_call41_v4 : Ref sig .tc := ⟨.hbm, 385, rfl⟩
abbrev main_v203 : Ref sig .tc := ⟨.hbm, 386, rfl⟩
abbrev main_call42_v0 : Ref sig .tc := ⟨.hbm, 387, rfl⟩
abbrev main_v204 : Ref sig .tc := ⟨.hbm, 388, rfl⟩
abbrev main_cst_54 : Ref sig .tc := ⟨.hbm, 389, rfl⟩
abbrev main_call43_v0 : Ref sig .tc := ⟨.hbm, 390, rfl⟩
abbrev main_call43_v1 : Ref sig .tc := ⟨.hbm, 391, rfl⟩
abbrev main_call43_v2 : Ref sig .tc := ⟨.hbm, 392, rfl⟩
abbrev main_v205 : Ref sig .tc := ⟨.hbm, 393, rfl⟩
abbrev main_call44_v0 : Ref sig .tc := ⟨.hbm, 394, rfl⟩
abbrev main_v206 : Ref sig .tc := ⟨.hbm, 395, rfl⟩
abbrev main_cst_55 : Ref sig .tc := ⟨.hbm, 396, rfl⟩
abbrev main_call45_v0 : Ref sig .tc := ⟨.hbm, 397, rfl⟩
abbrev main_call45_v1 : Ref sig .tc := ⟨.hbm, 398, rfl⟩
abbrev main_call45_v2 : Ref sig .tc := ⟨.hbm, 399, rfl⟩
abbrev main_v207 : Ref sig .tc := ⟨.hbm, 400, rfl⟩
abbrev main_v208 : Ref sig .tc := ⟨.hbm, 401, rfl⟩
abbrev main_call46_v0 : Ref sig .tc := ⟨.hbm, 402, rfl⟩
abbrev main_v209 : Ref sig .tc := ⟨.hbm, 403, rfl⟩
abbrev main_cst_56 : Ref sig .tc := ⟨.hbm, 404, rfl⟩
abbrev main_call47_v0 : Ref sig .tc := ⟨.hbm, 405, rfl⟩
abbrev main_call47_v1 : Ref sig .tc := ⟨.hbm, 406, rfl⟩
abbrev main_call47_v2 : Ref sig .tc := ⟨.hbm, 407, rfl⟩
abbrev main_v210 : Ref sig .tc := ⟨.hbm, 408, rfl⟩
abbrev main_call48_v0 : Ref sig .tc := ⟨.hbm, 409, rfl⟩
abbrev main_v211 : Ref sig .tc := ⟨.hbm, 410, rfl⟩
abbrev main_cst_57 : Ref sig .tc := ⟨.hbm, 411, rfl⟩
abbrev main_call49_v0 : Ref sig .tc := ⟨.hbm, 412, rfl⟩
abbrev main_call49_v1 : Ref sig .tc := ⟨.hbm, 413, rfl⟩
abbrev main_call49_v2 : Ref sig .tc := ⟨.hbm, 414, rfl⟩
abbrev main_v212 : Ref sig .tc := ⟨.hbm, 415, rfl⟩
abbrev main_v213 : Ref sig .tc := ⟨.hbm, 416, rfl⟩
abbrev main_v214 : Ref sig .tc := ⟨.hbm, 417, rfl⟩
abbrev main_v215 : Ref sig .tc := ⟨.hbm, 418, rfl⟩
abbrev main_v216 : Ref sig .tc := ⟨.hbm, 419, rfl⟩
abbrev main_v217 : Ref sig .tc := ⟨.hbm, 420, rfl⟩
abbrev main_v218 : Ref sig .tc := ⟨.hbm, 421, rfl⟩
abbrev main_v219 : Ref sig .tc := ⟨.hbm, 422, rfl⟩
abbrev main_v220 : Ref sig .tc := ⟨.hbm, 423, rfl⟩
abbrev main_v221 : Ref sig .tc := ⟨.hbm, 424, rfl⟩
abbrev main_v222 : Ref sig .tc := ⟨.hbm, 425, rfl⟩
abbrev main_v223 : Ref sig .tc := ⟨.hbm, 426, rfl⟩
abbrev main_v224 : Ref sig .tc := ⟨.hbm, 427, rfl⟩
abbrev main_v225 : Ref sig .tc := ⟨.hbm, 428, rfl⟩
abbrev main_v226 : Ref sig .tc := ⟨.hbm, 429, rfl⟩
abbrev main_v227 : Ref sig .tc := ⟨.hbm, 430, rfl⟩
abbrev main_v228 : Ref sig .tc := ⟨.hbm, 431, rfl⟩
abbrev main_v229 : Ref sig .tc := ⟨.hbm, 432, rfl⟩
abbrev main_v230 : Ref sig .tc := ⟨.hbm, 433, rfl⟩
abbrev main_v231 : Ref sig .tc := ⟨.hbm, 434, rfl⟩
abbrev main_c_58 : Ref sig .tc := ⟨.hbm, 435, rfl⟩
abbrev main_v232 : Ref sig .tc := ⟨.hbm, 436, rfl⟩
abbrev main_v233 : Ref sig .tc := ⟨.hbm, 437, rfl⟩
abbrev main_c_59 : Ref sig .tc := ⟨.hbm, 438, rfl⟩
abbrev main_v234 : Ref sig .tc := ⟨.hbm, 439, rfl⟩
abbrev main_v235 : Ref sig .tc := ⟨.hbm, 440, rfl⟩
abbrev main_v236 : Ref sig .tc := ⟨.hbm, 441, rfl⟩
abbrev main_v237 : Ref sig .tc := ⟨.hbm, 442, rfl⟩
abbrev main_c_60 : Ref sig .tc := ⟨.hbm, 443, rfl⟩
abbrev main_v238 : Ref sig .tc := ⟨.hbm, 444, rfl⟩
abbrev main_v239 : Ref sig .tc := ⟨.hbm, 445, rfl⟩
abbrev main_v240 : Ref sig .tc := ⟨.hbm, 446, rfl⟩
abbrev main_c_61 : Ref sig .tc := ⟨.hbm, 447, rfl⟩
abbrev main_v241 : Ref sig .tc := ⟨.hbm, 448, rfl⟩
abbrev main_v242 : Ref sig .tc := ⟨.hbm, 449, rfl⟩
abbrev main_v243 : Ref sig .tc := ⟨.hbm, 450, rfl⟩
abbrev main_c_62 : Ref sig .tc := ⟨.hbm, 451, rfl⟩
abbrev main_c_63 : Ref sig .tc := ⟨.hbm, 452, rfl⟩
abbrev main_call50_v0 : Ref sig .tc := ⟨.hbm, 453, rfl⟩
abbrev main_call50_v1 : Ref sig .tc := ⟨.hbm, 454, rfl⟩
abbrev main_call50_v2 : Ref sig .tc := ⟨.hbm, 455, rfl⟩
abbrev main_call50_v3 : Ref sig .tc := ⟨.hbm, 456, rfl⟩
abbrev main_call50_v4 : Ref sig .tc := ⟨.hbm, 457, rfl⟩
abbrev main_v244 : Ref sig .tc := ⟨.hbm, 458, rfl⟩
abbrev main_c_64 : Ref sig .tc := ⟨.hbm, 459, rfl⟩
abbrev main_c_65 : Ref sig .tc := ⟨.hbm, 460, rfl⟩
abbrev main_call51_v0 : Ref sig .tc := ⟨.hbm, 461, rfl⟩
abbrev main_call51_v1 : Ref sig .tc := ⟨.hbm, 462, rfl⟩
abbrev main_call51_v2 : Ref sig .tc := ⟨.hbm, 463, rfl⟩
abbrev main_call51_v3 : Ref sig .tc := ⟨.hbm, 464, rfl⟩
abbrev main_call51_v4 : Ref sig .tc := ⟨.hbm, 465, rfl⟩
abbrev main_v245 : Ref sig .tc := ⟨.hbm, 466, rfl⟩
abbrev main_call52_v0 : Ref sig .tc := ⟨.hbm, 467, rfl⟩
abbrev main_v246 : Ref sig .tc := ⟨.hbm, 468, rfl⟩
abbrev main_cst_66 : Ref sig .tc := ⟨.hbm, 469, rfl⟩
abbrev main_call53_v0 : Ref sig .tc := ⟨.hbm, 470, rfl⟩
abbrev main_call53_v1 : Ref sig .tc := ⟨.hbm, 471, rfl⟩
abbrev main_call53_v2 : Ref sig .tc := ⟨.hbm, 472, rfl⟩
abbrev main_v247 : Ref sig .tc := ⟨.hbm, 473, rfl⟩
abbrev main_call54_v0 : Ref sig .tc := ⟨.hbm, 474, rfl⟩
abbrev main_v248 : Ref sig .tc := ⟨.hbm, 475, rfl⟩
abbrev main_cst_67 : Ref sig .tc := ⟨.hbm, 476, rfl⟩
abbrev main_call55_v0 : Ref sig .tc := ⟨.hbm, 477, rfl⟩
abbrev main_call55_v1 : Ref sig .tc := ⟨.hbm, 478, rfl⟩
abbrev main_call55_v2 : Ref sig .tc := ⟨.hbm, 479, rfl⟩
abbrev main_v249 : Ref sig .tc := ⟨.hbm, 480, rfl⟩
abbrev main_v250 : Ref sig .tc := ⟨.hbm, 481, rfl⟩
abbrev main_call56_v0 : Ref sig .tc := ⟨.hbm, 482, rfl⟩
abbrev main_v251 : Ref sig .tc := ⟨.hbm, 483, rfl⟩
abbrev main_cst_68 : Ref sig .tc := ⟨.hbm, 484, rfl⟩
abbrev main_call57_v0 : Ref sig .tc := ⟨.hbm, 485, rfl⟩
abbrev main_call57_v1 : Ref sig .tc := ⟨.hbm, 486, rfl⟩
abbrev main_call57_v2 : Ref sig .tc := ⟨.hbm, 487, rfl⟩
abbrev main_v252 : Ref sig .tc := ⟨.hbm, 488, rfl⟩
abbrev main_call58_v0 : Ref sig .tc := ⟨.hbm, 489, rfl⟩
abbrev main_v253 : Ref sig .tc := ⟨.hbm, 490, rfl⟩
abbrev main_cst_69 : Ref sig .tc := ⟨.hbm, 491, rfl⟩
abbrev main_call59_v0 : Ref sig .tc := ⟨.hbm, 492, rfl⟩
abbrev main_call59_v1 : Ref sig .tc := ⟨.hbm, 493, rfl⟩
abbrev main_call59_v2 : Ref sig .tc := ⟨.hbm, 494, rfl⟩
abbrev main_v254 : Ref sig .tc := ⟨.hbm, 495, rfl⟩
abbrev main_v255 : Ref sig .tc := ⟨.hbm, 496, rfl⟩
abbrev main_v256 : Ref sig .tc := ⟨.hbm, 497, rfl⟩
abbrev main_v257 : Ref sig .tc := ⟨.hbm, 498, rfl⟩
abbrev main_v258 : Ref sig .tc := ⟨.hbm, 499, rfl⟩
abbrev main_v259 : Ref sig .tc := ⟨.hbm, 500, rfl⟩
abbrev main_v260 : Ref sig .tc := ⟨.hbm, 501, rfl⟩
abbrev main_v261 : Ref sig .tc := ⟨.hbm, 502, rfl⟩
abbrev main_v262 : Ref sig .tc := ⟨.hbm, 503, rfl⟩
abbrev main_v263 : Ref sig .tc := ⟨.hbm, 504, rfl⟩
abbrev main_v264 : Ref sig .tc := ⟨.hbm, 505, rfl⟩
abbrev main_v265 : Ref sig .tc := ⟨.hbm, 506, rfl⟩
abbrev main_v266 : Ref sig .tc := ⟨.hbm, 507, rfl⟩
abbrev main_v267 : Ref sig .tc := ⟨.hbm, 508, rfl⟩
abbrev main_v268 : Ref sig .tc := ⟨.hbm, 509, rfl⟩
abbrev main_v269 : Ref sig .tc := ⟨.hbm, 510, rfl⟩
abbrev main_v270 : Ref sig .tc := ⟨.hbm, 511, rfl⟩
abbrev main_v271 : Ref sig .tc := ⟨.hbm, 512, rfl⟩
abbrev main_v272 : Ref sig .tc := ⟨.hbm, 513, rfl⟩
abbrev main_v273 : Ref sig .tc := ⟨.hbm, 514, rfl⟩
abbrev main_c_70 : Ref sig .tc := ⟨.hbm, 515, rfl⟩
abbrev main_v274 : Ref sig .tc := ⟨.hbm, 516, rfl⟩
abbrev main_v275 : Ref sig .tc := ⟨.hbm, 517, rfl⟩
abbrev main_c_71 : Ref sig .tc := ⟨.hbm, 518, rfl⟩
abbrev main_v276 : Ref sig .tc := ⟨.hbm, 519, rfl⟩
abbrev main_v277 : Ref sig .tc := ⟨.hbm, 520, rfl⟩
abbrev main_v278 : Ref sig .tc := ⟨.hbm, 521, rfl⟩
abbrev main_v279 : Ref sig .tc := ⟨.hbm, 522, rfl⟩
abbrev main_c_72 : Ref sig .tc := ⟨.hbm, 523, rfl⟩
abbrev main_v280 : Ref sig .tc := ⟨.hbm, 524, rfl⟩
abbrev main_v281 : Ref sig .tc := ⟨.hbm, 525, rfl⟩
abbrev main_v282 : Ref sig .tc := ⟨.hbm, 526, rfl⟩
abbrev main_c_73 : Ref sig .tc := ⟨.hbm, 527, rfl⟩
abbrev main_v283 : Ref sig .tc := ⟨.hbm, 528, rfl⟩
abbrev main_v284 : Ref sig .tc := ⟨.hbm, 529, rfl⟩
abbrev main_v285 : Ref sig .tc := ⟨.hbm, 530, rfl⟩
abbrev main_c_74 : Ref sig .tc := ⟨.hbm, 531, rfl⟩
abbrev main_c_75 : Ref sig .tc := ⟨.hbm, 532, rfl⟩
abbrev main_call60_v0 : Ref sig .tc := ⟨.hbm, 533, rfl⟩
abbrev main_call60_v1 : Ref sig .tc := ⟨.hbm, 534, rfl⟩
abbrev main_call60_v2 : Ref sig .tc := ⟨.hbm, 535, rfl⟩
abbrev main_call60_v3 : Ref sig .tc := ⟨.hbm, 536, rfl⟩
abbrev main_call60_v4 : Ref sig .tc := ⟨.hbm, 537, rfl⟩
abbrev main_v286 : Ref sig .tc := ⟨.hbm, 538, rfl⟩
abbrev main_c_76 : Ref sig .tc := ⟨.hbm, 539, rfl⟩
abbrev main_c_77 : Ref sig .tc := ⟨.hbm, 540, rfl⟩
abbrev main_call61_v0 : Ref sig .tc := ⟨.hbm, 541, rfl⟩
abbrev main_call61_v1 : Ref sig .tc := ⟨.hbm, 542, rfl⟩
abbrev main_call61_v2 : Ref sig .tc := ⟨.hbm, 543, rfl⟩
abbrev main_call61_v3 : Ref sig .tc := ⟨.hbm, 544, rfl⟩
abbrev main_call61_v4 : Ref sig .tc := ⟨.hbm, 545, rfl⟩
abbrev main_v287 : Ref sig .tc := ⟨.hbm, 546, rfl⟩
abbrev main_call62_v0 : Ref sig .tc := ⟨.hbm, 547, rfl⟩
abbrev main_v288 : Ref sig .tc := ⟨.hbm, 548, rfl⟩
abbrev main_cst_78 : Ref sig .tc := ⟨.hbm, 549, rfl⟩
abbrev main_call63_v0 : Ref sig .tc := ⟨.hbm, 550, rfl⟩
abbrev main_call63_v1 : Ref sig .tc := ⟨.hbm, 551, rfl⟩
abbrev main_call63_v2 : Ref sig .tc := ⟨.hbm, 552, rfl⟩
abbrev main_v289 : Ref sig .tc := ⟨.hbm, 553, rfl⟩
abbrev main_call64_v0 : Ref sig .tc := ⟨.hbm, 554, rfl⟩
abbrev main_v290 : Ref sig .tc := ⟨.hbm, 555, rfl⟩
abbrev main_cst_79 : Ref sig .tc := ⟨.hbm, 556, rfl⟩
abbrev main_call65_v0 : Ref sig .tc := ⟨.hbm, 557, rfl⟩
abbrev main_call65_v1 : Ref sig .tc := ⟨.hbm, 558, rfl⟩
abbrev main_call65_v2 : Ref sig .tc := ⟨.hbm, 559, rfl⟩
abbrev main_v291 : Ref sig .tc := ⟨.hbm, 560, rfl⟩
abbrev main_v292 : Ref sig .tc := ⟨.hbm, 561, rfl⟩
abbrev main_call66_v0 : Ref sig .tc := ⟨.hbm, 562, rfl⟩
abbrev main_v293 : Ref sig .tc := ⟨.hbm, 563, rfl⟩
abbrev main_cst_80 : Ref sig .tc := ⟨.hbm, 564, rfl⟩
abbrev main_call67_v0 : Ref sig .tc := ⟨.hbm, 565, rfl⟩
abbrev main_call67_v1 : Ref sig .tc := ⟨.hbm, 566, rfl⟩
abbrev main_call67_v2 : Ref sig .tc := ⟨.hbm, 567, rfl⟩
abbrev main_v294 : Ref sig .tc := ⟨.hbm, 568, rfl⟩
abbrev main_call68_v0 : Ref sig .tc := ⟨.hbm, 569, rfl⟩
abbrev main_v295 : Ref sig .tc := ⟨.hbm, 570, rfl⟩
abbrev main_cst_81 : Ref sig .tc := ⟨.hbm, 571, rfl⟩
abbrev main_call69_v0 : Ref sig .tc := ⟨.hbm, 572, rfl⟩
abbrev main_call69_v1 : Ref sig .tc := ⟨.hbm, 573, rfl⟩
abbrev main_call69_v2 : Ref sig .tc := ⟨.hbm, 574, rfl⟩
abbrev main_v296 : Ref sig .tc := ⟨.hbm, 575, rfl⟩
abbrev main_v297 : Ref sig .tc := ⟨.hbm, 576, rfl⟩
abbrev main_v298 : Ref sig .tc := ⟨.hbm, 577, rfl⟩
abbrev main_v299 : Ref sig .tc := ⟨.hbm, 578, rfl⟩
abbrev main_v300 : Ref sig .tc := ⟨.hbm, 579, rfl⟩
abbrev main_v301 : Ref sig .tc := ⟨.hbm, 580, rfl⟩
abbrev main_v302 : Ref sig .tc := ⟨.hbm, 581, rfl⟩
abbrev main_v303 : Ref sig .tc := ⟨.hbm, 582, rfl⟩
abbrev main_v304 : Ref sig .tc := ⟨.hbm, 583, rfl⟩
abbrev main_v305 : Ref sig .tc := ⟨.hbm, 584, rfl⟩
abbrev main_v306 : Ref sig .tc := ⟨.hbm, 585, rfl⟩
abbrev main_v307 : Ref sig .tc := ⟨.hbm, 586, rfl⟩
abbrev main_v308 : Ref sig .tc := ⟨.hbm, 587, rfl⟩
abbrev main_v309 : Ref sig .tc := ⟨.hbm, 588, rfl⟩
abbrev main_v310 : Ref sig .tc := ⟨.hbm, 589, rfl⟩
abbrev main_v311 : Ref sig .tc := ⟨.hbm, 590, rfl⟩
abbrev main_v312 : Ref sig .tc := ⟨.hbm, 591, rfl⟩
abbrev main_v313 : Ref sig .tc := ⟨.hbm, 592, rfl⟩
abbrev main_v314 : Ref sig .tc := ⟨.hbm, 593, rfl⟩
abbrev main_v315 : Ref sig .tc := ⟨.hbm, 594, rfl⟩
abbrev main_c_82 : Ref sig .tc := ⟨.hbm, 595, rfl⟩
abbrev main_v316 : Ref sig .tc := ⟨.hbm, 596, rfl⟩
abbrev main_v317 : Ref sig .tc := ⟨.hbm, 597, rfl⟩
abbrev main_c_83 : Ref sig .tc := ⟨.hbm, 598, rfl⟩
abbrev main_v318 : Ref sig .tc := ⟨.hbm, 599, rfl⟩
abbrev main_v319 : Ref sig .tc := ⟨.hbm, 600, rfl⟩
abbrev main_v320 : Ref sig .tc := ⟨.hbm, 601, rfl⟩
abbrev main_v321 : Ref sig .tc := ⟨.hbm, 602, rfl⟩
abbrev main_c_84 : Ref sig .tc := ⟨.hbm, 603, rfl⟩
abbrev main_v322 : Ref sig .tc := ⟨.hbm, 604, rfl⟩
abbrev main_v323 : Ref sig .tc := ⟨.hbm, 605, rfl⟩
abbrev main_v324 : Ref sig .tc := ⟨.hbm, 606, rfl⟩
abbrev main_c_85 : Ref sig .tc := ⟨.hbm, 607, rfl⟩
abbrev main_v325 : Ref sig .tc := ⟨.hbm, 608, rfl⟩
abbrev main_v326 : Ref sig .tc := ⟨.hbm, 609, rfl⟩
abbrev main_v327 : Ref sig .tc := ⟨.hbm, 610, rfl⟩
abbrev main_c_86 : Ref sig .tc := ⟨.hbm, 611, rfl⟩
abbrev main_c_87 : Ref sig .tc := ⟨.hbm, 612, rfl⟩
abbrev main_call70_v0 : Ref sig .tc := ⟨.hbm, 613, rfl⟩
abbrev main_call70_v1 : Ref sig .tc := ⟨.hbm, 614, rfl⟩
abbrev main_call70_v2 : Ref sig .tc := ⟨.hbm, 615, rfl⟩
abbrev main_call70_v3 : Ref sig .tc := ⟨.hbm, 616, rfl⟩
abbrev main_call70_v4 : Ref sig .tc := ⟨.hbm, 617, rfl⟩
abbrev main_v328 : Ref sig .tc := ⟨.hbm, 618, rfl⟩
abbrev main_c_88 : Ref sig .tc := ⟨.hbm, 619, rfl⟩
abbrev main_c_89 : Ref sig .tc := ⟨.hbm, 620, rfl⟩
abbrev main_call71_v0 : Ref sig .tc := ⟨.hbm, 621, rfl⟩
abbrev main_call71_v1 : Ref sig .tc := ⟨.hbm, 622, rfl⟩
abbrev main_call71_v2 : Ref sig .tc := ⟨.hbm, 623, rfl⟩
abbrev main_call71_v3 : Ref sig .tc := ⟨.hbm, 624, rfl⟩
abbrev main_call71_v4 : Ref sig .tc := ⟨.hbm, 625, rfl⟩
abbrev main_v329 : Ref sig .tc := ⟨.hbm, 626, rfl⟩
abbrev main_call72_v0 : Ref sig .tc := ⟨.hbm, 627, rfl⟩
abbrev main_v330 : Ref sig .tc := ⟨.hbm, 628, rfl⟩
abbrev main_cst_90 : Ref sig .tc := ⟨.hbm, 629, rfl⟩
abbrev main_call73_v0 : Ref sig .tc := ⟨.hbm, 630, rfl⟩
abbrev main_call73_v1 : Ref sig .tc := ⟨.hbm, 631, rfl⟩
abbrev main_call73_v2 : Ref sig .tc := ⟨.hbm, 632, rfl⟩
abbrev main_v331 : Ref sig .tc := ⟨.hbm, 633, rfl⟩
abbrev main_call74_v0 : Ref sig .tc := ⟨.hbm, 634, rfl⟩
abbrev main_v332 : Ref sig .tc := ⟨.hbm, 635, rfl⟩
abbrev main_cst_91 : Ref sig .tc := ⟨.hbm, 636, rfl⟩
abbrev main_call75_v0 : Ref sig .tc := ⟨.hbm, 637, rfl⟩
abbrev main_call75_v1 : Ref sig .tc := ⟨.hbm, 638, rfl⟩
abbrev main_call75_v2 : Ref sig .tc := ⟨.hbm, 639, rfl⟩
abbrev main_v333 : Ref sig .tc := ⟨.hbm, 640, rfl⟩
abbrev main_v334 : Ref sig .tc := ⟨.hbm, 641, rfl⟩
abbrev main_call76_v0 : Ref sig .tc := ⟨.hbm, 642, rfl⟩
abbrev main_v335 : Ref sig .tc := ⟨.hbm, 643, rfl⟩
abbrev main_cst_92 : Ref sig .tc := ⟨.hbm, 644, rfl⟩
abbrev main_call77_v0 : Ref sig .tc := ⟨.hbm, 645, rfl⟩
abbrev main_call77_v1 : Ref sig .tc := ⟨.hbm, 646, rfl⟩
abbrev main_call77_v2 : Ref sig .tc := ⟨.hbm, 647, rfl⟩
abbrev main_v336 : Ref sig .tc := ⟨.hbm, 648, rfl⟩
abbrev main_call78_v0 : Ref sig .tc := ⟨.hbm, 649, rfl⟩
abbrev main_v337 : Ref sig .tc := ⟨.hbm, 650, rfl⟩
abbrev main_cst_93 : Ref sig .tc := ⟨.hbm, 651, rfl⟩
abbrev main_call79_v0 : Ref sig .tc := ⟨.hbm, 652, rfl⟩
abbrev main_call79_v1 : Ref sig .tc := ⟨.hbm, 653, rfl⟩
abbrev main_call79_v2 : Ref sig .tc := ⟨.hbm, 654, rfl⟩
abbrev main_v338 : Ref sig .tc := ⟨.hbm, 655, rfl⟩
abbrev main_v339 : Ref sig .tc := ⟨.hbm, 656, rfl⟩
abbrev main_v340 : Ref sig .tc := ⟨.hbm, 657, rfl⟩
abbrev main_v341 : Ref sig .tc := ⟨.hbm, 658, rfl⟩
abbrev main_v342 : Ref sig .tc := ⟨.hbm, 659, rfl⟩
abbrev main_v343 : Ref sig .tc := ⟨.hbm, 660, rfl⟩
abbrev main_v344 : Ref sig .tc := ⟨.hbm, 661, rfl⟩
abbrev main_v345 : Ref sig .tc := ⟨.hbm, 662, rfl⟩
abbrev main_v346 : Ref sig .tc := ⟨.hbm, 663, rfl⟩
abbrev main_v347 : Ref sig .tc := ⟨.hbm, 664, rfl⟩
abbrev main_v348 : Ref sig .tc := ⟨.hbm, 665, rfl⟩
abbrev main_v349 : Ref sig .tc := ⟨.hbm, 666, rfl⟩
abbrev main_v350 : Ref sig .tc := ⟨.hbm, 667, rfl⟩
abbrev main_v351 : Ref sig .tc := ⟨.hbm, 668, rfl⟩
abbrev main_v352 : Ref sig .tc := ⟨.hbm, 669, rfl⟩
abbrev main_v353 : Ref sig .tc := ⟨.hbm, 670, rfl⟩
abbrev main_v354 : Ref sig .tc := ⟨.hbm, 671, rfl⟩
abbrev main_v355 : Ref sig .tc := ⟨.hbm, 672, rfl⟩
abbrev main_v356 : Ref sig .tc := ⟨.hbm, 673, rfl⟩
abbrev main_v357 : Ref sig .tc := ⟨.hbm, 674, rfl⟩
abbrev main_c_94 : Ref sig .tc := ⟨.hbm, 675, rfl⟩
abbrev main_v358 : Ref sig .tc := ⟨.hbm, 676, rfl⟩
abbrev main_v359 : Ref sig .tc := ⟨.hbm, 677, rfl⟩
abbrev main_c_95 : Ref sig .tc := ⟨.hbm, 678, rfl⟩
abbrev main_v360 : Ref sig .tc := ⟨.hbm, 679, rfl⟩
abbrev main_v361 : Ref sig .tc := ⟨.hbm, 680, rfl⟩
abbrev main_v362 : Ref sig .tc := ⟨.hbm, 681, rfl⟩
abbrev main_v363 : Ref sig .tc := ⟨.hbm, 682, rfl⟩
abbrev main_c_96 : Ref sig .tc := ⟨.hbm, 683, rfl⟩
abbrev main_v364 : Ref sig .tc := ⟨.hbm, 684, rfl⟩
abbrev main_v365 : Ref sig .tc := ⟨.hbm, 685, rfl⟩
abbrev main_v366 : Ref sig .tc := ⟨.hbm, 686, rfl⟩
abbrev main_c_97 : Ref sig .tc := ⟨.hbm, 687, rfl⟩
abbrev main_v367 : Ref sig .tc := ⟨.hbm, 688, rfl⟩
abbrev main_v368 : Ref sig .tc := ⟨.hbm, 689, rfl⟩
abbrev main_v369 : Ref sig .tc := ⟨.hbm, 690, rfl⟩
abbrev main_c_98 : Ref sig .tc := ⟨.hbm, 691, rfl⟩
abbrev main_c_99 : Ref sig .tc := ⟨.hbm, 692, rfl⟩
abbrev main_call80_v0 : Ref sig .tc := ⟨.hbm, 693, rfl⟩
abbrev main_call80_v1 : Ref sig .tc := ⟨.hbm, 694, rfl⟩
abbrev main_call80_v2 : Ref sig .tc := ⟨.hbm, 695, rfl⟩
abbrev main_call80_v3 : Ref sig .tc := ⟨.hbm, 696, rfl⟩
abbrev main_call80_v4 : Ref sig .tc := ⟨.hbm, 697, rfl⟩
abbrev main_v370 : Ref sig .tc := ⟨.hbm, 698, rfl⟩
abbrev main_c_100 : Ref sig .tc := ⟨.hbm, 699, rfl⟩
abbrev main_c_101 : Ref sig .tc := ⟨.hbm, 700, rfl⟩
abbrev main_call81_v0 : Ref sig .tc := ⟨.hbm, 701, rfl⟩
abbrev main_call81_v1 : Ref sig .tc := ⟨.hbm, 702, rfl⟩
abbrev main_call81_v2 : Ref sig .tc := ⟨.hbm, 703, rfl⟩
abbrev main_call81_v3 : Ref sig .tc := ⟨.hbm, 704, rfl⟩
abbrev main_call81_v4 : Ref sig .tc := ⟨.hbm, 705, rfl⟩
abbrev main_v371 : Ref sig .tc := ⟨.hbm, 706, rfl⟩
abbrev main_call82_v0 : Ref sig .tc := ⟨.hbm, 707, rfl⟩
abbrev main_v372 : Ref sig .tc := ⟨.hbm, 708, rfl⟩
abbrev main_cst_102 : Ref sig .tc := ⟨.hbm, 709, rfl⟩
abbrev main_call83_v0 : Ref sig .tc := ⟨.hbm, 710, rfl⟩
abbrev main_call83_v1 : Ref sig .tc := ⟨.hbm, 711, rfl⟩
abbrev main_call83_v2 : Ref sig .tc := ⟨.hbm, 712, rfl⟩
abbrev main_v373 : Ref sig .tc := ⟨.hbm, 713, rfl⟩
abbrev main_call84_v0 : Ref sig .tc := ⟨.hbm, 714, rfl⟩
abbrev main_v374 : Ref sig .tc := ⟨.hbm, 715, rfl⟩
abbrev main_cst_103 : Ref sig .tc := ⟨.hbm, 716, rfl⟩
abbrev main_call85_v0 : Ref sig .tc := ⟨.hbm, 717, rfl⟩
abbrev main_call85_v1 : Ref sig .tc := ⟨.hbm, 718, rfl⟩
abbrev main_call85_v2 : Ref sig .tc := ⟨.hbm, 719, rfl⟩
abbrev main_v375 : Ref sig .tc := ⟨.hbm, 720, rfl⟩
abbrev main_v376 : Ref sig .tc := ⟨.hbm, 721, rfl⟩
abbrev main_call86_v0 : Ref sig .tc := ⟨.hbm, 722, rfl⟩
abbrev main_v377 : Ref sig .tc := ⟨.hbm, 723, rfl⟩
abbrev main_cst_104 : Ref sig .tc := ⟨.hbm, 724, rfl⟩
abbrev main_call87_v0 : Ref sig .tc := ⟨.hbm, 725, rfl⟩
abbrev main_call87_v1 : Ref sig .tc := ⟨.hbm, 726, rfl⟩
abbrev main_call87_v2 : Ref sig .tc := ⟨.hbm, 727, rfl⟩
abbrev main_v378 : Ref sig .tc := ⟨.hbm, 728, rfl⟩
abbrev main_call88_v0 : Ref sig .tc := ⟨.hbm, 729, rfl⟩
abbrev main_v379 : Ref sig .tc := ⟨.hbm, 730, rfl⟩
abbrev main_cst_105 : Ref sig .tc := ⟨.hbm, 731, rfl⟩
abbrev main_call89_v0 : Ref sig .tc := ⟨.hbm, 732, rfl⟩
abbrev main_call89_v1 : Ref sig .tc := ⟨.hbm, 733, rfl⟩
abbrev main_call89_v2 : Ref sig .tc := ⟨.hbm, 734, rfl⟩
abbrev main_v380 : Ref sig .tc := ⟨.hbm, 735, rfl⟩
abbrev main_v381 : Ref sig .tc := ⟨.hbm, 736, rfl⟩
abbrev main_v382 : Ref sig .tc := ⟨.hbm, 737, rfl⟩
abbrev main_v383 : Ref sig .tc := ⟨.hbm, 738, rfl⟩
abbrev main_v384 : Ref sig .tc := ⟨.hbm, 739, rfl⟩
abbrev main_v385 : Ref sig .tc := ⟨.hbm, 740, rfl⟩
abbrev main_v386 : Ref sig .tc := ⟨.hbm, 741, rfl⟩
abbrev main_v387 : Ref sig .tc := ⟨.hbm, 742, rfl⟩
abbrev main_v388 : Ref sig .tc := ⟨.hbm, 743, rfl⟩
abbrev main_v389 : Ref sig .tc := ⟨.hbm, 744, rfl⟩
abbrev main_v390 : Ref sig .tc := ⟨.hbm, 745, rfl⟩
abbrev main_v391 : Ref sig .tc := ⟨.hbm, 746, rfl⟩
abbrev main_v392 : Ref sig .tc := ⟨.hbm, 747, rfl⟩
abbrev main_v393 : Ref sig .tc := ⟨.hbm, 748, rfl⟩
abbrev main_v394 : Ref sig .tc := ⟨.hbm, 749, rfl⟩
abbrev main_v395 : Ref sig .tc := ⟨.hbm, 750, rfl⟩
abbrev main_v396 : Ref sig .tc := ⟨.hbm, 751, rfl⟩
abbrev main_v397 : Ref sig .tc := ⟨.hbm, 752, rfl⟩
abbrev main_v398 : Ref sig .tc := ⟨.hbm, 753, rfl⟩
abbrev main_v399 : Ref sig .tc := ⟨.hbm, 754, rfl⟩
abbrev main_c_106 : Ref sig .tc := ⟨.hbm, 755, rfl⟩
abbrev main_v400 : Ref sig .tc := ⟨.hbm, 756, rfl⟩
abbrev main_v401 : Ref sig .tc := ⟨.hbm, 757, rfl⟩
abbrev main_c_107 : Ref sig .tc := ⟨.hbm, 758, rfl⟩
abbrev main_v402 : Ref sig .tc := ⟨.hbm, 759, rfl⟩
abbrev main_v403 : Ref sig .tc := ⟨.hbm, 760, rfl⟩
abbrev main_v404 : Ref sig .tc := ⟨.hbm, 761, rfl⟩
abbrev main_v405 : Ref sig .tc := ⟨.hbm, 762, rfl⟩
abbrev main_c_108 : Ref sig .tc := ⟨.hbm, 763, rfl⟩
abbrev main_v406 : Ref sig .tc := ⟨.hbm, 764, rfl⟩
abbrev main_v407 : Ref sig .tc := ⟨.hbm, 765, rfl⟩
abbrev main_v408 : Ref sig .tc := ⟨.hbm, 766, rfl⟩
abbrev main_c_109 : Ref sig .tc := ⟨.hbm, 767, rfl⟩
abbrev main_v409 : Ref sig .tc := ⟨.hbm, 768, rfl⟩
abbrev main_v410 : Ref sig .tc := ⟨.hbm, 769, rfl⟩
abbrev main_v411 : Ref sig .tc := ⟨.hbm, 770, rfl⟩
abbrev main_c_110 : Ref sig .tc := ⟨.hbm, 771, rfl⟩
abbrev main_c_111 : Ref sig .tc := ⟨.hbm, 772, rfl⟩
abbrev main_call90_v0 : Ref sig .tc := ⟨.hbm, 773, rfl⟩
abbrev main_call90_v1 : Ref sig .tc := ⟨.hbm, 774, rfl⟩
abbrev main_call90_v2 : Ref sig .tc := ⟨.hbm, 775, rfl⟩
abbrev main_call90_v3 : Ref sig .tc := ⟨.hbm, 776, rfl⟩
abbrev main_call90_v4 : Ref sig .tc := ⟨.hbm, 777, rfl⟩
abbrev main_v412 : Ref sig .tc := ⟨.hbm, 778, rfl⟩
abbrev main_c_112 : Ref sig .tc := ⟨.hbm, 779, rfl⟩
abbrev main_c_113 : Ref sig .tc := ⟨.hbm, 780, rfl⟩
abbrev main_call91_v0 : Ref sig .tc := ⟨.hbm, 781, rfl⟩
abbrev main_call91_v1 : Ref sig .tc := ⟨.hbm, 782, rfl⟩
abbrev main_call91_v2 : Ref sig .tc := ⟨.hbm, 783, rfl⟩
abbrev main_call91_v3 : Ref sig .tc := ⟨.hbm, 784, rfl⟩
abbrev main_call91_v4 : Ref sig .tc := ⟨.hbm, 785, rfl⟩
abbrev main_v413 : Ref sig .tc := ⟨.hbm, 786, rfl⟩
abbrev main_call92_v0 : Ref sig .tc := ⟨.hbm, 787, rfl⟩
abbrev main_v414 : Ref sig .tc := ⟨.hbm, 788, rfl⟩
abbrev main_cst_114 : Ref sig .tc := ⟨.hbm, 789, rfl⟩
abbrev main_call93_v0 : Ref sig .tc := ⟨.hbm, 790, rfl⟩
abbrev main_call93_v1 : Ref sig .tc := ⟨.hbm, 791, rfl⟩
abbrev main_call93_v2 : Ref sig .tc := ⟨.hbm, 792, rfl⟩
abbrev main_v415 : Ref sig .tc := ⟨.hbm, 793, rfl⟩
abbrev main_call94_v0 : Ref sig .tc := ⟨.hbm, 794, rfl⟩
abbrev main_v416 : Ref sig .tc := ⟨.hbm, 795, rfl⟩
abbrev main_cst_115 : Ref sig .tc := ⟨.hbm, 796, rfl⟩
abbrev main_call95_v0 : Ref sig .tc := ⟨.hbm, 797, rfl⟩
abbrev main_call95_v1 : Ref sig .tc := ⟨.hbm, 798, rfl⟩
abbrev main_call95_v2 : Ref sig .tc := ⟨.hbm, 799, rfl⟩
abbrev main_v417 : Ref sig .tc := ⟨.hbm, 800, rfl⟩
abbrev main_v418 : Ref sig .tc := ⟨.hbm, 801, rfl⟩
abbrev main_call96_v0 : Ref sig .tc := ⟨.hbm, 802, rfl⟩
abbrev main_v419 : Ref sig .tc := ⟨.hbm, 803, rfl⟩
abbrev main_cst_116 : Ref sig .tc := ⟨.hbm, 804, rfl⟩
abbrev main_call97_v0 : Ref sig .tc := ⟨.hbm, 805, rfl⟩
abbrev main_call97_v1 : Ref sig .tc := ⟨.hbm, 806, rfl⟩
abbrev main_call97_v2 : Ref sig .tc := ⟨.hbm, 807, rfl⟩
abbrev main_v420 : Ref sig .tc := ⟨.hbm, 808, rfl⟩
abbrev main_call98_v0 : Ref sig .tc := ⟨.hbm, 809, rfl⟩
abbrev main_v421 : Ref sig .tc := ⟨.hbm, 810, rfl⟩
abbrev main_cst_117 : Ref sig .tc := ⟨.hbm, 811, rfl⟩
abbrev main_call99_v0 : Ref sig .tc := ⟨.hbm, 812, rfl⟩
abbrev main_call99_v1 : Ref sig .tc := ⟨.hbm, 813, rfl⟩
abbrev main_call99_v2 : Ref sig .tc := ⟨.hbm, 814, rfl⟩
abbrev main_v422 : Ref sig .tc := ⟨.hbm, 815, rfl⟩
abbrev main_v423 : Ref sig .tc := ⟨.hbm, 816, rfl⟩
abbrev main_v424 : Ref sig .tc := ⟨.hbm, 817, rfl⟩
abbrev main_v425 : Ref sig .tc := ⟨.hbm, 818, rfl⟩
abbrev main_v426 : Ref sig .tc := ⟨.hbm, 819, rfl⟩
abbrev main_v427 : Ref sig .tc := ⟨.hbm, 820, rfl⟩
abbrev main_v428 : Ref sig .tc := ⟨.hbm, 821, rfl⟩
abbrev main_v429 : Ref sig .tc := ⟨.hbm, 822, rfl⟩
abbrev main_v430 : Ref sig .tc := ⟨.hbm, 823, rfl⟩
abbrev main_v431 : Ref sig .tc := ⟨.hbm, 824, rfl⟩
abbrev main_v432 : Ref sig .tc := ⟨.hbm, 825, rfl⟩
abbrev main_v433 : Ref sig .tc := ⟨.hbm, 826, rfl⟩
abbrev main_v434 : Ref sig .tc := ⟨.hbm, 827, rfl⟩
abbrev main_v435 : Ref sig .tc := ⟨.hbm, 828, rfl⟩
abbrev main_v436 : Ref sig .tc := ⟨.hbm, 829, rfl⟩
abbrev main_v437 : Ref sig .tc := ⟨.hbm, 830, rfl⟩
abbrev main_v438 : Ref sig .tc := ⟨.hbm, 831, rfl⟩
abbrev main_v439 : Ref sig .tc := ⟨.hbm, 832, rfl⟩
abbrev main_v440 : Ref sig .tc := ⟨.hbm, 833, rfl⟩
abbrev main_v441 : Ref sig .tc := ⟨.hbm, 834, rfl⟩
abbrev main_c_118 : Ref sig .tc := ⟨.hbm, 835, rfl⟩
abbrev main_v442 : Ref sig .tc := ⟨.hbm, 836, rfl⟩
abbrev main_v443 : Ref sig .tc := ⟨.hbm, 837, rfl⟩
abbrev main_c_119 : Ref sig .tc := ⟨.hbm, 838, rfl⟩
abbrev main_v444 : Ref sig .tc := ⟨.hbm, 839, rfl⟩
abbrev main_v445 : Ref sig .tc := ⟨.hbm, 840, rfl⟩
abbrev main_v446 : Ref sig .tc := ⟨.hbm, 841, rfl⟩
abbrev main_v447 : Ref sig .tc := ⟨.hbm, 842, rfl⟩
abbrev main_c_120 : Ref sig .tc := ⟨.hbm, 843, rfl⟩
abbrev main_v448 : Ref sig .tc := ⟨.hbm, 844, rfl⟩
abbrev main_v449 : Ref sig .tc := ⟨.hbm, 845, rfl⟩
abbrev main_v450 : Ref sig .tc := ⟨.hbm, 846, rfl⟩
abbrev main_c_121 : Ref sig .tc := ⟨.hbm, 847, rfl⟩
abbrev main_v451 : Ref sig .tc := ⟨.hbm, 848, rfl⟩
abbrev main_v452 : Ref sig .tc := ⟨.hbm, 849, rfl⟩
abbrev main_v453 : Ref sig .tc := ⟨.hbm, 850, rfl⟩
abbrev main_c_122 : Ref sig .tc := ⟨.hbm, 851, rfl⟩
abbrev main_c_123 : Ref sig .tc := ⟨.hbm, 852, rfl⟩
abbrev main_call100_v0 : Ref sig .tc := ⟨.hbm, 853, rfl⟩
abbrev main_call100_v1 : Ref sig .tc := ⟨.hbm, 854, rfl⟩
abbrev main_call100_v2 : Ref sig .tc := ⟨.hbm, 855, rfl⟩
abbrev main_call100_v3 : Ref sig .tc := ⟨.hbm, 856, rfl⟩
abbrev main_call100_v4 : Ref sig .tc := ⟨.hbm, 857, rfl⟩
abbrev main_v454 : Ref sig .tc := ⟨.hbm, 858, rfl⟩
abbrev main_c_124 : Ref sig .tc := ⟨.hbm, 859, rfl⟩
abbrev main_c_125 : Ref sig .tc := ⟨.hbm, 860, rfl⟩
abbrev main_call101_v0 : Ref sig .tc := ⟨.hbm, 861, rfl⟩
abbrev main_call101_v1 : Ref sig .tc := ⟨.hbm, 862, rfl⟩
abbrev main_call101_v2 : Ref sig .tc := ⟨.hbm, 863, rfl⟩
abbrev main_call101_v3 : Ref sig .tc := ⟨.hbm, 864, rfl⟩
abbrev main_call101_v4 : Ref sig .tc := ⟨.hbm, 865, rfl⟩
abbrev main_v455 : Ref sig .tc := ⟨.hbm, 866, rfl⟩
abbrev main_call102_v0 : Ref sig .tc := ⟨.hbm, 867, rfl⟩
abbrev main_v456 : Ref sig .tc := ⟨.hbm, 868, rfl⟩
abbrev main_cst_126 : Ref sig .tc := ⟨.hbm, 869, rfl⟩
abbrev main_call103_v0 : Ref sig .tc := ⟨.hbm, 870, rfl⟩
abbrev main_call103_v1 : Ref sig .tc := ⟨.hbm, 871, rfl⟩
abbrev main_call103_v2 : Ref sig .tc := ⟨.hbm, 872, rfl⟩
abbrev main_v457 : Ref sig .tc := ⟨.hbm, 873, rfl⟩
abbrev main_call104_v0 : Ref sig .tc := ⟨.hbm, 874, rfl⟩
abbrev main_v458 : Ref sig .tc := ⟨.hbm, 875, rfl⟩
abbrev main_cst_127 : Ref sig .tc := ⟨.hbm, 876, rfl⟩
abbrev main_call105_v0 : Ref sig .tc := ⟨.hbm, 877, rfl⟩
abbrev main_call105_v1 : Ref sig .tc := ⟨.hbm, 878, rfl⟩
abbrev main_call105_v2 : Ref sig .tc := ⟨.hbm, 879, rfl⟩
abbrev main_v459 : Ref sig .tc := ⟨.hbm, 880, rfl⟩
abbrev main_v460 : Ref sig .tc := ⟨.hbm, 881, rfl⟩
abbrev main_call106_v0 : Ref sig .tc := ⟨.hbm, 882, rfl⟩
abbrev main_v461 : Ref sig .tc := ⟨.hbm, 883, rfl⟩
abbrev main_cst_128 : Ref sig .tc := ⟨.hbm, 884, rfl⟩
abbrev main_call107_v0 : Ref sig .tc := ⟨.hbm, 885, rfl⟩
abbrev main_call107_v1 : Ref sig .tc := ⟨.hbm, 886, rfl⟩
abbrev main_call107_v2 : Ref sig .tc := ⟨.hbm, 887, rfl⟩
abbrev main_v462 : Ref sig .tc := ⟨.hbm, 888, rfl⟩
abbrev main_call108_v0 : Ref sig .tc := ⟨.hbm, 889, rfl⟩
abbrev main_v463 : Ref sig .tc := ⟨.hbm, 890, rfl⟩
abbrev main_cst_129 : Ref sig .tc := ⟨.hbm, 891, rfl⟩
abbrev main_call109_v0 : Ref sig .tc := ⟨.hbm, 892, rfl⟩
abbrev main_call109_v1 : Ref sig .tc := ⟨.hbm, 893, rfl⟩
abbrev main_call109_v2 : Ref sig .tc := ⟨.hbm, 894, rfl⟩
abbrev main_v464 : Ref sig .tc := ⟨.hbm, 895, rfl⟩
abbrev main_v465 : Ref sig .tc := ⟨.hbm, 896, rfl⟩
abbrev main_v466 : Ref sig .tc := ⟨.hbm, 897, rfl⟩
abbrev main_v467 : Ref sig .tc := ⟨.hbm, 898, rfl⟩
abbrev main_v468 : Ref sig .tc := ⟨.hbm, 899, rfl⟩
abbrev main_v469 : Ref sig .tc := ⟨.hbm, 900, rfl⟩
abbrev main_v470 : Ref sig .tc := ⟨.hbm, 901, rfl⟩
abbrev main_v471 : Ref sig .tc := ⟨.hbm, 902, rfl⟩
abbrev main_v472 : Ref sig .tc := ⟨.hbm, 903, rfl⟩
abbrev main_v473 : Ref sig .tc := ⟨.hbm, 904, rfl⟩
abbrev main_v474 : Ref sig .tc := ⟨.hbm, 905, rfl⟩
abbrev main_v475 : Ref sig .tc := ⟨.hbm, 906, rfl⟩
abbrev main_v476 : Ref sig .tc := ⟨.hbm, 907, rfl⟩
abbrev main_v477 : Ref sig .tc := ⟨.hbm, 908, rfl⟩
abbrev main_v478 : Ref sig .tc := ⟨.hbm, 909, rfl⟩
abbrev main_v479 : Ref sig .tc := ⟨.hbm, 910, rfl⟩
abbrev main_v480 : Ref sig .tc := ⟨.hbm, 911, rfl⟩
abbrev main_v481 : Ref sig .tc := ⟨.hbm, 912, rfl⟩
abbrev main_v482 : Ref sig .tc := ⟨.hbm, 913, rfl⟩
abbrev main_v483 : Ref sig .tc := ⟨.hbm, 914, rfl⟩
abbrev main_c_130 : Ref sig .tc := ⟨.hbm, 915, rfl⟩
abbrev main_v484 : Ref sig .tc := ⟨.hbm, 916, rfl⟩
abbrev main_v485 : Ref sig .tc := ⟨.hbm, 917, rfl⟩
abbrev main_c_131 : Ref sig .tc := ⟨.hbm, 918, rfl⟩
abbrev main_v486 : Ref sig .tc := ⟨.hbm, 919, rfl⟩
abbrev main_v487 : Ref sig .tc := ⟨.hbm, 920, rfl⟩
abbrev main_v488 : Ref sig .tc := ⟨.hbm, 921, rfl⟩
abbrev main_v489 : Ref sig .tc := ⟨.hbm, 922, rfl⟩
abbrev main_c_132 : Ref sig .tc := ⟨.hbm, 923, rfl⟩
abbrev main_v490 : Ref sig .tc := ⟨.hbm, 924, rfl⟩
abbrev main_v491 : Ref sig .tc := ⟨.hbm, 925, rfl⟩
abbrev main_v492 : Ref sig .tc := ⟨.hbm, 926, rfl⟩
abbrev main_c_133 : Ref sig .tc := ⟨.hbm, 927, rfl⟩
abbrev main_v493 : Ref sig .tc := ⟨.hbm, 928, rfl⟩
abbrev main_v494 : Ref sig .tc := ⟨.hbm, 929, rfl⟩
abbrev main_v495 : Ref sig .tc := ⟨.hbm, 930, rfl⟩
abbrev main_c_134 : Ref sig .tc := ⟨.hbm, 931, rfl⟩
abbrev main_c_135 : Ref sig .tc := ⟨.hbm, 932, rfl⟩
abbrev main_call110_v0 : Ref sig .tc := ⟨.hbm, 933, rfl⟩
abbrev main_call110_v1 : Ref sig .tc := ⟨.hbm, 934, rfl⟩
abbrev main_call110_v2 : Ref sig .tc := ⟨.hbm, 935, rfl⟩
abbrev main_call110_v3 : Ref sig .tc := ⟨.hbm, 936, rfl⟩
abbrev main_call110_v4 : Ref sig .tc := ⟨.hbm, 937, rfl⟩
abbrev main_v496 : Ref sig .tc := ⟨.hbm, 938, rfl⟩
abbrev main_c_136 : Ref sig .tc := ⟨.hbm, 939, rfl⟩
abbrev main_c_137 : Ref sig .tc := ⟨.hbm, 940, rfl⟩
abbrev main_call111_v0 : Ref sig .tc := ⟨.hbm, 941, rfl⟩
abbrev main_call111_v1 : Ref sig .tc := ⟨.hbm, 942, rfl⟩
abbrev main_call111_v2 : Ref sig .tc := ⟨.hbm, 943, rfl⟩
abbrev main_call111_v3 : Ref sig .tc := ⟨.hbm, 944, rfl⟩
abbrev main_call111_v4 : Ref sig .tc := ⟨.hbm, 945, rfl⟩
abbrev main_v497 : Ref sig .tc := ⟨.hbm, 946, rfl⟩
abbrev main_call112_v0 : Ref sig .tc := ⟨.hbm, 947, rfl⟩
abbrev main_v498 : Ref sig .tc := ⟨.hbm, 948, rfl⟩
abbrev main_cst_138 : Ref sig .tc := ⟨.hbm, 949, rfl⟩
abbrev main_call113_v0 : Ref sig .tc := ⟨.hbm, 950, rfl⟩
abbrev main_call113_v1 : Ref sig .tc := ⟨.hbm, 951, rfl⟩
abbrev main_call113_v2 : Ref sig .tc := ⟨.hbm, 952, rfl⟩
abbrev main_v499 : Ref sig .tc := ⟨.hbm, 953, rfl⟩
abbrev main_call114_v0 : Ref sig .tc := ⟨.hbm, 954, rfl⟩
abbrev main_v500 : Ref sig .tc := ⟨.hbm, 955, rfl⟩
abbrev main_cst_139 : Ref sig .tc := ⟨.hbm, 956, rfl⟩
abbrev main_call115_v0 : Ref sig .tc := ⟨.hbm, 957, rfl⟩
abbrev main_call115_v1 : Ref sig .tc := ⟨.hbm, 958, rfl⟩
abbrev main_call115_v2 : Ref sig .tc := ⟨.hbm, 959, rfl⟩
abbrev main_v501 : Ref sig .tc := ⟨.hbm, 960, rfl⟩
abbrev main_v502 : Ref sig .tc := ⟨.hbm, 961, rfl⟩
abbrev main_call116_v0 : Ref sig .tc := ⟨.hbm, 962, rfl⟩
abbrev main_v503 : Ref sig .tc := ⟨.hbm, 963, rfl⟩
abbrev main_cst_140 : Ref sig .tc := ⟨.hbm, 964, rfl⟩
abbrev main_call117_v0 : Ref sig .tc := ⟨.hbm, 965, rfl⟩
abbrev main_call117_v1 : Ref sig .tc := ⟨.hbm, 966, rfl⟩
abbrev main_call117_v2 : Ref sig .tc := ⟨.hbm, 967, rfl⟩
abbrev main_v504 : Ref sig .tc := ⟨.hbm, 968, rfl⟩
abbrev main_call118_v0 : Ref sig .tc := ⟨.hbm, 969, rfl⟩
abbrev main_v505 : Ref sig .tc := ⟨.hbm, 970, rfl⟩
abbrev main_cst_141 : Ref sig .tc := ⟨.hbm, 971, rfl⟩
abbrev main_call119_v0 : Ref sig .tc := ⟨.hbm, 972, rfl⟩
abbrev main_call119_v1 : Ref sig .tc := ⟨.hbm, 973, rfl⟩
abbrev main_call119_v2 : Ref sig .tc := ⟨.hbm, 974, rfl⟩
abbrev main_v506 : Ref sig .tc := ⟨.hbm, 975, rfl⟩
abbrev main_v507 : Ref sig .tc := ⟨.hbm, 976, rfl⟩
abbrev main_v508 : Ref sig .tc := ⟨.hbm, 977, rfl⟩
abbrev main_v509 : Ref sig .tc := ⟨.hbm, 978, rfl⟩
abbrev main_v510 : Ref sig .tc := ⟨.hbm, 979, rfl⟩
abbrev main_v511 : Ref sig .tc := ⟨.hbm, 980, rfl⟩
abbrev main_v512 : Ref sig .tc := ⟨.hbm, 981, rfl⟩
abbrev main_v513 : Ref sig .tc := ⟨.hbm, 982, rfl⟩
abbrev main_v514 : Ref sig .tc := ⟨.hbm, 983, rfl⟩
abbrev main_v515 : Ref sig .tc := ⟨.hbm, 984, rfl⟩
abbrev main_v516 : Ref sig .tc := ⟨.hbm, 985, rfl⟩
abbrev main_v517 : Ref sig .tc := ⟨.hbm, 986, rfl⟩
abbrev main_v518 : Ref sig .tc := ⟨.hbm, 987, rfl⟩
abbrev main_v519 : Ref sig .tc := ⟨.hbm, 988, rfl⟩
abbrev main_v520 : Ref sig .tc := ⟨.hbm, 989, rfl⟩
abbrev main_v521 : Ref sig .tc := ⟨.hbm, 990, rfl⟩
abbrev main_v522 : Ref sig .tc := ⟨.hbm, 991, rfl⟩
abbrev main_v523 : Ref sig .tc := ⟨.hbm, 992, rfl⟩
abbrev main_v524 : Ref sig .tc := ⟨.hbm, 993, rfl⟩
abbrev main_v525 : Ref sig .tc := ⟨.hbm, 994, rfl⟩
abbrev main_c_142 : Ref sig .tc := ⟨.hbm, 995, rfl⟩
abbrev main_v526 : Ref sig .tc := ⟨.hbm, 996, rfl⟩
abbrev main_v527 : Ref sig .tc := ⟨.hbm, 997, rfl⟩
abbrev main_c_143 : Ref sig .tc := ⟨.hbm, 998, rfl⟩
abbrev main_v528 : Ref sig .tc := ⟨.hbm, 999, rfl⟩
abbrev main_v529 : Ref sig .tc := ⟨.hbm, 1000, rfl⟩
abbrev main_v530 : Ref sig .tc := ⟨.hbm, 1001, rfl⟩
abbrev main_v531 : Ref sig .tc := ⟨.hbm, 1002, rfl⟩
abbrev main_v532 : Ref sig .tc := ⟨.hbm, 1003, rfl⟩
abbrev main_v533 : Ref sig .tc := ⟨.hbm, 1004, rfl⟩
abbrev main_v534 : Ref sig .tc := ⟨.hbm, 1005, rfl⟩
abbrev main_v535 : Ref sig .tc := ⟨.hbm, 1006, rfl⟩
abbrev main_v536 : Ref sig .tc := ⟨.hbm, 1007, rfl⟩
abbrev main_v537 : Ref sig .tc := ⟨.hbm, 1008, rfl⟩

abbrev nD : Nat := 1
abbrev τ : Topo := Topo.v7x

variable {F : FTy → Type} [FloatOps F]
-- ==== Proof.Program.lean ====
/-
  The kernel's body written as a program over the tree's four groups of eight batch
  members: for each group the eight row chunks coming in, the eleven levels of the
  recurrence, and the eight row chunks going out.  The program is stated for any
  signature and any scalars, so that one account of it serves every printing of the
  kernel.
-/
module

public import Idealize.ShloMosaic.Lib.Pipeline
public import Idealize.ShloMosaic.PureOps
public import Idealize.ShloMosaic.Instance
public import Mathlib.Tactic.IntervalCases
public import Mathlib.Tactic.Ring
public import Idealize.ShloMosaic.Lib.Scf
public import Idealize.ShloMosaic.Lib.Sig

@[expose] public section

noncomputable section

namespace TreeScan

open Idealize.ShloMosaic Idealize.SL.Sem

/-! ## Shapes -/

/-- `x` and the result. -/
abbrev SX : Shape := ⟨3, ![32, 4095, 128]⟩
/-- Eight batch members of `m` rows. -/
abbrev SB (m : ℕ) : Shape := ⟨3, ![8, m, 128]⟩
/-- `m` rows, node first. -/
abbrev ST (m : ℕ) : Shape := ⟨3, ![m, 8, 128]⟩
/-- `m` pairs of rows, node first. -/
abbrev SP (m : ℕ) : Shape := ⟨4, ![m, 2, 8, 128]⟩
/-- The ring of four buffers. -/
abbrev SR : Shape := ⟨4, ![4, 8, 512, 128]⟩
/-- `m` rows of one buffer of the ring. -/
abbrev SS (m : ℕ) : Shape := ⟨4, ![1, 8, m, 128]⟩
/-- A chunk's rows, flattened. -/
abbrev SF : Shape := ⟨2, ![4096, 128]⟩
abbrev SQ : Shape := ⟨2, ![128, 128]⟩
abbrev SV : Shape := ⟨2, ![1, 128]⟩
abbrev SH : Shape := ⟨2, ![1, 64]⟩
abbrev SHc : Shape := ⟨2, ![64, 1]⟩
abbrev SBr : Shape := ⟨2, ![64, 128]⟩
abbrev SCr : Shape := ⟨2, ![128, 64]⟩
abbrev SL : Shape := ⟨3, ![1, 1, 128]⟩
abbrev SSem : Shape := ⟨1, ![5]⟩
abbrev SSem1 : Shape := ⟨1, ![1]⟩
abbrev S0 : Shape := ⟨0, ![]⟩

/-! ## The boxes lie inside the arrays -/

theorem inX {g c m : ℕ} (hg : g < 4) (hc : c * 512 + m ≤ 4095) :
    ∀ a, (![8 * g, 512 * c, 0] : Fin 3 → ℕ) a + (SB m).size a ≤ SX.size a := by
  intro a; fin_cases a <;> simp [SB, SX] <;> omega

theorem inRing {k m : ℕ} (hk : k < 4) (hm : m ≤ 512) :
    ∀ a, (![k, 0, 0, 0] : Fin 4 → ℕ) a + (SS m).size a ≤ SR.size a := by
  intro a; fin_cases a <;> simp [SS, SR] <;> omega

theorem inTree {o m : ℕ} (h : o + m ≤ 4096) :
    ∀ a, (![o, 0, 0] : Fin 3 → ℕ) a + (ST m).size a ≤ (ST 4096).size a := by
  intro a; fin_cases a <;> simp [ST] <;> omega

theorem inSem {k : ℕ} (hk : k < 5) :
    ∀ a, (![k] : Fin 1 → ℕ) a + SSem1.size a ≤ SSem.size a := by
  intro a; fin_cases a; simp [SSem, SSem1]; omega

theorem inAll2 {p q : ℕ} :
    ∀ a, (![0, 0] : Fin 2 → ℕ) a + (⟨2, ![p, q]⟩ : Shape).size a ≤ (⟨2, ![p, q]⟩ : Shape).size a := by
  intro a; fin_cases a <;> simp

theorem posT {m : ℕ} (h : 0 < m) : 0 < (ST m).numel :=
  Shape.numel_pos fun a => by fin_cases a <;> simp [ST, h]

theorem posSS : 0 < (SS 512).numel :=
  Shape.numel_pos fun a => by fin_cases a <;> simp [SS]

theorem pos2 {p q : ℕ} (hp : 0 < p) (hq : 0 < q) : 0 < (⟨2, ![p, q]⟩ : Shape).numel :=
  Shape.numel_pos fun a => by fin_cases a <;> simp [hp, hq]

theorem packedT {c : ℕ} (hc : c < 8) :
    (Rect.unit (s := ST 4096) ![512 * c, 0, 0] (ST 512).size (inTree (by omega))).PackedRows (EltTy.packing .bf16) := by
  interval_cases c <;> decide +revert

theorem squeezeSS {m : ℕ} (hm : m = 512 ∨ m = 511) : (SS m).Squeezes (SB m) := by
  rcases hm with rfl | rfl <;> decide

theorem squeezeSem : SSem1.Squeezes S0 := by decide

theorem concatV : Shape.Concatenates [SH, SH] SV 1 := by decide

theorem concatB : Shape.Concatenates [SBr, SBr] SQ 0 := by decide

theorem concatC : Shape.Concatenates [SCr, SCr] SQ 1 := by decide

theorem castLevel (m : ℕ) : (ST (2 * m)).ShapeCasts (SP m) := by
  show (∏ a, (SP m).size a) = ∏ a, (ST (2 * m)).size a
  simp only [Fin.prod_univ_succ, Fin.prod_univ_zero]
  show m * (2 * (8 * (128 * 1))) = 2 * m * (8 * (128 * 1))
  ring

theorem reduceLevel (m : ℕ) : (SP m).Reduces [1] (ST m) :=
  ⟨rfl, Nat.succ_pos 2, fun b => by fin_cases b <;> rfl⟩

theorem broadLevel (m : ℕ) : SL.Broadcasts (ST m) :=
  ⟨Nat.le_refl 3, fun a => by fin_cases a <;> simp⟩

theorem rotateLevel (m : ℕ) : (ST m).Rotates 2 none :=
  ⟨Nat.le_succ 2, fun q hq => absurd hq (by simp)⟩

/-! ## The contractions -/

/-- `A · Bᵀ` taken from the left operand's columns: `W_inᵀ · bgᵀ`. -/
def dotTT : DotDims SQ SQ SQ where
  lhsContracting := [0]
  rhsContracting := [1]
  lhsNonContracting := [1]
  rhsNonContracting := [0]
  lhsBatch := []
  rhsBatch := []
  wf := by decide
/-- The plain product of two square matrices. -/
def dotQ : DotDims SQ SQ SQ where
  lhsContracting := [1]
  rhsContracting := [0]
  lhsNonContracting := [0]
  rhsNonContracting := [1]
  lhsBatch := []
  rhsBatch := []
  wf := by decide
/-- A row times a transpose. -/
def dotV : DotDims SV SQ SV where
  lhsContracting := [1]
  rhsContracting := [1]
  lhsNonContracting := [0]
  rhsNonContracting := [0]
  lhsBatch := []
  rhsBatch := []
  wf := by decide
/-- A chunk's rows times a matrix. -/
def dotF : DotDims SF SQ SF where
  lhsContracting := [1]
  rhsContracting := [0]
  lhsNonContracting := [0]
  rhsNonContracting := [1]
  lhsBatch := []
  rhsBatch := []
  wf := by decide
/-- A chunk's rows times a transpose. -/
def dotFT : DotDims SF SQ SF where
  lhsContracting := [1]
  rhsContracting := [1]
  lhsNonContracting := [0]
  rhsNonContracting := [0]
  lhsBatch := []
  rhsBatch := []
  wf := by decide

variable {F : FTy → Type} [FloatOps F]

/-! ## What is computed -/

/-- The f32 zero. -/
abbrev zeroF : F .f32 := Scalar.ofBits .f32 0x00000000#32

/-- `exp (-exp nu)`. -/
def lamMod (nu : Vec F SH .f32) : FVec F SH .f32 :=
  exp (subf (broadcast SH zeroF) (exp (shapeCast SH nu (by decide))))

/-- `exp theta`. -/
def angle (th : Vec F SH .f32) : FVec F SH .f32 := exp (shapeCast SH th (by decide))

/-- The real part of the multiplier, once per half of the lanes. -/
def mulRe (nu th : Vec F SH .f32) : FVec F SL .f32 :=
  shapeCast SL (concatenate SV 1 [⟨SH, mulf (lamMod nu) (cos (angle th))⟩, ⟨SH, mulf (lamMod nu) (cos (angle th))⟩]
    concatV) (by decide)

/-- The imaginary part of the multiplier, negated in the first half of the lanes. -/
def mulIm (nu th : Vec F SH .f32) : FVec F SL .f32 :=
  shapeCast SL (concatenate SV 1 [⟨SH, subf (broadcast SH zeroF) (mulf (lamMod nu) (sin (angle th)))⟩,
    ⟨SH, mulf (lamMod nu) (sin (angle th))⟩] concatV) (by decide)

/-- The rows of the two input matrices scaled by `exp ga`, one above the other. -/
def scaledB (ga : Vec F SH .f32) (bre bim : Vec F SBr .f32) : FVec F SQ .f32 :=
  concatenate SQ 0
    [⟨SBr, mulf bre (broadcastTo SBr (shapeCast SHc (exp (shapeCast SH ga (by decide))) (by decide)) (by decide))⟩,
     ⟨SBr, mulf bim (broadcastTo SBr (shapeCast SHc (exp (shapeCast SH ga (by decide))) (by decide)) (by decide))⟩]
    concatB

/-- `W_inᵀ` times the transpose of the scaled input matrix. -/
def inMat (ga : Vec F SH .f32) (bre bim : Vec F SBr .f32) (w : Vec F SQ .f32) : FVec F SQ .bf16 :=
  truncf .bf16 (matmul dotTT none w (scaledB ga bre bim) (constant SQ .f32 0x00000000#32)) (by decide)

/-- `D · W_in`. -/
def skipMat (d w : Vec F SQ .f32) : FVec F SQ .bf16 :=
  truncf .bf16 (matmul dotQ none d w (constant SQ .f32 0x00000000#32)) (by decide)

/-- The output matrix: the real part's beside the negated imaginary part's. -/
def outMat (cre cim : Vec F SCr .f32) : FVec F SQ .f32 :=
  concatenate SQ 1 [⟨SCr, cre⟩, ⟨SCr, subf (broadcast SCr zeroF) cim⟩] concatC

/-- A bias row through a matrix. -/
def biasRow (b : Vec F SV .f32) (w : FVec F SQ .f32) : FVec F SV .f32 :=
  matmul dotV none (shapeCast SV b (by decide)) w (constant SV .f32 0x00000000#32)

/-- A chunk of `x`, node first, rounded. -/
def chunkX (v : Vec F (SS 512) .f32) : FVec F (ST 512) .bf16 :=
  truncf .bf16 (transpose (ST 512) [1, 0, 2] (shapeCast (SB 512) v (by decide)) (by decide)) (by decide)

/-- The drive of a chunk of nodes. -/
def chunkS (w12 : FVec F SQ .bf16) (bc : FVec F SV .f32) (v : Vec F (SS 512) .f32) : FVec F (ST 512) .f32 :=
  shapeCast (ST 512)
    (addf (matmul dotF none (shapeCast SF (chunkX v) (by decide)) w12 (constant SF .f32 0x00000000#32))
      (broadcastTo SF bc (by decide))) (by decide)

/-- One level's states from the states of the level below and the level's own drive. -/
def levelS (m : ℕ) (laa lbb : FVec F SL .f32) (cur : Vec F (ST (2 * m)) .f32) (own : Vec F (ST m) .f32) :
    FVec F (ST m) .f32 :=
  addf (addf
      (mulf (multiReduction .add [1] (ST m) (shapeCast (SP m) cur (castLevel m)) 0x00000000#32 (reduceLevel m)
          (.inl rfl) rfl)
        (broadcastTo (ST m) laa (broadLevel m)))
      (mulf (dynamicRotate 2 64#32 none
          (multiReduction .add [1] (ST m) (shapeCast (SP m) cur (castLevel m)) 0x00000000#32 (reduceLevel m)
            (.inl rfl) rfl) (rotateLevel m))
        (broadcastTo (ST m) lbb (broadLevel m))))
    own

/-- A chunk of the result from the chunk's states and its rows of `x`. -/
def chunkO (dw : FVec F SQ .bf16) (cc : FVec F SQ .f32) (oc : FVec F SV .f32)
    (s : Vec F (ST 512) .f32) (xc : Vec F (ST 512) .bf16) : FVec F (SS 512) .f32 :=
  shapeCast (SS 512)
    (transpose (SB 512) [1, 0, 2]
      (shapeCast (ST 512)
        (addf (addf (matmul dotFT none (shapeCast SF s (by decide)) cc (constant SF .f32 0x00000000#32))
            (matmul dotFT none (shapeCast SF xc (by decide)) dw (constant SF .f32 0x00000000#32)))
          (broadcastTo SF oc (by decide))) (by decide)) (by decide)) (by decide)

/-! ## The program -/

variable {nD : ℕ} {τ : Topo} {sig : RefSig} {Λ : Labels}

/-- The memory the body works on. -/
structure Mem (sig : RefSig) where
  x : Memref sig .tc .hbm SX .f32
  win : Memref sig .tc .vmem SQ .f32
  b : Memref sig .tc .vmem SV .f32
  d : Memref sig .tc .vmem SQ .f32
  nu : Memref sig .tc .vmem SH .f32
  th : Memref sig .tc .vmem SH .f32
  ga : Memref sig .tc .vmem SH .f32
  bre : Memref sig .tc .vmem SBr .f32
  bim : Memref sig .tc .vmem SBr .f32
  cre : Memref sig .tc .vmem SCr .f32
  cim : Memref sig .tc .vmem SCr .f32
  o : Memref sig .tc .hbm SX .f32
  xT : Memref sig .tc .vmem (ST 4096) .bf16
  sT : Memref sig .tc .vmem (ST 4096) .f32
  xbuf : Memref sig .tc .vmem SR .f32
  obuf : Memref sig .tc .vmem SR .f32
  insem : DmaSems sig SSem
  outsem : DmaSems sig SSem
  hxT : xT.IsWhole

/-- Cell `k` of an array of five semaphores. -/
abbrev cell (s : DmaSems sig SSem) (k : ℕ) (hk : k < 5) : DmaSem sig :=
  ((s.slice (Rect.unit (s := SSem) ![k] SSem1.size (inSem hk))).squeeze S0 squeezeSem).sem

/-- `m` rows of chunk `c` of group `g` of an array laid out batch first. -/
abbrev blockAt (A : Memref sig .tc .hbm SX .f32) (g c m : ℕ) (hg : g < 4) (hc : c * 512 + m ≤ 4095) :
    Memref sig .tc .hbm (SB m) .f32 :=
  A.slice (Rect.unit (s := SX) ![8 * g, 512 * c, 0] (SB m).size (inX hg hc)) (fun _ => rfl)

/-- `m` rows of buffer `k` of a ring. -/
abbrev ringAt (B : Memref sig .tc .vmem SR .f32) (k m : ℕ) (hk : k < 4) (hm : m = 512 ∨ m = 511) :
    Memref sig .tc .vmem (SB m) .f32 :=
  (B.slice (Rect.unit (s := SR) ![k, 0, 0, 0] (SS m).size (inRing hk (by omega))) (fun _ => rfl)).squeeze (SB m)
    (squeezeSS hm)

variable (M : Mem sig)

/-- The program's instructions. -/
abbrev P (F : FTy → Type) (nD : ℕ) (τ : Topo) (sig : RefSig) (Λ : Labels) (α : Type) :=
  Prog (TpuEff nD τ sig (Elt F) Λ .tc) α

/-- Start the copy of `m` rows of chunk `c` of group `g` into buffer `k`. -/
def startIn (g c k m s : ℕ) (hg : g < 4) (hc : c * 512 + m ≤ 4095) (hk : k < 4) (hm : m = 512 ∨ m = 511) (hs : s < 5) :
    P F nD τ sig Λ PUnit :=
  Prog.lift (.enqueueDma (blockAt M.x g c m hg hc) (.here (ringAt M.xbuf k m hk hm)) (.dma (cell M.insem s hs))
    (View.wordExact_bits rfl) ((View.wordExact_bits rfl).reshape _ _) ⟨Or.inl rfl, trivial⟩)

/-- Wait for that copy. -/
def waitIn (g c k m s : ℕ) (hg : g < 4) (hc : c * 512 + m ≤ 4095) (hk : k < 4) (hm : m = 512 ∨ m = 511) (hs : s < 5) :
    P F nD τ sig Λ PUnit :=
  Prog.lift (.waitDma2 (cell M.insem s hs) (blockAt M.x g c m hg hc) (ringAt M.xbuf k m hk hm)
    (View.wordExact_bits rfl) ((View.wordExact_bits rfl).reshape _ _))

/-- Start the copy of `m` rows of buffer `k` into chunk `c` of group `g` of the result. -/
def startOut (g c k m s : ℕ) (hg : g < 4) (hc : c * 512 + m ≤ 4095) (hk : k < 4) (hm : m = 512 ∨ m = 511) (hs : s < 5) :
    P F nD τ sig Λ PUnit :=
  Prog.lift (.enqueueDma (ringAt M.obuf k m hk hm) (.here (blockAt M.o g c m hg hc)) (.dma (cell M.outsem s hs))
    ((View.wordExact_bits rfl).reshape _ _) (View.wordExact_bits rfl) ⟨Or.inl rfl, trivial⟩)

/-- Wait for that copy. -/
def waitOut (g c k m s : ℕ) (hg : g < 4) (hc : c * 512 + m ≤ 4095) (hk : k < 4) (hm : m = 512 ∨ m = 511) (hs : s < 5) :
    P F nD τ sig Λ PUnit :=
  Prog.lift (.waitDma2 (cell M.outsem s hs) (ringAt M.obuf k m hk hm) (blockAt M.o g c m hg hc)
    ((View.wordExact_bits rfl).reshape _ _) (View.wordExact_bits rfl))

/-- Rows `o … o + m` of a node-first array. -/
abbrev rowsT (o m : ℕ) (h : o + m ≤ 4096) : Rect (ST 4096) :=
  Rect.unit (s := ST 4096) ![o, 0, 0] (ST m).size (inTree h)

/-- Buffer `k` of a ring. -/
abbrev bufR (k : ℕ) (hk : k < 4) : Rect SR := Rect.unit (s := SR) ![k, 0, 0, 0] (SS 512).size (inRing hk (by omega))

/-- Chunk `c`, arrived in buffer `k`, goes into the node-first arrays. -/
def takeIn (w12 : FVec F SQ .bf16) (bc : FVec F SV .f32) (c k : ℕ) (hc : c < 8) (hk : k < 4) :
    P F nD τ sig Λ PUnit := do
  let v : Vec F (SS 512) .f32 ← Prog.lift (.load M.xbuf (bufR k hk).toLoadRect (View.loadsAt_vmem posSS))
  let _ : Vec F (ST 512) .bf16 ← Prog.lift (.load M.xT (rowsT (512 * c) 512 (by omega)).toLoadRect
    (View.loadsAt_vmem (posT (by decide))))
  Prog.lift (.store M.xT (rowsT (512 * c) 512 (by omega)) (shapeCast (ST 512) (chunkX v) (by decide)) Finset.univ
    (View.stores_vmem (posT (by decide)) (M.hxT.storeExact_slice rfl _ (packedT hc)) (fun _ => rfl)) (.inl rfl))
  let _ : Vec F (ST 512) .f32 ← Prog.lift (.load M.sT (rowsT (512 * c) 512 (by omega)).toLoadRect
    (View.loadsAt_vmem (posT (by decide))))
  Prog.lift (.store M.sT (rowsT (512 * c) 512 (by omega)) (shapeCast (ST 512) (chunkS w12 bc v) (by decide)) Finset.univ
    (View.stores_vmem_bits_univ (posT (by decide)) rfl) (.inl rfl))

/-- The level of `m` nodes from the level below, `cur`. -/
def levelP (laa lbb : FVec F SL .f32) (m : ℕ) (h0 : 0 < m) (hm : m ≤ 1024) (cur : Vec F (ST (2 * m)) .f32) :
    P F nD τ sig Λ (Vec F (ST m) .f32) := do
  let own : Vec F (ST m) .f32 ← Prog.lift (.load M.sT (rowsT (m - 1) m (by omega)).toLoadRect (View.loadsAt_vmem (posT h0)))
  let _ : Vec F (ST m) .f32 ← Prog.lift (.load M.sT (rowsT (m - 1) m (by omega)).toLoadRect (View.loadsAt_vmem (posT h0)))
  Prog.lift (.store M.sT (rowsT (m - 1) m (by omega)) (shapeCast (ST m) (levelS m laa lbb cur own) rfl) Finset.univ
    (View.stores_vmem_bits_univ (posT h0) rfl) (.inl rfl))
  pure (levelS m laa lbb cur own)

/-- The eleven levels, from the leaves' parents to the root. -/
def levelsP (laa lbb : FVec F SL .f32) : P F nD τ sig Λ PUnit := do
  let leaves : Vec F (ST 2048) .f32 ← Prog.lift (.load M.sT (rowsT 2047 2048 (by omega)).toLoadRect
    (View.loadsAt_vmem (posT (by decide))))
  let s ← levelP M laa lbb 1024 (by decide) (by decide) leaves
  let s ← levelP M laa lbb 512 (by decide) (by decide) s
  let s ← levelP M laa lbb 256 (by decide) (by decide) s
  let s ← levelP M laa lbb 128 (by decide) (by decide) s
  let s ← levelP M laa lbb 64 (by decide) (by decide) s
  let s ← levelP M laa lbb 32 (by decide) (by decide) s
  let s ← levelP M laa lbb 16 (by decide) (by decide) s
  let s ← levelP M laa lbb 8 (by decide) (by decide) s
  let s ← levelP M laa lbb 4 (by decide) (by decide) s
  let s ← levelP M laa lbb 2 (by decide) (by decide) s
  let _ ← levelP M laa lbb 1 (by decide) (by decide) s
  pure ⟨⟩

/-- Chunk `c` of the result is computed and, once `before` has freed buffer `k`, put there. -/
def giveOut (dw : FVec F SQ .bf16) (cc : FVec F SQ .f32) (oc : FVec F SV .f32) (c k : ℕ) (hc : c < 8) (hk : k < 4)
    (before : P F nD τ sig Λ PUnit) : P F nD τ sig Λ PUnit := do
  let s : Vec F (ST 512) .f32 ← Prog.lift (.load M.sT (rowsT (512 * c) 512 (by omega)).toLoadRect
    (View.loadsAt_vmem (posT (by decide))))
  let xc : Vec F (ST 512) .bf16 ← Prog.lift (.load M.xT (rowsT (512 * c) 512 (by omega)).toLoadRect
    (View.loadsAt_vmem (posT (by decide))))
  before
  let _ : Vec F (SS 512) .f32 ← Prog.lift (.load M.obuf (bufR k hk).toLoadRect (View.loadsAt_vmem posSS))
  Prog.lift (.store M.obuf (bufR k hk) (chunkO dw cc oc s xc) Finset.univ
    (View.stores_vmem_bits_univ posSS rfl) (.inl rfl))

/-- What the body computes before the first group. -/
structure Pre (F : FTy → Type) where
  laa : FVec F SL .f32
  lbb : FVec F SL .f32
  w12 : FVec F SQ .bf16
  dw : FVec F SQ .bf16
  cc : FVec F SQ .f32
  bc : FVec F SV .f32
  oc : FVec F SV .f32

variable (V : Pre F)

/-- The eight chunks of group `g` come in. -/
def groupIn (g : ℕ) (hg : g < 4) : P F nD τ sig Λ PUnit := do
  waitIn M g 0 0 512 0 hg (by decide) (by decide) (by decide) (by decide)
  takeIn M V.w12 V.bc 0 0 (by decide) (by decide)
  startIn M g 3 3 512 3 hg (by decide) (by decide) (by decide) (by decide)
  waitIn M g 1 1 512 1 hg (by decide) (by decide) (by decide) (by decide)
  takeIn M V.w12 V.bc 1 1 (by decide) (by decide)
  startIn M g 4 0 512 0 hg (by decide) (by decide) (by decide) (by decide)
  waitIn M g 2 2 512 2 hg (by decide) (by decide) (by decide) (by decide)
  takeIn M V.w12 V.bc 2 2 (by decide) (by decide)
  startIn M g 5 1 512 1 hg (by decide) (by decide) (by decide) (by decide)
  waitIn M g 3 3 512 3 hg (by decide) (by decide) (by decide) (by decide)
  takeIn M V.w12 V.bc 3 3 (by decide) (by decide)
  startIn M g 6 2 512 2 hg (by decide) (by decide) (by decide) (by decide)
  waitIn M g 4 0 512 0 hg (by decide) (by decide) (by decide) (by decide)
  takeIn M V.w12 V.bc 4 0 (by decide) (by decide)
  startIn M g 7 3 511 4 hg (by decide) (by decide) (by decide) (by decide)
  waitIn M g 5 1 512 1 hg (by decide) (by decide) (by decide) (by decide)
  takeIn M V.w12 V.bc 5 1 (by decide) (by decide)
  waitIn M g 6 2 512 2 hg (by decide) (by decide) (by decide) (by decide)
  takeIn M V.w12 V.bc 6 2 (by decide) (by decide)
  waitIn M g 7 3 511 4 hg (by decide) (by decide) (by decide) (by decide)
  takeIn M V.w12 V.bc 7 3 (by decide) (by decide)

/-- The copy of chunk `c` of the group after `g`, if there is one, is started into buffer `c`. -/
def startNext (g c : ℕ) (hc : c < 3) : P F nD τ sig Λ PUnit :=
  if h : g + 1 < 4 then startIn M (g + 1) c c 512 c h (by omega) (by omega) (.inl rfl) (by omega) else pure ⟨⟩

/-- The copy out of chunk `c` of the group before `g`, if there is one, is waited for. -/
def waitPrev (g c k m s : ℕ) (hg : g < 4) (hc : c * 512 + m ≤ 4095) (hk : k < 4) (hm : m = 512 ∨ m = 511) (hs : s < 5) :
    P F nD τ sig Λ PUnit :=
  if _h : 0 < g then waitOut M (g - 1) c k m s (by omega) hc hk hm hs else pure ⟨⟩

/-- The eight chunks of group `g` go out. -/
def groupOut (g : ℕ) (hg : g < 4) : P F nD τ sig Λ PUnit := do
  giveOut M V.dw V.cc V.oc 0 0 (by decide) (by decide)
    (waitPrev M g 4 0 512 0 hg (by decide) (by decide) (by decide) (by decide))
  startOut M g 0 0 512 0 hg (by decide) (by decide) (by decide) (by decide)
  giveOut M V.dw V.cc V.oc 1 1 (by decide) (by decide)
    (waitPrev M g 5 1 512 1 hg (by decide) (by decide) (by decide) (by decide))
  startOut M g 1 1 512 1 hg (by decide) (by decide) (by decide) (by decide)
  startNext M g 1 (by decide)
  giveOut M V.dw V.cc V.oc 2 2 (by decide) (by decide)
    (waitPrev M g 6 2 512 2 hg (by decide) (by decide) (by decide) (by decide))
  startOut M g 2 2 512 2 hg (by decide) (by decide) (by decide) (by decide)
  startNext M g 2 (by decide)
  giveOut M V.dw V.cc V.oc 3 3 (by decide) (by decide)
    (waitPrev M g 7 3 511 4 hg (by decide) (by decide) (by decide) (by decide))
  startOut M g 3 3 512 3 hg (by decide) (by decide) (by decide) (by decide)
  giveOut M V.dw V.cc V.oc 4 0 (by decide) (by decide)
    (waitOut M g 0 0 512 0 hg (by decide) (by decide) (by decide) (by decide))
  startOut M g 4 0 512 0 hg (by decide) (by decide) (by decide) (by decide)
  giveOut M V.dw V.cc V.oc 5 1 (by decide) (by decide)
    (waitOut M g 1 1 512 1 hg (by decide) (by decide) (by decide) (by decide))
  startOut M g 5 1 512 1 hg (by decide) (by decide) (by decide) (by decide)
  giveOut M V.dw V.cc V.oc 6 2 (by decide) (by decide)
    (waitOut M g 2 2 512 2 hg (by decide) (by decide) (by decide) (by decide))
  startOut M g 6 2 512 2 hg (by decide) (by decide) (by decide) (by decide)
  giveOut M V.dw V.cc V.oc 7 3 (by decide) (by decide)
    (waitOut M g 3 3 512 3 hg (by decide) (by decide) (by decide) (by decide))
  startOut M g 7 3 511 4 hg (by decide) (by decide) (by decide) (by decide)

/-- One group. -/
def group (g : ℕ) (hg : g < 4) : P F nD τ sig Λ PUnit := do
  groupIn M V g hg
  startNext M g 0 (by decide)
  levelsP M V.laa V.lbb
  groupOut M V g hg

/-- A whole matrix is read. -/
abbrev loadAll {p q : ℕ} (A : Memref sig .tc .vmem ⟨2, ![p, q]⟩ .f32) (h : 0 < (⟨2, ![p, q]⟩ : Shape).numel) :
    P F nD τ sig Λ (Vec F ⟨2, ![p, q]⟩ .f32) :=
  Prog.lift (.load A (Rect.unit (s := ⟨2, ![p, q]⟩) ![0, 0] (⟨2, ![p, q]⟩ : Shape).size inAll2).toLoadRect
    (View.loadsAt_vmem h))

/-- What is computed from the parameters, before the first group. -/
def prologue : P F nD τ sig Λ (Pre F) := do
  let nu ← loadAll M.nu (pos2 (by decide) (by decide))
  let th ← loadAll M.th (pos2 (by decide) (by decide))
  let ga ← loadAll M.ga (pos2 (by decide) (by decide))
  let bre ← loadAll M.bre (pos2 (by decide) (by decide))
  let bim ← loadAll M.bim (pos2 (by decide) (by decide))
  let w ← loadAll M.win (pos2 (by decide) (by decide))
  let d ← loadAll M.d (pos2 (by decide) (by decide))
  let w' ← loadAll M.win (pos2 (by decide) (by decide))
  let cre ← loadAll M.cre (pos2 (by decide) (by decide))
  let cim ← loadAll M.cim (pos2 (by decide) (by decide))
  let b ← loadAll M.b (pos2 (by decide) (by decide))
  let b' ← loadAll M.b (pos2 (by decide) (by decide))
  let d' ← loadAll M.d (pos2 (by decide) (by decide))
  pure ⟨mulRe nu th, mulIm nu th, inMat ga bre bim w, skipMat d w', outMat cre cim,
    biasRow b (scaledB ga bre bim), biasRow b' d'⟩

/-- The whole body. -/
def body : P F nD τ sig Λ PUnit := do
  let V ← prologue M
  startIn M 0 0 0 512 0 (by decide) (by decide) (by decide) (by decide) (by decide)
  startIn M 0 1 1 512 1 (by decide) (by decide) (by decide) (by decide) (by decide)
  startIn M 0 2 2 512 2 (by decide) (by decide) (by decide) (by decide) (by decide)
  group M V 0 (by decide)
  group M V 1 (by decide)
  group M V 2 (by decide)
  group M V 3 (by decide)
  waitOut M 3 4 0 512 0 (by decide) (by decide) (by decide) (by decide) (by decide)
  waitOut M 3 5 1 512 1 (by decide) (by decide) (by decide) (by decide) (by decide)
  waitOut M 3 6 2 512 2 (by decide) (by decide) (by decide) (by decide) (by decide)
  waitOut M 3 7 3 511 4 (by decide) (by decide) (by decide) (by decide) (by decide)

end TreeScan

end
-- ==== Proof.Steps.lean ====
/-
  What each instruction of the body does: the loads and stores of a buffer owned whole, the
  copies into and out of the rings, and the waits for them.
-/
module

public import proofs.«01_k».proof.Proof.Program
public import Idealize.ShloMosaic.Lib.Memref
public import Idealize.ShloMosaic.Lib.Transfers
public import Idealize.ShloMosaic.Lib.ValueLayout
public import Idealize.ShloMosaic.Lib.Pointwise.Index
public import Idealize.ShloMosaic.Lib.Pipeline.FrameValue

@[expose] public section

noncomputable section

namespace TreeScan

open Idealize.ShloMosaic
open Idealize.SL
open Idealize.SL.BI (sProp)
open scoped Idealize.SL.BI
open Idealize.SL.BI.BIBase Idealize.SL.BI.Laws Idealize.SL.Sem Idealize.SL.ProofMode
open Idealize.SL.RA
open TcCoe Transfers

variable {F : FTy → Type} [FloatOps F]
variable {nD : ℕ} {τ : Topo} {sig : RefSig} {Λ : Labels}

local notation "𝕄" => MT nD τ sig Unit (Elt F) ℕ (Pipeline.UD sig nD τ) ℕ

variable {defs : Defs nD τ sig (Elt F) Λ} (𝒱 : Variants) (d : Dev nD) (bd : Option 𝒱.V)

local notation "EC" => (countersEmb : UEmb Counters 𝕄)
local notation "c₀" => (d.tc : Thread nD τ)
local notation "wp⟨" p ", " Q "⟩" => wp frame (wpE defs 𝒱 c₀ bd) Set.univ p Q

/-! ## Loads and stores -/

section Mem

variable {cs : CoreSpace} {s : Shape} {e : EltTy} (m : Memref sig .tc cs s e) (r : Rect s)

/-- A load from a buffer owned at `X` reads `X`. -/
theorem step_load {hl : m.view.LoadsAt r.toLoadRect} (X : s.Idx → Elt F e) (q : PosShare TreeShare)
    (Q : (r.shape.Idx → Elt F e) → sProp 𝕄) :
    (owns c₀ m q X : sProp 𝕄)
      ⊢ iprop((owns c₀ m q X -∗ Q (fun j => X (r.emb j))) -∗ wp⟨Prog.lift (.load m r.toLoadRect hl), Q⟩) := by
  iintro H HQ
  ihave H' := (show owns c₀ m q X ⊢ iprop(∃ g, ⌜m.view.read (Elt F) g = X⌝ ∗ m.view.loc c₀ ↦[m.view.set]{q} g) from .rfl) $$ H
  icases H' with ⟨%g, %hg, H⟩
  iapply (wp_load 𝒱 c₀ bd Set.univ (m := m) (r := r.toLoadRect) (hl := hl) (k := .ret) (View.setOn_subset_set _ _)) $$ H
  iintro H
  rw [wp_ret]
  have : m.view.readAt (Elt F) r.toLoadRect g = fun j => X (r.emb j) := by rw [← hg]; rfl
  rw [this]
  imodintro
  iapply HQ
  iapply (show iprop(∃ g, ⌜m.view.read (Elt F) g = X⌝ ∗ m.view.loc c₀ ↦[m.view.set]{q} g) ⊢ owns c₀ m q X from .rfl)
  iexists g
  isplitr; · ipureintro; exact hg
  iexact H

/-- A store into a buffer owned at `X` overlays `X` with what is stored. -/
theorem step_store {w : r.shape.Idx → Elt F e} {hx : (m.access r).Stores Finset.univ} {hm} (X : s.Idx → Elt F e)
    (Q : PUnit → sProp 𝕄) :
    (owns c₀ m fullShare X : sProp 𝕄)
      ⊢ iprop((owns c₀ m fullShare (r.overlay X w) -∗ Q ⟨⟩) -∗ wp⟨Prog.lift (.store m r w Finset.univ hx hm), Q⟩) := by
  iintro H HQ
  ihave H' := (show owns c₀ m fullShare X ⊢ iprop(∃ g, ⌜m.view.read (Elt F) g = X⌝ ∗ m.view.loc c₀ ↦[m.view.set]{fullShare} g) from .rfl) $$ H
  icases H' with ⟨%g, %hg, H⟩
  iapply (wp_store 𝒱 c₀ bd Set.univ (m := m) (r := r) (hx := hx) (hm := hm) (k := .ret) (w := w) (View.set_slice_subset m.view r)) $$ H
  iintro H
  rw [wp_ret]
  imodintro
  iapply HQ
  iapply (show iprop(∃ g, ⌜m.view.read (Elt F) g = r.overlay X w⌝ ∗ m.view.loc c₀ ↦[m.view.set]{fullShare} g) ⊢ owns c₀ m fullShare (r.overlay X w) from .rfl)
  iexists (m.access r).write (Elt F) g w Finset.univ
  isplitr
  · ipureintro
    funext j
    by_cases hj : j ∈ r.set
    · obtain ⟨i, rfl⟩ := r.exists_idx_of_mem hj
      exact (View.read_slice_write_emb r g w (Finset.mem_univ i)).trans (Rect.overlay_emb r X w i).symm
    · rw [Rect.overlay_of_not_mem r X w hj, ← hg]
      exact View.read_slice_write_of_not_mem r g w Finset.univ (by rw [Rect.map_emb_univ]; exact hj)
  iexact H

/-- A load of a part owned by itself. -/
theorem step_loadPart {hl : m.view.LoadsAt r.toLoadRect} {hr : ∀ a, r.stride a = 1} (X : r.shape.Idx → Elt F e)
    (q : PosShare TreeShare) (Q : (r.shape.Idx → Elt F e) → sProp 𝕄) :
    (owns c₀ (m.slice r hr) q X : sProp 𝕄)
      ⊢ iprop((owns c₀ (m.slice r hr) q X -∗ Q X) -∗ wp⟨Prog.lift (.load m r.toLoadRect hl), Q⟩) := by
  iintro H HQ
  ihave H' := (show owns c₀ (m.slice r hr) q X
      ⊢ iprop(∃ g, ⌜(m.access r).read (Elt F) g = X⌝ ∗ (m.access r).loc c₀ ↦[(m.access r).set]{q} g) from .rfl) $$ H
  icases H' with ⟨%g, %hg, H⟩
  iapply (wp_load_rect 𝒱 c₀ bd Set.univ (m := m) (r := r) (hl := hl) (k := .ret) subset_rfl) $$ H
  iintro H
  rw [wp_ret, hg]
  imodintro
  iapply HQ
  iapply (show iprop(∃ g, ⌜(m.access r).read (Elt F) g = X⌝ ∗ (m.access r).loc c₀ ↦[(m.access r).set]{q} g) ⊢ owns c₀ (m.slice r hr) q X from .rfl)
  iexists g
  isplitr; · ipureintro; exact hg
  iexact H

/-- A store over a part owned by itself. -/
theorem step_storePart {w : r.shape.Idx → Elt F e} {hx : (m.access r).Stores Finset.univ} {hm} {hr : ∀ a, r.stride a = 1}
    (X : r.shape.Idx → Elt F e) (Q : PUnit → sProp 𝕄) :
    (owns c₀ (m.slice r hr) fullShare X : sProp 𝕄)
      ⊢ iprop((owns c₀ (m.slice r hr) fullShare w -∗ Q ⟨⟩) -∗ wp⟨Prog.lift (.store m r w Finset.univ hx hm), Q⟩) := by
  iintro H HQ
  ihave H' := (show owns c₀ (m.slice r hr) fullShare X
      ⊢ iprop(∃ g, ⌜(m.access r).read (Elt F) g = X⌝ ∗ (m.access r).loc c₀ ↦[(m.access r).set]{fullShare} g) from .rfl) $$ H
  icases H' with ⟨%g, %hg, H⟩
  iapply (wp_store 𝒱 c₀ bd Set.univ (m := m) (r := r) (hx := hx) (hm := hm) (k := .ret) (w := w) (S := (m.access r).set)
    (View.setOn_univ (m.access r)).le) $$ H
  iintro H
  rw [wp_ret]
  imodintro
  iapply HQ
  iapply (show iprop(∃ g, ⌜(m.access r).read (Elt F) g = w⌝ ∗ (m.access r).loc c₀ ↦[(m.access r).set]{fullShare} g) ⊢ owns c₀ (m.slice r hr) fullShare w from .rfl)
  iexists (m.access r).write (Elt F) g w Finset.univ
  isplitr; · ipureintro; exact View.read_write_univ g w
  iexact H

end Mem

/-! ## The copies -/

/-- Buffer `k` of a ring, as the memory it is. -/
abbrev slotM (B : Memref sig .tc .vmem SR .f32) (k : ℕ) (hk : k < 4) : Memref sig .tc .vmem (SS 512) .f32 :=
  B.slice (bufR k hk) (fun _ => rfl)

/-- A row of `x` in a chunk `c` of a group `g`. -/
abbrev rowX (g c m : ℕ) (hg : g < 4) (hc : c * 512 + m ≤ 4095) (b : Fin 8) (r : Fin m) (f : Fin 128) : SX.Idx :=
  ix3 (⟨8 * g + b, by omega⟩ : Fin 32) (⟨512 * c + r, by omega⟩ : Fin 4095) f

/-- What a buffer holds after `m` rows of a chunk have arrived over `Y`. -/
def landed (g c m : ℕ) (hg : g < 4) (hc : c * 512 + m ≤ 4095) (X : SX.Idx → F .f32) (Y : (SS 512).Idx → F .f32) :
    (SS 512).Idx → F .f32 := fun i =>
  if h : (i 2 : ℕ) < m then X (rowX g c m hg hc (i 1) ⟨i 2, h⟩ (i 3)) else Y i

theorem ring_emb (B : Memref sig .tc .vmem SR .f32) (k m : ℕ) (hk : k < 4) (hm : m = 512 ∨ m = 511)
    (b : Fin 8) (r : Fin m) (f : Fin 128) (u : Fin 1) (h : (r : ℕ) < 512) :
    (ringAt B k m hk hm).view.emb (ix3 b r f) = (slotM B k hk).view.emb (ix4 u b ⟨r, h⟩ f) := by
  show B.view.emb ((Rect.unit (s := SR) ![k, 0, 0, 0] (SS m).size (inRing hk (by omega))).emb
      (Shape.reshapeEquiv _ (ix3 b r f))) = B.view.emb ((bufR k hk).emb (ix4 u b ⟨r, h⟩ f))
  rw [Shape.reshapeEquiv_eq_of_rowMajor _ (x := ix3 b r f) (y := ix4 u b r f) (by
    rw [Shape.rowMajor_val_four, Shape.rowMajor_val_three]
    have hu : (u : ℕ) = 0 := by omega
    show (((u : ℕ) * 8 + b) * m + r) * 128 + f = ((b : ℕ) * m + r) * 128 + f
    rw [hu, Nat.zero_mul, Nat.zero_add])]
  congr 1
  funext a
  exact Fin.ext (by fin_cases a <;> rfl)

theorem ring_read (B : Memref sig .tc .vmem SR .f32) (k m : ℕ) (hk : k < 4) (hm : m = 512 ∨ m = 511)
    (y : B.view.ty.Contents (Elt F)) (b : Fin 8) (r : Fin m) (f : Fin 128) :
    (ringAt B k m hk hm).view.read (Elt F) y (ix3 b r f)
      = (slotM B k hk).view.read (Elt F) y (ix4 (0 : Fin 1) b (⟨r, lt_of_lt_of_le r.isLt (by omega)⟩ : Fin 512) f) := by
  have h := ring_emb B k m hk hm b r f 0 (lt_of_lt_of_le r.isLt (by omega))
  rw [View.read_apply, View.read_apply]
  exact congrArg (fun i => cast _ (y i)) h

theorem ring_sub (B : Memref sig .tc .vmem SR .f32) (k m : ℕ) (hk : k < 4) (hm : m = 512 ∨ m = 511) :
    (ringAt B k m hk hm).view.set ⊆ (slotM B k hk).view.set := by
  intro i hi
  obtain ⟨x, -, rfl⟩ := Finset.mem_map.mp hi
  obtain ⟨b, r, f, rfl⟩ : ∃ (b : Fin 8) (r : Fin m) (f : Fin 128), x = ix3 b r f := ⟨x 0, x 1, x 2, eq_ix3 x⟩
  rw [ring_emb B k m hk hm _ _ _ 0 (lt_of_lt_of_le r.isLt (by omega))]
  exact View.emb_mem_set _ _

variable (M : Mem sig)

/-- The amount a copy of `m` rows pays. -/
abbrev credIn (k m : ℕ) (hk : k < 4) (hm : m = 512 ∨ m = 511) : ℕ := (ringAt M.xbuf k m hk hm).view.dmaCredit

/-- The copy of `m` rows of a chunk into buffer `k` on its way, to leave `Y` there. -/
def inFly (q : PosShare TreeShare) (X : SX.Idx → F .f32) (g c k m s : ℕ) (hg : g < 4) (hc : c * 512 + m ≤ 4095)
    (hk : k < 4) (hm : m = 512 ∨ m = 511) (hs : s < 5) (Y : (SS 512).Idx → F .f32) : sProp 𝕄 :=
  iprop(∃ f, ⌜M.x.view.read (Elt F) f = X⌝
    ∗ Flight EC c₀ (.dma (cell M.insem s hs)) () (credIn M k m hk hm)
        iprop(owns c₀ (slotM M.xbuf k hk) fullShare Y
          ∗ (M.x.view.loc c₀ ↦[(blockAt M.x g c m hg hc).view.set]{q} f))
    ∗ (M.x.view.loc c₀ ↦[M.x.view.set \ (blockAt M.x g c m hg hc).view.set]{q} f))

/-- A buffer after a chunk has been written into it. -/
theorem landed_read (g c k m : ℕ) (hg : g < 4) (hc : c * 512 + m ≤ 4095) (hk : k < 4) (hm : m = 512 ∨ m = 511)
    (X : SX.Idx → F .f32) (Y : (SS 512).Idx → F .f32) (f : M.x.view.ty.Contents (Elt F))
    (y : (slotM M.xbuf k hk).view.ty.Contents (Elt F)) (hf : M.x.view.read (Elt F) f = X)
    (hy : (slotM M.xbuf k hk).view.read (Elt F) y = Y) (u : Fin 1) (b : Fin 8) (r : Fin 512) (e : Fin 128) :
    (slotM M.xbuf k hk).view.read (Elt F)
      ((ringAt M.xbuf k m hk hm).view.write (Elt F) y
        (ReadAs.same.apply ((blockAt M.x g c m hg hc).view.read (Elt F) f)) Finset.univ) (ix4 u b r e)
      = landed g c m hg hc X Y (ix4 u b r e) := by
  unfold landed
  by_cases h : (r : ℕ) < m
  · rw [dif_pos (show ((ix4 u b r e : (SS 512).Idx) 2 : ℕ) < m from h)]
    have he := ring_emb M.xbuf k m hk hm b ⟨r, h⟩ e u r.isLt
    rw [View.read_apply]
    rw [show (slotM M.xbuf k hk).view.emb (ix4 u b r e) = (ringAt M.xbuf k m hk hm).view.emb (ix3 b ⟨r, h⟩ e) from he.symm]
    rw [View.write_emb_of_mem _ _ (Finset.mem_univ _), cast_cast, cast_eq, ← hf]
    show M.x.view.read (Elt F) f _ = M.x.view.read (Elt F) f _
    congr 1
    funext a
    refine Fin.ext ?_
    show (_ : ℕ) + 1 * _ = _
    rw [Nat.one_mul]
    fin_cases a
    · rfl
    · rfl
    · exact Nat.zero_add _
  · rw [dif_neg (show ¬ ((ix4 u b r e : (SS 512).Idx) 2 : ℕ) < m from h), ← hy]
    refine View.read_congr_at _ (View.write_of_not_mem _ _ _ fun hi => ?_)
    obtain ⟨x, -, hx⟩ := Finset.mem_map.mp hi
    obtain ⟨b', r', f', rfl⟩ : ∃ (b : Fin 8) (r : Fin m) (f : Fin 128), x = ix3 b r f := ⟨x 0, x 1, x 2, eq_ix3 x⟩
    rw [ring_emb M.xbuf k m hk hm _ _ _ u (lt_of_lt_of_le r'.isLt (by omega))] at hx
    have h2 := congrFun ((slotM M.xbuf k hk).view.emb.injective hx) 2
    exact h (by rw [← show (⟨r', _⟩ : Fin 512) = r from h2]; exact r'.isLt)

theorem numSB {m : ℕ} (hm : m = 512 ∨ m = 511) : 0 < (SB m).numel :=
  Shape.numel_pos fun a => by fin_cases a <;> simp [SB] <;> omega

theorem step_startIn (q : PosShare TreeShare) (X : SX.Idx → F .f32) (g c k m s : ℕ) (hg : g < 4) (hc : c * 512 + m ≤ 4095)
    (hk : k < 4) (hm : m = 512 ∨ m = 511) (hs : s < 5) (Y : (SS 512).Idx → F .f32) (Q : PUnit → sProp 𝕄) :
    iprop(owns c₀ M.x q X ∗ owns c₀ (slotM M.xbuf k hk) fullShare Y ∗ semVal (c₀, SemLoc.dma (cell M.insem s hs)) 0)
      ⊢ iprop((inFly d M q X g c k m s hg hc hk hm hs (landed g c m hg hc X Y) -∗ Q ⟨⟩)
          -∗ wp⟨startIn M g c k m s hg hc hk hm hs, Q⟩) := by
  iintro ⟨HX, HY, HS⟩ HQ
  ihave HX' := (show owns c₀ M.x q X ⊢ iprop(∃ f, ⌜M.x.view.read (Elt F) f = X⌝ ∗ M.x.view.loc c₀ ↦[M.x.view.set]{q} f) from .rfl) $$ HX
  icases HX' with ⟨%f, %hf, HX⟩
  ihave HX' := (pointsTo_split_subset (I := (blockAt M.x g c m hg hc).view.set) (M.x.view.set_slice_subset _)).1 $$ HX
  icases HX' with ⟨HB, HR⟩
  ihave HY' := (show owns c₀ (slotM M.xbuf k hk) fullShare Y ⊢ iprop(∃ f, ⌜(slotM M.xbuf k hk).view.read (Elt F) f = Y⌝
    ∗ (ringAt M.xbuf k m hk hm).view.loc c₀ ↦[(slotM M.xbuf k hk).view.set]{fullShare} f) from .rfl) $$ HY
  icases HY' with ⟨%y, %hy, HY⟩
  unfold startIn
  iapply (wp_dmaLocal EC 𝒱 c₀ bd (src := blockAt M.x g c m hg hc) (dst := ringAt M.xbuf k m hk hm)
    (sm := .dma (cell M.insem s hs)) (k := .ret) () (credIn M k m hk hm) rfl (View.dmaCredit_pos _ (numSB hm))
    (ring_sub M.xbuf k m hk hm)) $$ [HB HY HS]
  · isplitl [HB]; · iexact HB
    isplitl [HY]; · iexact HY
    iexact HS
  iintro HF
  rw [wp_ret]
  imodintro
  iapply HQ
  unfold inFly
  iexists f
  isplitr; · ipureintro; exact hf
  isplitl [HF]
  · iapply (Flight_mono EC c₀ (show _ ⊢ _ from ?_)) $$ HF
    iintro ⟨HD, HB⟩
    isplitl [HD]
    · iapply (show iprop(∃ f, ⌜(slotM M.xbuf k hk).view.read (Elt F) f = landed g c m hg hc X Y⌝
        ∗ (ringAt M.xbuf k m hk hm).view.loc c₀ ↦[(slotM M.xbuf k hk).view.set]{fullShare} f) ⊢
          owns c₀ (slotM M.xbuf k hk) fullShare (landed g c m hg hc X Y) from .rfl)
      iexists _
      isplitr; swap
      · iexact HD
      · ipureintro
        funext i
        obtain ⟨u, b, r, e, rfl⟩ : ∃ (u : Fin 1) (b : Fin 8) (r : Fin 512) (e : Fin 128), i = ix4 u b r e :=
          ⟨i 0, i 1, i 2, i 3, eq_ix4 i⟩
        exact landed_read M g c k m hg hc hk hm X Y f y hf hy u b r e
    · iexact HB
  iexact HR

/-- Some record of the waits made so far. -/
def Owes : sProp 𝕄 := iprop(∃ W, owes c₀ 0 W)

theorem step_waitIn (q : PosShare TreeShare) (X : SX.Idx → F .f32) (g c k m s : ℕ) (hg : g < 4) (hc : c * 512 + m ≤ 4095)
    (hk : k < 4) (hm : m = 512 ∨ m = 511) (hs : s < 5) (Y : (SS 512).Idx → F .f32) (Q : PUnit → sProp 𝕄) :
    iprop(inFly d M q X g c k m s hg hc hk hm hs Y ∗ Owes d)
      ⊢ iprop((iprop(owns c₀ M.x q X ∗ owns c₀ (slotM M.xbuf k hk) fullShare Y
              ∗ semVal (c₀, SemLoc.dma (cell M.insem s hs)) 0 ∗ Owes d) -∗ Q ⟨⟩)
          -∗ wp⟨waitIn M g c k m s hg hc hk hm hs, Q⟩) := by
  unfold inFly Owes
  iintro ⟨⟨%f, %hf, HF, HR⟩, ⟨%W, HO⟩⟩ HQ
  unfold waitIn
  iapply (wp_waitLocal EC 𝒱 c₀ bd (srcw := blockAt M.x g c m hg hc) (dstw := ringAt M.xbuf k m hk hm)
    (sem := cell M.insem s hs) (k := .ret) () (N := credIn M k m hk hm) rfl (W := W)) $$ [HF HO]
  · isplitl [HF]; · iexact HF
    iexact HO
  iintro ⟨⟨HY, HB⟩, HS, HO⟩
  rw [wp_ret]
  imodintro
  iapply HQ
  isplitl [HB HR]
  · iapply (show iprop(∃ f, ⌜M.x.view.read (Elt F) f = X⌝ ∗ M.x.view.loc c₀ ↦[M.x.view.set]{q} f) ⊢ owns c₀ M.x q X from .rfl)
    iexists f
    isplitr; · ipureintro; exact hf
    iapply (pointsTo_split_subset (I := (blockAt M.x g c m hg hc).view.set) (M.x.view.set_slice_subset _)).2
    isplitl [HB] <;> iassumption
  isplitl [HY]; · iexact HY
  isplitl [HS]; · iexact HS
  iexists _; iexact HO

/-- The first `m` rows of a buffer. -/
def firstRows (m : ℕ) (hm : m = 512 ∨ m = 511) (Y : (SS 512).Idx → F .f32) : (SB m).Idx → F .f32 := fun j =>
  Y (ix4 (0 : Fin 1) (j 0) (⟨j 1, lt_of_lt_of_le (j 1).isLt (by show m ≤ 512; omega)⟩ : Fin 512) (j 2))

/-- The amount a copy out of `m` rows pays. -/
abbrev credOut (g c m : ℕ) (hg : g < 4) (hc : c * 512 + m ≤ 4095) : ℕ := (blockAt M.o g c m hg hc).view.dmaCredit

/-- The copy of `m` rows of buffer `k`, which holds `Y`, into chunk `c` of group `g` of the result, on its way. -/
def outFly (g c k m s : ℕ) (hg : g < 4) (hc : c * 512 + m ≤ 4095)
    (hk : k < 4) (hm : m = 512 ∨ m = 511) (hs : s < 5) (Y : (SS 512).Idx → F .f32) : sProp 𝕄 :=
  iprop(∃ f, ⌜(slotM M.obuf k hk).view.read (Elt F) f = Y⌝
    ∗ Flight EC c₀ (.dma (cell M.outsem s hs)) () (credOut M g c m hg hc)
        iprop(owns c₀ (blockAt M.o g c m hg hc) fullShare (firstRows m hm Y)
          ∗ ((ringAt M.obuf k m hk hm).view.loc c₀ ↦[(ringAt M.obuf k m hk hm).view.set]{fullShare} f))
    ∗ ((ringAt M.obuf k m hk hm).view.loc c₀ ↦[(slotM M.obuf k hk).view.set \ (ringAt M.obuf k m hk hm).view.set]{fullShare} f))

theorem step_startOut (g c k m s : ℕ) (hg : g < 4) (hc : c * 512 + m ≤ 4095)
    (hk : k < 4) (hm : m = 512 ∨ m = 511) (hs : s < 5) (Y : (SS 512).Idx → F .f32) (Z : (SB m).Idx → F .f32) (Q : PUnit → sProp 𝕄) :
    iprop(owns c₀ (slotM M.obuf k hk) fullShare Y ∗ owns c₀ (blockAt M.o g c m hg hc) fullShare Z
        ∗ semVal (c₀, SemLoc.dma (cell M.outsem s hs)) 0)
      ⊢ iprop((outFly d M g c k m s hg hc hk hm hs Y -∗ Q ⟨⟩)
          -∗ wp⟨startOut M g c k m s hg hc hk hm hs, Q⟩) := by
  iintro ⟨HY, HZ, HS⟩ HQ
  ihave HZ' := (show owns c₀ (blockAt M.o g c m hg hc) fullShare Z ⊢ iprop(∃ f, ⌜(blockAt M.o g c m hg hc).view.read (Elt F) f = Z⌝
    ∗ (blockAt M.o g c m hg hc).view.loc c₀ ↦[(blockAt M.o g c m hg hc).view.set]{fullShare} f) from .rfl) $$ HZ
  icases HZ' with ⟨%z, %hz, HZ⟩
  ihave HY' := (show owns c₀ (slotM M.obuf k hk) fullShare Y ⊢ iprop(∃ f, ⌜(slotM M.obuf k hk).view.read (Elt F) f = Y⌝
    ∗ (ringAt M.obuf k m hk hm).view.loc c₀ ↦[(slotM M.obuf k hk).view.set]{fullShare} f) from .rfl) $$ HY
  icases HY' with ⟨%y, %hy, HY⟩
  ihave HY' := (pointsTo_split_subset (ring_sub M.obuf k m hk hm)).1 $$ HY
  icases HY' with ⟨HB, HR⟩
  unfold startOut
  iapply (wp_dmaLocal EC 𝒱 c₀ bd (src := ringAt M.obuf k m hk hm) (dst := blockAt M.o g c m hg hc)
    (sm := .dma (cell M.outsem s hs)) (k := .ret) () (credOut M g c m hg hc) rfl (View.dmaCredit_pos _ (numSB hm))
    subset_rfl) $$ [HB HZ HS]
  · isplitl [HB]; · iexact HB
    isplitl [HZ]; · iexact HZ
    iexact HS
  iintro HF
  rw [wp_ret]
  imodintro
  iapply HQ
  unfold outFly
  iexists y
  isplitr; · ipureintro; exact hy
  isplitl [HF]
  · iapply (Flight_mono EC c₀ (show _ ⊢ _ from ?_)) $$ HF
    iintro ⟨HD, HB⟩
    isplitl [HD]
    · iapply (show iprop(∃ f, ⌜(blockAt M.o g c m hg hc).view.read (Elt F) f = firstRows m hm Y⌝
        ∗ (blockAt M.o g c m hg hc).view.loc c₀ ↦[(blockAt M.o g c m hg hc).view.set]{fullShare} f) ⊢
          owns c₀ (blockAt M.o g c m hg hc) fullShare (firstRows m hm Y) from .rfl)
      iexists _
      isplitr; swap
      · iexact HD
      · ipureintro
        rw [View.read_write_univ]
        funext j
        obtain ⟨b, r, e, rfl⟩ : ∃ (b : Fin 8) (r : Fin m) (f : Fin 128), j = ix3 b r f := ⟨j 0, j 1, j 2, eq_ix3 j⟩
        rw [← hy]
        exact ring_read M.obuf k m hk hm y b r e
    · iexact HB
  iexact HR

theorem step_waitOut (g c k m s : ℕ) (hg : g < 4) (hc : c * 512 + m ≤ 4095)
    (hk : k < 4) (hm : m = 512 ∨ m = 511) (hs : s < 5) (Y : (SS 512).Idx → F .f32) (Q : PUnit → sProp 𝕄) :
    iprop(outFly d M g c k m s hg hc hk hm hs Y ∗ Owes d)
      ⊢ iprop((iprop(owns c₀ (slotM M.obuf k hk) fullShare Y ∗ owns c₀ (blockAt M.o g c m hg hc) fullShare (firstRows m hm Y)
              ∗ semVal (c₀, SemLoc.dma (cell M.outsem s hs)) 0 ∗ Owes d) -∗ Q ⟨⟩)
          -∗ wp⟨waitOut M g c k m s hg hc hk hm hs, Q⟩) := by
  unfold outFly Owes
  iintro ⟨⟨%f, %hf, HF, HR⟩, ⟨%W, HO⟩⟩ HQ
  unfold waitOut
  iapply (wp_waitLocal EC 𝒱 c₀ bd (srcw := ringAt M.obuf k m hk hm) (dstw := blockAt M.o g c m hg hc)
    (sem := cell M.outsem s hs) (k := .ret) () (N := credOut M g c m hg hc) rfl (W := W)) $$ [HF HO]
  · isplitl [HF]; · iexact HF
    iexact HO
  iintro ⟨⟨HY, HB⟩, HS, HO⟩
  rw [wp_ret]
  imodintro
  iapply HQ
  isplitl [HB HR]
  · iapply (show iprop(∃ f, ⌜(slotM M.obuf k hk).view.read (Elt F) f = Y⌝
      ∗ (ringAt M.obuf k m hk hm).view.loc c₀ ↦[(slotM M.obuf k hk).view.set]{fullShare} f) ⊢ owns c₀ (slotM M.obuf k hk) fullShare Y from .rfl)
    iexists f
    isplitr; · ipureintro; exact hf
    iapply (pointsTo_split_subset (ring_sub M.obuf k m hk hm)).2
    isplitl [HB] <;> iassumption
  isplitl [HY]; · iexact HY
  isplitl [HS]; · iexact HS
  iexists _; iexact HO

end TreeScan

end
-- ==== Proof.Chunks.lean ====
/-
  What a chunk's passage does to the arrays: a chunk taken in, a level of the recurrence, a
  chunk of the result given out.
-/
module

public import proofs.«01_k».proof.Proof.Steps

@[expose] public section

noncomputable section

namespace TreeScan

open Idealize.ShloMosaic
open Idealize.SL
open Idealize.SL.BI (sProp)
open scoped Idealize.SL.BI
open Idealize.SL.BI.BIBase Idealize.SL.BI.Laws Idealize.SL.Sem Idealize.SL.ProofMode
open Idealize.SL.RA
open TcCoe Transfers

variable {F : FTy → Type} [FloatOps F]

/-! ## The arrays' contents -/

/-- The row of `x` that row `r` of chunk `c` holds: its own, but for the last chunk's last row,
    which is left from the buffer's chunk before. -/
def rowIn (c : ℕ) (r : Fin 512) : Fin 4095 :=
  if h : 512 * c + r.val < 4095 then ⟨512 * c + r.val, h⟩ else ⟨2047, by decide⟩

theorem rowIn_of_lt (c : ℕ) (r : Fin 512) (h : 512 * c + r.val < 4095) : rowIn c r = ⟨512 * c + r.val, h⟩ := dif_pos h

theorem rowIn_last (r : Fin 512) (h : ¬ r.val < 511) : rowIn 7 r = rowIn 3 r := by
  have hr := r.isLt
  have e3 := rowIn_of_lt 3 r (by omega)
  have e7 : rowIn 7 r = ⟨2047, by decide⟩ := dif_neg (by omega)
  rw [e3, e7]
  refine Fin.ext ?_
  show 2047 = 512 * 3 + r.val
  omega

/-- The batch member of a group. -/
abbrev batchOf (g : Fin 4) (b : Fin 8) : Fin 32 := ⟨8 * g.val + b.val, by omega⟩
/-- A batch member's group. -/
abbrev groupOf (b : Fin 32) : Fin 4 := ⟨b.val / 8, by omega⟩
/-- A batch member's place in its group. -/
abbrev memberOf (b : Fin 32) : Fin 8 := ⟨b.val % 8, by omega⟩
/-- A result row's chunk. -/
abbrev chunkRow (n : Fin 4095) : Fin 8 := ⟨n.val / 512, by omega⟩
/-- A result row's place in its chunk. -/
abbrev placeRow (n : Fin 4095) : Fin 512 := ⟨n.val % 512, by omega⟩
/-- The row `r` rows after row `o`. -/
abbrev rowAt (o m : ℕ) (h : o + m ≤ 4096) (r : Fin m) : Fin 4096 := ⟨o + r.val, by omega⟩

/-- A buffer of the ring when chunk `c` of group `g` is taken from it. -/
def bufIn (X : SX.Idx → F .f32) (g : Fin 4) (c : Fin 8) : (SS 512).Idx → F .f32 := fun i =>
  X (ix3 (batchOf g (i 1)) (rowIn c.val (i 2)) (i 3))

/-- The chunk of a node. -/
abbrev chunkOf (n : Fin 4096) : Fin 8 := ⟨n / 512, by omega⟩
/-- The node's place in its chunk. -/
abbrev placeOf (n : Fin 4096) : Fin 512 := ⟨n % 512, by omega⟩

/-- The rows of `x`, node first and rounded. -/
def rowsX (X : SX.Idx → F .f32) (g : Fin 4) : (ST 4096).Idx → F .bf16 := fun i =>
  chunkX (bufIn X g (chunkOf (i 0))) (ix3 (placeOf (i 0)) (i 1) (i 2))

/-- The drive of every node. -/
def drive (V : Pre F) (X : SX.Idx → F .f32) (g : Fin 4) : (ST 4096).Idx → F .f32 := fun i =>
  chunkS V.w12 V.bc (bufIn X g (chunkOf (i 0))) (ix3 (placeOf (i 0)) (i 1) (i 2))

/-- Rows `o … o + m` of a node-first array. -/
def rowsOf {α : Type} (o m : ℕ) (h : o + m ≤ 4096) (T : (ST 4096).Idx → α) : (ST m).Idx → α := fun j =>
  T ((rowsT o m h).emb j)

/-- One level of the recurrence, in place. -/
def stepLevel (V : Pre F) (m : ℕ) (hm : m ≤ 1024) (T : (ST 4096).Idx → F .f32) : (ST 4096).Idx → F .f32 :=
  (rowsT (m - 1) m (by omega)).overlay T
    (levelS m V.laa V.lbb (rowsOf (2 * m - 1) (2 * m) (by omega) T) (rowsOf (m - 1) m (by omega) T))

/-- All eleven levels. -/
def states (V : Pre F) (T : (ST 4096).Idx → F .f32) : (ST 4096).Idx → F .f32 :=
  stepLevel V 1 (by decide) (stepLevel V 2 (by decide) (stepLevel V 4 (by decide) (stepLevel V 8 (by decide)
    (stepLevel V 16 (by decide) (stepLevel V 32 (by decide) (stepLevel V 64 (by decide) (stepLevel V 128 (by decide)
      (stepLevel V 256 (by decide) (stepLevel V 512 (by decide) (stepLevel V 1024 (by decide) T))))))))))

/-- A chunk of the result. -/
def chunkOut (V : Pre F) (X : SX.Idx → F .f32) (g : Fin 4) (c : Fin 8) : (SS 512).Idx → F .f32 :=
  chunkO V.dw V.cc V.oc (rowsOf (512 * c) 512 (by omega) (states V (drive V X g)))
    (rowsOf (512 * c) 512 (by omega) (rowsX X g))

/-- The result. -/
def result (V : Pre F) (X : SX.Idx → F .f32) : SX.Idx → F .f32 := fun i =>
  chunkOut V X (groupOf (i 0)) (chunkRow (i 1)) (ix4 (0 : Fin 1) (memberOf (i 0)) (placeRow (i 1)) (i 2))

theorem landed_full (g c : ℕ) (hg : g < 4) (hc : c < 7) (X : SX.Idx → F .f32) (Y : (SS 512).Idx → F .f32) :
    landed g c 512 hg (by omega) X Y = bufIn X ⟨g, hg⟩ ⟨c, by omega⟩ := by
  funext i
  obtain ⟨u, b, r, e, rfl⟩ : ∃ (u : Fin 1) (b : Fin 8) (r : Fin 512) (e : Fin 128), i = ix4 u b r e :=
    ⟨i 0, i 1, i 2, i 3, eq_ix4 i⟩
  refine (dif_pos r.isLt).trans ?_
  show X (rowX g c 512 hg (by omega) b r e) = X (ix3 _ (rowIn c r) e)
  rw [rowIn_of_lt c r (by omega)]
  rfl

theorem landed_last (g : ℕ) (hg : g < 4) (X : SX.Idx → F .f32) :
    landed g 7 511 hg (by decide) X (bufIn X ⟨g, hg⟩ ⟨3, by decide⟩) = bufIn X ⟨g, hg⟩ ⟨7, by decide⟩ := by
  funext i
  obtain ⟨u, b, r, e, rfl⟩ : ∃ (u : Fin 1) (b : Fin 8) (r : Fin 512) (e : Fin 128), i = ix4 u b r e :=
    ⟨i 0, i 1, i 2, i 3, eq_ix4 i⟩
  by_cases h : r.val < 511
  · refine (dif_pos h).trans ?_
    show X (rowX g 7 511 hg (by decide) b ⟨r, h⟩ e) = X (ix3 _ (rowIn 7 r) e)
    rw [rowIn_of_lt 7 r (by omega)]
    rfl
  · refine (dif_neg h).trans ?_
    show X (ix3 _ (rowIn 3 r) e) = X (ix3 _ (rowIn 7 r) e)
    rw [rowIn_last r h]

theorem rowsT_emb (o m : ℕ) (h : o + m ≤ 4096) (r : Fin m) (b : Fin 8) (f : Fin 128) :
    (rowsT o m h).emb (ix3 r b f) = ix3 (rowAt o m h r) b f := by
  funext a
  refine Fin.ext ?_
  show (_ : ℕ) + 1 * _ = _
  rw [Nat.one_mul]
  fin_cases a
  · rfl
  · exact Nat.zero_add _
  · exact Nat.zero_add _

theorem mem_rowsT (o m : ℕ) (h : o + m ≤ 4096) (n : Fin 4096) (b : Fin 8) (f : Fin 128) (h1 : o ≤ n.val) (h2 : n.val < o + m) :
    (ix3 n b f : (ST 4096).Idx) = (rowsT o m h).emb (ix3 (⟨n.val - o, by omega⟩ : Fin m) b f) := by
  rw [rowsT_emb]
  have : rowAt o m h ⟨n.val - o, by omega⟩ = n := Fin.ext (by show o + (n.val - o) = n.val; omega)
  rw [this]

theorem not_mem_rowsT (o m : ℕ) (h : o + m ≤ 4096) (n : Fin 4096) (b : Fin 8) (f : Fin 128)
    (h1 : ¬ (o ≤ n.val ∧ n.val < o + m)) : (ix3 n b f : (ST 4096).Idx) ∉ (rowsT o m h).set := by
  intro hi
  obtain ⟨j, hj⟩ := (rowsT o m h).exists_idx_of_mem hi
  obtain ⟨r, b', f', rfl⟩ : ∃ (r : Fin m) (b : Fin 8) (f : Fin 128), j = ix3 r b f := ⟨j 0, j 1, j 2, eq_ix3 j⟩
  have hj' := (rowsT_emb o m h r b' f').symm.trans hj
  have h0 : rowAt o m h r = n := congrFun hj' 0
  apply h1
  rw [← h0]
  exact ⟨Nat.le_add_right _ _, Nat.add_lt_add_left r.isLt o⟩

/-- An array filled up to chunk `c`, filled one chunk further. -/
theorem overlay_fill {α : Type} (c : ℕ) (hc : c < 8) (A Y : (ST 4096).Idx → α) (w : (ST 512).Idx → α)
    (hA : ∀ i, (i 0 : ℕ) < 512 * c → A i = Y i) (hw : ∀ j, w j = Y ((rowsT (512 * c) 512 (by omega)).emb j)) :
    ∀ i, (i 0 : ℕ) < 512 * (c + 1) → (rowsT (512 * c) 512 (by omega)).overlay A w i = Y i := by
  intro i hi
  obtain ⟨n, b, f, rfl⟩ : ∃ (n : Fin 4096) (b : Fin 8) (f : Fin 128), i = ix3 n b f := ⟨i 0, i 1, i 2, eq_ix3 i⟩
  have hi : n.val < 512 * (c + 1) := hi
  by_cases h : n.val < 512 * c
  · rw [Rect.overlay_of_not_mem _ _ _ (not_mem_rowsT _ _ _ _ _ _ (by omega)), hA _ h]
  · rw [mem_rowsT (512 * c) 512 (by omega) n b f (by omega) (by omega), Rect.overlay_emb, hw]

theorem chunkOf_rowAt (c : ℕ) (hc : c < 8) (r : Fin 512) : chunkOf (rowAt (512 * c) 512 (by omega) r) = ⟨c, hc⟩ :=
  Fin.ext (by show (512 * c + r.val) / 512 = c; omega)

theorem placeOf_rowAt (c : ℕ) (hc : c < 8) (r : Fin 512) : placeOf (rowAt (512 * c) 512 (by omega) r) = r :=
  Fin.ext (by show (512 * c + r.val) % 512 = r.val; omega)

theorem rowsX_chunk (X : SX.Idx → F .f32) (g : Fin 4) (c : ℕ) (hc : c < 8) (j : (ST 512).Idx) :
    chunkX (bufIn X g ⟨c, hc⟩) j = rowsX X g ((rowsT (512 * c) 512 (by omega)).emb j) := by
  obtain ⟨r, b, f, rfl⟩ : ∃ (r : Fin 512) (b : Fin 8) (f : Fin 128), j = ix3 r b f := ⟨j 0, j 1, j 2, eq_ix3 j⟩
  refine Eq.trans ?_ (congrArg (rowsX X g) (rowsT_emb _ _ _ r b f).symm)
  show _ = chunkX (bufIn X g (chunkOf (rowAt (512 * c) 512 (by omega) r))) (ix3 (placeOf (rowAt (512 * c) 512 (by omega) r)) b f)
  rw [chunkOf_rowAt c hc, placeOf_rowAt c hc]

theorem drive_chunk (V : Pre F) (X : SX.Idx → F .f32) (g : Fin 4) (c : ℕ) (hc : c < 8) (j : (ST 512).Idx) :
    chunkS V.w12 V.bc (bufIn X g ⟨c, hc⟩) j = drive V X g ((rowsT (512 * c) 512 (by omega)).emb j) := by
  obtain ⟨r, b, f, rfl⟩ : ∃ (r : Fin 512) (b : Fin 8) (f : Fin 128), j = ix3 r b f := ⟨j 0, j 1, j 2, eq_ix3 j⟩
  refine Eq.trans ?_ (congrArg (drive V X g) (rowsT_emb _ _ _ r b f).symm)
  show _ = chunkS V.w12 V.bc (bufIn X g (chunkOf (rowAt (512 * c) 512 (by omega) r))) (ix3 (placeOf (rowAt (512 * c) 512 (by omega) r)) b f)
  rw [chunkOf_rowAt c hc, placeOf_rowAt c hc]

theorem shapeCast_same {α : Type} {s : Shape} (x : s.Idx → α) (h : s.ShapeCasts s) : shapeCast s x h = x := by
  funext i
  show x (Shape.reshapeEquiv _ i) = x i
  rw [Shape.reshapeEquiv_self]

/-! ## The instructions -/

variable {nD : ℕ} {τ : Topo} {sig : RefSig} {Λ : Labels}

local notation "𝕄" => MT nD τ sig Unit (Elt F) ℕ (Pipeline.UD sig nD τ) ℕ

variable {defs : Defs nD τ sig (Elt F) Λ} (𝒱 : Variants) (d : Dev nD) (bd : Option 𝒱.V)

local notation "c₀" => (d.tc : Thread nD τ)
local notation "wp⟨" p ", " Q "⟩" => wp frame (wpE defs 𝒱 c₀ bd) Set.univ p Q

variable (M : Mem sig) (V : Pre F)

/-- A node-first array that agrees with `Y` on the chunks before `c`. -/
def filled {e : EltTy} (A : Memref sig .tc .vmem (ST 4096) e) (Y : (ST 4096).Idx → Elt F e) (c : ℕ) : sProp 𝕄 :=
  iprop(∃ T, ⌜∀ i, (i 0 : ℕ) < 512 * c → T i = Y i⌝ ∗ owns c₀ A fullShare T)

theorem filled_start {e : EltTy} (A : Memref sig .tc .vmem (ST 4096) e) (Y T : (ST 4096).Idx → Elt F e) :
    (owns c₀ A fullShare T : sProp 𝕄) ⊢ filled d A Y 0 := by
  unfold filled
  iintro H
  iexists T
  isplitr; · ipureintro; intro i hi; omega
  iexact H

theorem filled_end {e : EltTy} (A : Memref sig .tc .vmem (ST 4096) e) (Y : (ST 4096).Idx → Elt F e) :
    (filled d A Y 8 : sProp 𝕄) ⊢ owns c₀ A fullShare Y := by
  unfold filled
  iintro ⟨%T, %h, H⟩
  have : T = Y := funext fun i => h i (i 0).isLt
  rw [this]
  iexact H

/-- A chunk is taken in. -/
theorem step_takeIn (X : SX.Idx → F .f32) (g : Fin 4) (c k : ℕ) (hc : c < 8) (hk : k < 4) (Q : PUnit → sProp 𝕄) :
    iprop(owns c₀ (slotM M.xbuf k hk) fullShare (bufIn X g ⟨c, hc⟩) ∗ filled d M.xT (rowsX X g) c ∗ filled d M.sT (drive V X g) c)
      ⊢ iprop((iprop(owns c₀ (slotM M.xbuf k hk) fullShare (bufIn X g ⟨c, hc⟩) ∗ filled d M.xT (rowsX X g) (c + 1)
              ∗ filled d M.sT (drive V X g) (c + 1)) -∗ Q ⟨⟩)
          -∗ wp⟨takeIn M V.w12 V.bc c k hc hk, Q⟩) := by
  unfold filled
  iintro ⟨HY, ⟨%A, %hA, HX⟩, ⟨%B, %hB, HT⟩⟩ HQ
  unfold takeIn
  rw [wp_bind]
  iapply (step_loadPart 𝒱 d bd M.xbuf (bufR k hk)) $$ HY
  iintro HY
  rw [wp_bind]
  iapply (step_load 𝒱 d bd M.xT) $$ HX
  iintro HX
  rw [wp_bind]
  iapply (step_store 𝒱 d bd M.xT) $$ HX
  iintro HX
  rw [wp_bind]
  iapply (step_load 𝒱 d bd M.sT) $$ HT
  iintro HT
  iapply (step_store 𝒱 d bd M.sT) $$ HT
  iintro HT
  iapply HQ
  isplitl [HY]; · iexact HY
  isplitl [HX]
  · iexists _
    isplitr; swap
    · iexact HX
    · ipureintro
      refine overlay_fill c hc A (rowsX X g) _ hA fun j => ?_
      rw [shapeCast_same]; exact rowsX_chunk X g c hc j
  · iexists _
    isplitr; swap
    · iexact HT
    · ipureintro
      refine overlay_fill c hc B (drive V X g) _ hB fun j => ?_
      rw [shapeCast_same]; exact drive_chunk V X g c hc j

/-- One level. -/
theorem step_levelP (m : ℕ) (h0 : 0 < m) (hm : m ≤ 1024) (T : (ST 4096).Idx → F .f32)
    (cur : (ST (2 * m)).Idx → F .f32) (hcur : cur = rowsOf (2 * m - 1) (2 * m) (by omega) T)
    (Q : ((ST m).Idx → F .f32) → sProp 𝕄) :
    (owns c₀ M.sT fullShare T : sProp 𝕄)
      ⊢ iprop((owns c₀ M.sT fullShare (stepLevel V m hm T) -∗ Q (rowsOf (m - 1) m (by omega) (stepLevel V m hm T)))
          -∗ wp⟨levelP M V.laa V.lbb m h0 hm cur, Q⟩) := by
  subst hcur
  iintro HT HQ
  unfold levelP
  rw [wp_bind]
  iapply (step_load 𝒱 d bd M.sT) $$ HT
  iintro HT
  rw [wp_bind]
  iapply (step_load 𝒱 d bd M.sT) $$ HT
  iintro HT
  rw [wp_bind]
  iapply (step_store 𝒱 d bd M.sT) $$ HT
  iintro HT
  rw [wp_pure]
  have e : rowsOf (m - 1) m (by omega) (stepLevel V m hm T)
      = levelS m V.laa V.lbb (rowsOf (2 * m - 1) (2 * m) (by omega) T) (fun j : (rowsT (m - 1) m (by omega)).shape.Idx => T ((rowsT (m - 1) m (by omega)).emb j)) := by
    funext j; exact Rect.overlay_emb (rowsT (m - 1) m (by omega)) T _ j
  rw [shapeCast_same, e]
  imodintro
  iapply HQ
  iexact HT

theorem step_levelsP (T : (ST 4096).Idx → F .f32) (Q : PUnit → sProp 𝕄) :
    (owns c₀ M.sT fullShare T : sProp 𝕄)
      ⊢ iprop((owns c₀ M.sT fullShare (states V T) -∗ Q ⟨⟩) -∗ wp⟨levelsP M V.laa V.lbb, Q⟩) := by
  iintro HT HQ
  unfold levelsP
  rw [wp_bind]
  iapply (step_load 𝒱 d bd M.sT) $$ HT
  iintro HT
  rw [wp_bind]; iapply (step_levelP 𝒱 d bd M V 1024 _ _ _ _ rfl) $$ HT; iintro HT
  rw [wp_bind]; iapply (step_levelP 𝒱 d bd M V 512 _ _ _ _ rfl) $$ HT; iintro HT
  rw [wp_bind]; iapply (step_levelP 𝒱 d bd M V 256 _ _ _ _ rfl) $$ HT; iintro HT
  rw [wp_bind]; iapply (step_levelP 𝒱 d bd M V 128 _ _ _ _ rfl) $$ HT; iintro HT
  rw [wp_bind]; iapply (step_levelP 𝒱 d bd M V 64 _ _ _ _ rfl) $$ HT; iintro HT
  rw [wp_bind]; iapply (step_levelP 𝒱 d bd M V 32 _ _ _ _ rfl) $$ HT; iintro HT
  rw [wp_bind]; iapply (step_levelP 𝒱 d bd M V 16 _ _ _ _ rfl) $$ HT; iintro HT
  rw [wp_bind]; iapply (step_levelP 𝒱 d bd M V 8 _ _ _ _ rfl) $$ HT; iintro HT
  rw [wp_bind]; iapply (step_levelP 𝒱 d bd M V 4 _ _ _ _ rfl) $$ HT; iintro HT
  rw [wp_bind]; iapply (step_levelP 𝒱 d bd M V 2 _ _ _ _ rfl) $$ HT; iintro HT
  rw [wp_bind]; iapply (step_levelP 𝒱 d bd M V 1 _ _ _ _ rfl) $$ HT; iintro HT
  rw [wp_pure]
  imodintro
  iapply HQ
  iexact HT

/-- A chunk of the result is computed and, `before` having freed the buffer, put there. -/
theorem step_giveOut (X : SX.Idx → F .f32) (g : Fin 4) (c k : ℕ) (hc : c < 8) (hk : k < 4)
    (before : P F nD τ sig Λ PUnit) (A B : sProp 𝕄)
    (hb : ∀ Q : PUnit → sProp 𝕄, A ⊢ iprop((iprop((∃ Y, owns c₀ (slotM M.obuf k hk) fullShare Y) ∗ B) -∗ Q ⟨⟩) -∗ wp⟨before, Q⟩))
    (Q : PUnit → sProp 𝕄) :
    iprop(owns c₀ M.xT fullShare (rowsX X g) ∗ owns c₀ M.sT fullShare (states V (drive V X g)) ∗ A)
      ⊢ iprop((iprop(owns c₀ M.xT fullShare (rowsX X g) ∗ owns c₀ M.sT fullShare (states V (drive V X g))
              ∗ owns c₀ (slotM M.obuf k hk) fullShare (chunkOut V X g ⟨c, hc⟩) ∗ B) -∗ Q ⟨⟩)
          -∗ wp⟨giveOut M V.dw V.cc V.oc c k hc hk before, Q⟩) := by
  iintro ⟨HX, HT, HA⟩ HQ
  unfold giveOut
  rw [wp_bind]
  iapply (step_load 𝒱 d bd M.sT) $$ HT
  iintro HT
  rw [wp_bind]
  iapply (step_load 𝒱 d bd M.xT) $$ HX
  iintro HX
  rw [wp_bind]
  iapply (hb _) $$ HA
  iintro ⟨⟨%Y, HY⟩, HB⟩
  rw [wp_bind]
  iapply (step_loadPart 𝒱 d bd M.obuf (bufR k hk)) $$ HY
  iintro HY
  iapply (step_storePart 𝒱 d bd M.obuf (bufR k hk)) $$ HY
  iintro HY
  iapply HQ
  isplitl [HX]; · iexact HX
  isplitl [HT]; · iexact HT
  isplitl [HY]; · iexact HY
  iexact HB

end TreeScan

end
-- ==== Proof.Groups.lean ====
/-
  A group of eight batch members from its first chunk coming in to its last chunk on its way
  out, and the states between one group and the next.
-/
module

public import proofs.«01_k».proof.Proof.Chunks

@[expose] public section

noncomputable section

namespace TreeScan

open Idealize.ShloMosaic
open Idealize.SL
open Idealize.SL.BI (sProp)
open scoped Idealize.SL.BI
open Idealize.SL.BI.BIBase Idealize.SL.BI.Laws Idealize.SL.Sem Idealize.SL.ProofMode
open Idealize.SL.RA
open TcCoe Transfers

variable {F : FTy → Type} [FloatOps F]
variable {nD : ℕ} {τ : Topo} {sig : RefSig} {Λ : Labels}

local notation "𝕄" => MT nD τ sig Unit (Elt F) ℕ (Pipeline.UD sig nD τ) ℕ

variable {defs : Defs nD τ sig (Elt F) Λ} (𝒱 : Variants) (d : Dev nD) (bd : Option 𝒱.V)

local notation "c₀" => (d.tc : Thread nD τ)
local notation "wp⟨" p ", " Q "⟩" => wp frame (wpE defs 𝒱 c₀ bd) Set.univ p Q

variable (M : Mem sig) (V : Pre F) (X : SX.Idx → F .f32) (q : ℕ → PosShare TreeShare)

/-! ## The states of the rings -/

/-- A semaphore of the copies in, at rest. -/
def inRest (s : ℕ) (hs : s < 5) : sProp 𝕄 := semVal (c₀, SemLoc.dma (cell M.insem s hs)) 0
/-- A semaphore of the copies out, at rest. -/
def outRest (s : ℕ) (hs : s < 5) : sProp 𝕄 := semVal (c₀, SemLoc.dma (cell M.outsem s hs)) 0
/-- Input buffer `k` at rest, with its share of `x`. -/
def free (k : ℕ) (hk : k < 4) : sProp 𝕄 :=
  iprop(owns c₀ M.x (q k) X ∗ (∃ Y, owns c₀ (slotM M.xbuf k hk) fullShare Y) ∗ inRest d M k (by omega))
/-- Output buffer `k` at rest. -/
def freeOut (k : ℕ) (hk : k < 4) : sProp 𝕄 := iprop(∃ Y, owns c₀ (slotM M.obuf k hk) fullShare Y)
/-- A chunk of `x` on its way into buffer `k`. -/
def coming (g c k m s : ℕ) (hg : g < 4) (hc : c * 512 + m ≤ 4095) (hk : k < 4) (hm : m = 512 ∨ m = 511) (hs : s < 5) :
    sProp 𝕄 :=
  inFly d M (q k) X g c k m s hg hc hk hm hs (bufIn X ⟨g, hg⟩ ⟨c, by omega⟩)
/-- A chunk of the result on its way out of buffer `k`. -/
def going (g c k m s : ℕ) (hg : g < 4) (hc : c * 512 + m ≤ 4095) (hk : k < 4) (hm : m = 512 ∨ m = 511) (hs : s < 5) :
    sProp 𝕄 :=
  outFly d M g c k m s hg hc hk hm hs (chunkOut V X ⟨g, hg⟩ ⟨c, by omega⟩)
/-- A chunk of the result arrived. -/
def done (g c m : ℕ) (hg : g < 4) (hc : c * 512 + m ≤ 4095) (hm : m = 512 ∨ m = 511) : sProp 𝕄 :=
  owns c₀ (blockAt M.o g c m hg hc) fullShare (firstRows m hm (chunkOut V X ⟨g, hg⟩ ⟨c, by omega⟩))
/-- A chunk of the result still to be written. -/
def todo (g c m : ℕ) (hg : g < 4) (hc : c * 512 + m ≤ 4095) : sProp 𝕄 :=
  iprop(∃ Z : (SB m).Idx → F .f32, owns c₀ (blockAt M.o g c m hg hc) fullShare Z)
/-- Input buffer `c` before group `g`: the group's chunk on its way, or at rest after the last group. -/
def inAt (g c : ℕ) (hc : c < 3) : sProp 𝕄 :=
  if h : g < 4 then coming d M X q g c c 512 c h (by omega) (by omega) (.inl rfl) (by omega) else free d M X q c (by omega)
/-- Output buffer `k` before group `g`: the chunk of the group before on its way, or at rest before the first. -/
def outAt (g c k m s : ℕ) (hg : g ≤ 4) (hc : c * 512 + m ≤ 4095) (hk : k < 4) (hm : m = 512 ∨ m = 511) (hs : s < 5) :
    sProp 𝕄 :=
  if h : 0 < g then going d M V X (g - 1) c k m s (by omega) hc hk hm hs else iprop(freeOut d M k hk ∗ outRest d M s hs)
/-- The chunk of the group before `g`, if there is one, arrived. -/
def doneBefore (g c m : ℕ) (hg : g ≤ 4) (hc : c * 512 + m ≤ 4095) (hm : m = 512 ∨ m = 511) : sProp 𝕄 :=
  if h : 0 < g then done d M V X (g - 1) c m (by omega) hc hm else iprop(emp)

/-! ## Coming in -/

theorem step_start (g c k m s : ℕ) (hg : g < 4) (hc : c * 512 + m ≤ 4095)
    (hk : k < 4) (hm : m = 512 ∨ m = 511) (hs : s < 5) (Y : (SS 512).Idx → F .f32)
    (hY : landed g c m hg hc X Y = bufIn X ⟨g, hg⟩ ⟨c, by omega⟩) (Q : PUnit → sProp 𝕄) :
    iprop(owns c₀ M.x (q k) X ∗ owns c₀ (slotM M.xbuf k hk) fullShare Y ∗ inRest d M s hs)
      ⊢ iprop((coming d M X q g c k m s hg hc hk hm hs -∗ Q ⟨⟩) -∗ wp⟨startIn M g c k m s hg hc hk hm hs, Q⟩) := by
  unfold coming inRest
  rw [← hY]
  exact step_startIn 𝒱 d bd M (q k) X g c k m s hg hc hk hm hs Y Q

/-- The wait for a chunk and its passage into the node-first arrays. -/
theorem step_come (g c k m s : ℕ) (hg : g < 4) (hc : c * 512 + m ≤ 4095) (hc' : c < 8)
    (hk : k < 4) (hm : m = 512 ∨ m = 511) (hs : s < 5) {α : Type} (rest : PUnit → P F nD τ sig Λ α) (Q : α → sProp 𝕄) :
    iprop(coming d M X q g c k m s hg hc hk hm hs ∗ filled d M.xT (rowsX X ⟨g, hg⟩) c ∗ filled d M.sT (drive V X ⟨g, hg⟩) c
        ∗ Owes d)
      ⊢ iprop((iprop(owns c₀ M.x (q k) X ∗ owns c₀ (slotM M.xbuf k hk) fullShare (bufIn X ⟨g, hg⟩ ⟨c, hc'⟩)
              ∗ inRest d M s hs ∗ filled d M.xT (rowsX X ⟨g, hg⟩) (c + 1) ∗ filled d M.sT (drive V X ⟨g, hg⟩) (c + 1)
              ∗ Owes d) -∗ wp⟨rest ⟨⟩, Q⟩)
          -∗ wp⟨waitIn M g c k m s hg hc hk hm hs >>= fun _ => takeIn M V.w12 V.bc c k hc' hk >>= rest, Q⟩) := by
  unfold coming inRest
  iintro ⟨HC, HA, HB, HO⟩ HQ
  rw [wp_bind]
  iapply (step_waitIn 𝒱 d bd M (q k) X g c k m s hg hc hk hm hs _ _) $$ [HC HO]
  · isplitl [HC]; · iexact HC
    iexact HO
  iintro ⟨HX, HY, HS, HO⟩
  rw [wp_bind]
  iapply (step_takeIn 𝒱 d bd M V X ⟨g, hg⟩ c k hc' hk _) $$ [HY HA HB]
  · isplitl [HY]; · iexact HY
    isplitl [HA]; · iexact HA
    iexact HB
  iintro ⟨HY, HA, HB⟩
  iapply HQ
  isplitl [HX]; · iexact HX
  isplitl [HY]; · iexact HY
  isplitl [HS]; · iexact HS
  isplitl [HA]; · iexact HA
  isplitl [HB]; · iexact HB
  iexact HO

theorem to_free (k : ℕ) (hk : k < 4) (Y : (SS 512).Idx → F .f32) :
    iprop(owns c₀ M.x (q k) X ∗ owns c₀ (slotM M.xbuf k hk) fullShare Y ∗ inRest d M k (by omega) : sProp 𝕄)
      ⊢ free d M X q k hk := by
  unfold free
  iintro ⟨HX, HY, HS⟩
  isplitl [HX]; · iexact HX
  isplitl [HY]; · iexists Y; iassumption
  iassumption

/-- The eight chunks of a group come in. -/
theorem step_groupIn (g : ℕ) (hg : g < 4) (Q : PUnit → sProp 𝕄) :
    iprop(coming d M X q g 0 0 512 0 hg (by decide) (by decide) (.inl rfl) (by decide)
        ∗ coming d M X q g 1 1 512 1 hg (by decide) (by decide) (.inl rfl) (by decide)
        ∗ coming d M X q g 2 2 512 2 hg (by decide) (by decide) (.inl rfl) (by decide)
        ∗ free d M X q 3 (by decide) ∗ inRest d M 4 (by decide)
        ∗ filled d M.xT (rowsX X ⟨g, hg⟩) 0 ∗ filled d M.sT (drive V X ⟨g, hg⟩) 0 ∗ Owes d)
      ⊢ iprop((iprop(free d M X q 0 (by decide) ∗ free d M X q 1 (by decide) ∗ free d M X q 2 (by decide)
            ∗ free d M X q 3 (by decide) ∗ inRest d M 4 (by decide)
            ∗ owns c₀ M.xT fullShare (rowsX X ⟨g, hg⟩) ∗ owns c₀ M.sT fullShare (drive V X ⟨g, hg⟩) ∗ Owes d) -∗ Q ⟨⟩)
          -∗ wp⟨groupIn M V g hg, Q⟩) := by
  iintro ⟨H0, H1, H2, H3, HS4, HA, HB, HO⟩ HQ
  ihave H3' := (show free d M X q 3 _ ⊢ iprop(owns c₀ M.x (q 3) X
    ∗ (∃ Y, owns c₀ (slotM M.xbuf 3 (by decide)) fullShare Y) ∗ inRest d M 3 (by decide)) from .rfl) $$ H3
  icases H3' with ⟨HX3, ⟨%Y3, HY3⟩, HS3⟩
  unfold groupIn
  iapply (step_come 𝒱 d bd M V X q g 0 0 512 0 hg _ _ _ _ _ _ _) $$ [H0 HA HB HO]
  · isplitl [H0]; · iexact H0
    isplitl [HA]; · iexact HA
    isplitl [HB]; · iexact HB
    iexact HO
  iintro ⟨HX0, HY0, HS0, HA, HB, HO⟩
  rw [wp_bind]
  iapply (step_start 𝒱 d bd M X q g 3 3 512 3 hg _ _ _ _ Y3 (landed_full g 3 hg (by decide) X _) _) $$ [HX3 HY3 HS3]
  · isplitl [HX3]; · iexact HX3
    isplitl [HY3]; · iexact HY3
    iexact HS3
  iintro H3
  iapply (step_come 𝒱 d bd M V X q g 1 1 512 1 hg _ _ _ _ _ _ _) $$ [H1 HA HB HO]
  · isplitl [H1]; · iexact H1
    isplitl [HA]; · iexact HA
    isplitl [HB]; · iexact HB
    iexact HO
  iintro ⟨HX1, HY1, HS1, HA, HB, HO⟩
  rw [wp_bind]
  iapply (step_start 𝒱 d bd M X q g 4 0 512 0 hg _ _ _ _ _ (landed_full g 4 hg (by decide) X _) _) $$ [HX0 HY0 HS0]
  · isplitl [HX0]; · iexact HX0
    isplitl [HY0]; · iexact HY0
    iexact HS0
  iintro H0
  iapply (step_come 𝒱 d bd M V X q g 2 2 512 2 hg _ _ _ _ _ _ _) $$ [H2 HA HB HO]
  · isplitl [H2]; · iexact H2
    isplitl [HA]; · iexact HA
    isplitl [HB]; · iexact HB
    iexact HO
  iintro ⟨HX2, HY2, HS2, HA, HB, HO⟩
  rw [wp_bind]
  iapply (step_start 𝒱 d bd M X q g 5 1 512 1 hg _ _ _ _ _ (landed_full g 5 hg (by decide) X _) _) $$ [HX1 HY1 HS1]
  · isplitl [HX1]; · iexact HX1
    isplitl [HY1]; · iexact HY1
    iexact HS1
  iintro H1
  iapply (step_come 𝒱 d bd M V X q g 3 3 512 3 hg _ _ _ _ _ _ _) $$ [H3 HA HB HO]
  · isplitl [H3]; · iexact H3
    isplitl [HA]; · iexact HA
    isplitl [HB]; · iexact HB
    iexact HO
  iintro ⟨HX3, HY3, HS3, HA, HB, HO⟩
  rw [wp_bind]
  iapply (step_start 𝒱 d bd M X q g 6 2 512 2 hg _ _ _ _ _ (landed_full g 6 hg (by decide) X _) _) $$ [HX2 HY2 HS2]
  · isplitl [HX2]; · iexact HX2
    isplitl [HY2]; · iexact HY2
    iexact HS2
  iintro H2
  iapply (step_come 𝒱 d bd M V X q g 4 0 512 0 hg _ _ _ _ _ _ _) $$ [H0 HA HB HO]
  · isplitl [H0]; · iexact H0
    isplitl [HA]; · iexact HA
    isplitl [HB]; · iexact HB
    iexact HO
  iintro ⟨HX0, HY0, HS0, HA, HB, HO⟩
  rw [wp_bind]
  iapply (step_start 𝒱 d bd M X q g 7 3 511 4 hg _ _ _ _ _ (landed_last g hg X) _) $$ [HX3 HY3 HS4]
  · isplitl [HX3]; · iexact HX3
    isplitl [HY3]; · iexact HY3
    iexact HS4
  iintro H3
  iapply (step_come 𝒱 d bd M V X q g 5 1 512 1 hg _ _ _ _ _ _ _) $$ [H1 HA HB HO]
  · isplitl [H1]; · iexact H1
    isplitl [HA]; · iexact HA
    isplitl [HB]; · iexact HB
    iexact HO
  iintro ⟨HX1, HY1, HS1, HA, HB, HO⟩
  iapply (step_come 𝒱 d bd M V X q g 6 2 512 2 hg _ _ _ _ _ _ _) $$ [H2 HA HB HO]
  · isplitl [H2]; · iexact H2
    isplitl [HA]; · iexact HA
    isplitl [HB]; · iexact HB
    iexact HO
  iintro ⟨HX2, HY2, HS2, HA, HB, HO⟩
  rw [← bind_pure (takeIn M V.w12 V.bc 7 3 (by decide) (by decide))]
  iapply (step_come 𝒱 d bd M V X q g 7 3 511 4 hg _ _ _ _ _ _ _) $$ [H3 HA HB HO]
  · isplitl [H3]; · iexact H3
    isplitl [HA]; · iexact HA
    isplitl [HB]; · iexact HB
    iexact HO
  iintro ⟨HX3, HY3, HS4, HA, HB, HO⟩
  rw [wp_pure]
  imodintro
  iapply HQ
  isplitl [HX0 HY0 HS0]
  · iapply (to_free d M X q 0 _ _)
    isplitl [HX0]; · iexact HX0
    isplitl [HY0]; · iexact HY0
    iexact HS0
  isplitl [HX1 HY1 HS1]
  · iapply (to_free d M X q 1 _ _)
    isplitl [HX1]; · iexact HX1
    isplitl [HY1]; · iexact HY1
    iexact HS1
  isplitl [HX2 HY2 HS2]
  · iapply (to_free d M X q 2 _ _)
    isplitl [HX2]; · iexact HX2
    isplitl [HY2]; · iexact HY2
    iexact HS2
  isplitl [HX3 HY3 HS3]
  · iapply (to_free d M X q 3 _ _)
    isplitl [HX3]; · iexact HX3
    isplitl [HY3]; · iexact HY3
    iexact HS3
  isplitl [HS4]; · iexact HS4
  isplitl [HA]; · iapply (filled_end d M.xT _); iexact HA
  isplitl [HB]; · iapply (filled_end d M.sT _); iexact HB
  iexact HO

/-- A chunk of the next group, if there is one, is started. -/
theorem step_startNext (g c : ℕ) (hc : c < 3) (Q : PUnit → sProp 𝕄) :
    (free d M X q c (by omega) : sProp 𝕄)
      ⊢ iprop((inAt d M X q (g + 1) c hc -∗ Q ⟨⟩) -∗ wp⟨startNext M g c hc, Q⟩) := by
  unfold startNext inAt
  by_cases h : g + 1 < 4
  · rw [dif_pos h, dif_pos h]
    unfold free
    iintro ⟨HX, ⟨%Y, HY⟩, HS⟩ HQ
    iapply (step_start 𝒱 d bd M X q (g + 1) c c 512 c h _ _ _ _ Y (landed_full (g + 1) c h (by omega) X _) _) $$ [HX HY HS]
    · isplitl [HX]; · iexact HX
      isplitl [HY]; · iexact HY
      iexact HS
    iexact HQ
  · rw [dif_neg h, dif_neg h]
    iintro H HQ
    rw [wp_pure]
    imodintro
    iapply HQ
    iexact H

/-! ## Going out -/

/-- The wait for a chunk of the result. -/
theorem step_gone (g c k m s : ℕ) (hg : g < 4) (hc : c * 512 + m ≤ 4095)
    (hk : k < 4) (hm : m = 512 ∨ m = 511) (hs : s < 5) (Q : PUnit → sProp 𝕄) :
    iprop(going d M V X g c k m s hg hc hk hm hs ∗ Owes d)
      ⊢ iprop((iprop((∃ Y, owns c₀ (slotM M.obuf k hk) fullShare Y) ∗ (done d M V X g c m hg hc hm ∗ outRest d M s hs ∗ Owes d))
              -∗ Q ⟨⟩)
          -∗ wp⟨waitOut M g c k m s hg hc hk hm hs, Q⟩) := by
  unfold going
  iintro H HQ
  iapply (step_waitOut 𝒱 d bd M g c k m s hg hc hk hm hs _ Q) $$ H
  iintro ⟨HY, HD, HS, HO⟩
  iapply HQ
  isplitl [HY]; · iexists _; iexact HY
  isplitl [HD]; · unfold done; iexact HD
  isplitl [HS]; · unfold outRest; iexact HS
  iexact HO

/-- The wait for a chunk of the group before. -/
theorem step_waitPrev (g c k m s : ℕ) (hg : g < 4) (hc : c * 512 + m ≤ 4095)
    (hk : k < 4) (hm : m = 512 ∨ m = 511) (hs : s < 5) (Q : PUnit → sProp 𝕄) :
    iprop(outAt d M V X g c k m s hg.le hc hk hm hs ∗ Owes d)
      ⊢ iprop((iprop((∃ Y, owns c₀ (slotM M.obuf k hk) fullShare Y)
              ∗ (doneBefore d M V X g c m hg.le hc hm ∗ outRest d M s hs ∗ Owes d)) -∗ Q ⟨⟩)
          -∗ wp⟨waitPrev M g c k m s hg hc hk hm hs, Q⟩) := by
  unfold waitPrev outAt doneBefore
  by_cases h : 0 < g
  · rw [dif_pos h, dif_pos h, dif_pos h]
    exact step_gone 𝒱 d bd M V X (g - 1) c k m s (by omega) hc hk hm hs Q
  · rw [dif_neg h, dif_neg h, dif_neg h]
    unfold freeOut
    iintro ⟨⟨HY, HS⟩, HO⟩ HQ
    rw [wp_pure]
    imodintro
    iapply HQ
    isplitl [HY]; · iexact HY
    isplitr; · exact .rfl
    isplitl [HS]; · iexact HS
    iexact HO

/-- A chunk of the result is computed once `before` has freed its buffer, and started out. -/
theorem step_give (g c k m s : ℕ) (hg : g < 4) (hc : c * 512 + m ≤ 4095) (hc' : c < 8)
    (hk : k < 4) (hm : m = 512 ∨ m = 511) (hs : s < 5) (before : P F nD τ sig Λ PUnit) (A B C : sProp 𝕄)
    (hb : ∀ Q : PUnit → sProp 𝕄,
      A ⊢ iprop((iprop((∃ Y, owns c₀ (slotM M.obuf k hk) fullShare Y) ∗ B) -∗ Q ⟨⟩) -∗ wp⟨before, Q⟩))
    (hB : B ⊢ iprop(outRest d M s hs ∗ C))
    {α : Type} (rest : PUnit → P F nD τ sig Λ α) (Q : α → sProp 𝕄) :
    iprop(owns c₀ M.xT fullShare (rowsX X ⟨g, hg⟩) ∗ owns c₀ M.sT fullShare (states V (drive V X ⟨g, hg⟩))
        ∗ todo d M g c m hg hc ∗ A)
      ⊢ iprop((iprop(owns c₀ M.xT fullShare (rowsX X ⟨g, hg⟩) ∗ owns c₀ M.sT fullShare (states V (drive V X ⟨g, hg⟩))
              ∗ going d M V X g c k m s hg hc hk hm hs ∗ C) -∗ wp⟨rest ⟨⟩, Q⟩)
          -∗ wp⟨giveOut M V.dw V.cc V.oc c k hc' hk before >>= fun _ => startOut M g c k m s hg hc hk hm hs >>= rest, Q⟩) := by
  unfold todo
  iintro ⟨HX, HT, ⟨%Z, HZ⟩, HA⟩ HQ
  rw [wp_bind]
  iapply (step_giveOut 𝒱 d bd M V X ⟨g, hg⟩ c k hc' hk before A B hb _) $$ [HX HT HA]
  · isplitl [HX]; · iexact HX
    isplitl [HT]; · iexact HT
    iexact HA
  iintro ⟨HX, HT, HY, HB⟩
  ihave HB' := hB $$ HB
  icases HB' with ⟨HS, HC⟩
  rw [wp_bind]
  iapply (step_startOut 𝒱 d bd M g c k m s hg hc hk hm hs _ Z _) $$ [HY HZ HS]
  · isplitl [HY]; · iexact HY
    isplitl [HZ]; · iexact HZ
    unfold outRest; iexact HS
  iintro HF
  iapply HQ
  isplitl [HX]; · iexact HX
  isplitl [HT]; · iexact HT
  isplitl [HF]; · unfold going; iexact HF
  iexact HC

/-- What is kept through the wait. -/
theorem before_frame {k : ℕ} {hk : k < 4} {before : P F nD τ sig Λ PUnit} {A B : sProp 𝕄} (D : sProp 𝕄)
    (hb : ∀ Q : PUnit → sProp 𝕄,
      A ⊢ iprop((iprop((∃ Y, owns c₀ (slotM M.obuf k hk) fullShare Y) ∗ B) -∗ Q ⟨⟩) -∗ wp⟨before, Q⟩))
    (Q : PUnit → sProp 𝕄) :
    iprop(A ∗ D) ⊢ iprop((iprop((∃ Y, owns c₀ (slotM M.obuf k hk) fullShare Y) ∗ (B ∗ D)) -∗ Q ⟨⟩) -∗ wp⟨before, Q⟩) := by
  iintro ⟨HA, HD⟩ HQ
  iapply (hb Q) $$ HA
  iintro ⟨HY, HB⟩
  iapply HQ
  isplitl [HY]; · iexact HY
  isplitl [HB]; · iexact HB
  iexact HD

theorem take_rest {A S O : sProp 𝕄} : iprop(A ∗ S ∗ O) ⊢ iprop(S ∗ (A ∗ O)) := by
  iintro ⟨HA, HS, HO⟩
  isplitl [HS]; · iexact HS
  isplitl [HA]; · iexact HA
  iexact HO

/-- The eight chunks of a group go out, and the next group's second and third are started in. -/
theorem step_groupOut (g : ℕ) (hg : g < 4) (Q : PUnit → sProp 𝕄) :
    iprop(owns c₀ M.xT fullShare (rowsX X ⟨g, hg⟩) ∗ owns c₀ M.sT fullShare (states V (drive V X ⟨g, hg⟩))
        ∗ (free d M X q 1 (by decide) ∗ free d M X q 2 (by decide))
        ∗ (outAt d M V X g 4 0 512 0 hg.le (by decide) (by decide) (.inl rfl) (by decide)
          ∗ outAt d M V X g 5 1 512 1 hg.le (by decide) (by decide) (.inl rfl) (by decide)
          ∗ outAt d M V X g 6 2 512 2 hg.le (by decide) (by decide) (.inl rfl) (by decide)
          ∗ outAt d M V X g 7 3 511 4 hg.le (by decide) (by decide) (.inr rfl) (by decide))
        ∗ outRest d M 3 (by decide)
        ∗ (todo d M g 0 512 hg (by decide) ∗ todo d M g 1 512 hg (by decide) ∗ todo d M g 2 512 hg (by decide)
          ∗ todo d M g 3 512 hg (by decide) ∗ todo d M g 4 512 hg (by decide) ∗ todo d M g 5 512 hg (by decide)
          ∗ todo d M g 6 512 hg (by decide) ∗ todo d M g 7 511 hg (by decide))
        ∗ Owes d)
      ⊢ iprop((iprop(owns c₀ M.xT fullShare (rowsX X ⟨g, hg⟩) ∗ owns c₀ M.sT fullShare (states V (drive V X ⟨g, hg⟩))
            ∗ (inAt d M X q (g + 1) 1 (by decide) ∗ inAt d M X q (g + 1) 2 (by decide))
            ∗ (going d M V X g 4 0 512 0 hg (by decide) (by decide) (.inl rfl) (by decide)
              ∗ going d M V X g 5 1 512 1 hg (by decide) (by decide) (.inl rfl) (by decide)
              ∗ going d M V X g 6 2 512 2 hg (by decide) (by decide) (.inl rfl) (by decide)
              ∗ going d M V X g 7 3 511 4 hg (by decide) (by decide) (.inr rfl) (by decide))
            ∗ outRest d M 3 (by decide)
            ∗ (done d M V X g 0 512 hg (by decide) (.inl rfl) ∗ done d M V X g 1 512 hg (by decide) (.inl rfl)
              ∗ done d M V X g 2 512 hg (by decide) (.inl rfl) ∗ done d M V X g 3 512 hg (by decide) (.inl rfl))
            ∗ (doneBefore d M V X g 4 512 hg.le (by decide) (.inl rfl) ∗ doneBefore d M V X g 5 512 hg.le (by decide) (.inl rfl)
              ∗ doneBefore d M V X g 6 512 hg.le (by decide) (.inl rfl) ∗ doneBefore d M V X g 7 511 hg.le (by decide) (.inr rfl))
            ∗ Owes d) -∗ Q ⟨⟩)
          -∗ wp⟨groupOut M V g hg, Q⟩) := by
  iintro ⟨HX, HT, ⟨HF1, HF2⟩, ⟨HP0, HP1, HP2, HP3⟩, HS3, ⟨HZ0, HZ1, HZ2, HZ3, HZ4, HZ5, HZ6, HZ7⟩, HO⟩ HQ
  unfold groupOut
  iapply (step_give 𝒱 d bd M V X g 0 0 512 0 hg _ _ _ _ _ _ _ _ _
    (step_waitPrev 𝒱 d bd M V X g 4 0 512 0 hg _ _ _ _) take_rest _ _) $$ [HX HT HZ0 HP0 HO]
  · isplitl [HX]; · iexact HX
    isplitl [HT]; · iexact HT
    isplitl [HZ0]; · iexact HZ0
    isplitl [HP0]; · iexact HP0
    iexact HO
  iintro ⟨HX, HT, HG0, HD4, HO⟩
  iapply (step_give 𝒱 d bd M V X g 1 1 512 1 hg _ _ _ _ _ _ _ _ _
    (step_waitPrev 𝒱 d bd M V X g 5 1 512 1 hg _ _ _ _) take_rest _ _) $$ [HX HT HZ1 HP1 HO]
  · isplitl [HX]; · iexact HX
    isplitl [HT]; · iexact HT
    isplitl [HZ1]; · iexact HZ1
    isplitl [HP1]; · iexact HP1
    iexact HO
  iintro ⟨HX, HT, HG1, HD5, HO⟩
  rw [wp_bind]
  iapply (step_startNext 𝒱 d bd M X q g 1 _ _) $$ HF1
  iintro HF1
  iapply (step_give 𝒱 d bd M V X g 2 2 512 2 hg _ _ _ _ _ _ _ _ _
    (step_waitPrev 𝒱 d bd M V X g 6 2 512 2 hg _ _ _ _) take_rest _ _) $$ [HX HT HZ2 HP2 HO]
  · isplitl [HX]; · iexact HX
    isplitl [HT]; · iexact HT
    isplitl [HZ2]; · iexact HZ2
    isplitl [HP2]; · iexact HP2
    iexact HO
  iintro ⟨HX, HT, HG2, HD6, HO⟩
  rw [wp_bind]
  iapply (step_startNext 𝒱 d bd M X q g 2 _ _) $$ HF2
  iintro HF2
  iapply (step_give 𝒱 d bd M V X g 3 3 512 3 hg _ _ _ _ _ _ _ _ _
    (before_frame 𝒱 d bd M (outRest d M 3 _) (step_waitPrev 𝒱 d bd M V X g 7 3 511 4 hg _ _ _ _))
    sep_comm.1 _ _) $$ [HX HT HZ3 HP3 HO HS3]
  · isplitl [HX]; · iexact HX
    isplitl [HT]; · iexact HT
    isplitl [HZ3]; · iexact HZ3
    isplitr [HS3]; swap; · iexact HS3
    isplitl [HP3]; · iexact HP3
    iexact HO
  iintro ⟨HX, HT, HG3, HD7, HS4, HO⟩
  iapply (step_give 𝒱 d bd M V X g 4 0 512 0 hg _ _ _ _ _ _ _ _ _
    (step_gone 𝒱 d bd M V X g 0 0 512 0 hg _ _ _ _) take_rest _ _) $$ [HX HT HZ4 HG0 HO]
  · isplitl [HX]; · iexact HX
    isplitl [HT]; · iexact HT
    isplitl [HZ4]; · iexact HZ4
    isplitl [HG0]; · iexact HG0
    iexact HO
  iintro ⟨HX, HT, HG4, HD0, HO⟩
  iapply (step_give 𝒱 d bd M V X g 5 1 512 1 hg _ _ _ _ _ _ _ _ _
    (step_gone 𝒱 d bd M V X g 1 1 512 1 hg _ _ _ _) take_rest _ _) $$ [HX HT HZ5 HG1 HO]
  · isplitl [HX]; · iexact HX
    isplitl [HT]; · iexact HT
    isplitl [HZ5]; · iexact HZ5
    isplitl [HG1]; · iexact HG1
    iexact HO
  iintro ⟨HX, HT, HG5, HD1, HO⟩
  iapply (step_give 𝒱 d bd M V X g 6 2 512 2 hg _ _ _ _ _ _ _ _ _
    (step_gone 𝒱 d bd M V X g 2 2 512 2 hg _ _ _ _) take_rest _ _) $$ [HX HT HZ6 HG2 HO]
  · isplitl [HX]; · iexact HX
    isplitl [HT]; · iexact HT
    isplitl [HZ6]; · iexact HZ6
    isplitl [HG2]; · iexact HG2
    iexact HO
  iintro ⟨HX, HT, HG6, HD2, HO⟩
  rw [← bind_pure (startOut M g 7 3 511 4 hg (by decide) (by decide) (by decide) (by decide))]
  iapply (step_give 𝒱 d bd M V X g 7 3 511 4 hg _ _ _ _ _ _ _ _ _
    (before_frame 𝒱 d bd M (outRest d M 4 _) (step_gone 𝒱 d bd M V X g 3 3 512 3 hg _ _ _ _))
    sep_comm.1 _ _) $$ [HX HT HZ7 HG3 HO HS4]
  · isplitl [HX]; · iexact HX
    isplitl [HT]; · iexact HT
    isplitl [HZ7]; · iexact HZ7
    isplitr [HS4]; swap; · iexact HS4
    isplitl [HG3]; · iexact HG3
    iexact HO
  iintro ⟨HX, HT, HG7, HD3, HS3, HO⟩
  rw [wp_pure]
  imodintro
  iapply HQ
  isplitl [HX]; · iexact HX
  isplitl [HT]; · iexact HT
  isplitl [HF1 HF2]
  · isplitl [HF1]; · iexact HF1
    iexact HF2
  isplitl [HG4 HG5 HG6 HG7]
  · isplitl [HG4]; · iexact HG4
    isplitl [HG5]; · iexact HG5
    isplitl [HG6]; · iexact HG6
    iexact HG7
  isplitl [HS3]; · iexact HS3
  isplitl [HD0 HD1 HD2 HD3]
  · isplitl [HD0]; · iexact HD0
    isplitl [HD1]; · iexact HD1
    isplitl [HD2]; · iexact HD2
    iexact HD3
  isplitl [HD4 HD5 HD6 HD7]
  · isplitl [HD4]; · iexact HD4
    isplitl [HD5]; · iexact HD5
    isplitl [HD6]; · iexact HD6
    iexact HD7
  iexact HO

/-! ## A group -/

/-- The rings, the node-first arrays and the waits between group `g - 1` and group `g`. -/
def between (g : ℕ) (hg : g ≤ 4) : sProp 𝕄 :=
  iprop((inAt d M X q g 0 (by decide) ∗ inAt d M X q g 1 (by decide) ∗ inAt d M X q g 2 (by decide))
    ∗ free d M X q 3 (by decide) ∗ inRest d M 4 (by decide)
    ∗ (outAt d M V X g 4 0 512 0 hg (by decide) (by decide) (.inl rfl) (by decide)
      ∗ outAt d M V X g 5 1 512 1 hg (by decide) (by decide) (.inl rfl) (by decide)
      ∗ outAt d M V X g 6 2 512 2 hg (by decide) (by decide) (.inl rfl) (by decide)
      ∗ outAt d M V X g 7 3 511 4 hg (by decide) (by decide) (.inr rfl) (by decide))
    ∗ outRest d M 3 (by decide)
    ∗ (∃ T, owns c₀ M.xT fullShare T) ∗ (∃ T, owns c₀ M.sT fullShare T) ∗ Owes d)

/-- The result's chunks of group `g`, still to be written. -/
def todos (g : ℕ) (hg : g < 4) : sProp 𝕄 :=
  iprop(todo d M g 0 512 hg (by decide) ∗ todo d M g 1 512 hg (by decide) ∗ todo d M g 2 512 hg (by decide)
    ∗ todo d M g 3 512 hg (by decide) ∗ todo d M g 4 512 hg (by decide) ∗ todo d M g 5 512 hg (by decide)
    ∗ todo d M g 6 512 hg (by decide) ∗ todo d M g 7 511 hg (by decide))

/-- The first four chunks of group `g`, written. -/
def dones (g : ℕ) (hg : g < 4) : sProp 𝕄 :=
  iprop(done d M V X g 0 512 hg (by decide) (.inl rfl) ∗ done d M V X g 1 512 hg (by decide) (.inl rfl)
    ∗ done d M V X g 2 512 hg (by decide) (.inl rfl) ∗ done d M V X g 3 512 hg (by decide) (.inl rfl))

/-- The last four chunks of the group before `g`, written. -/
def donesBefore (g : ℕ) (hg : g ≤ 4) : sProp 𝕄 :=
  iprop(doneBefore d M V X g 4 512 hg (by decide) (.inl rfl) ∗ doneBefore d M V X g 5 512 hg (by decide) (.inl rfl)
    ∗ doneBefore d M V X g 6 512 hg (by decide) (.inl rfl) ∗ doneBefore d M V X g 7 511 hg (by decide) (.inr rfl))

/-- One group. -/
theorem step_group (g : ℕ) (hg : g < 4) (Q : PUnit → sProp 𝕄) :
    iprop(between d M V X q g hg.le ∗ todos d M g hg)
      ⊢ iprop((iprop(between d M V X q (g + 1) hg ∗ dones d M V X g hg ∗ donesBefore d M V X g hg.le) -∗ Q ⟨⟩)
          -∗ wp⟨group M V g hg, Q⟩) := by
  have eIn (c : ℕ) (hc : c < 3) : inAt (F := F) (nD := nD) (τ := τ) d M X q g c hc
      = coming d M X q g c c 512 c hg (by omega) (by omega) (.inl rfl) (by omega) := dif_pos hg
  have eOut (c k m s : ℕ) (hc : c * 512 + m ≤ 4095) (hk : k < 4) (hm : m = 512 ∨ m = 511) (hs : s < 5) :
      outAt (F := F) (nD := nD) (τ := τ) d M V X (g + 1) c k m s hg hc hk hm hs
        = going d M V X g c k m s hg hc hk hm hs := dif_pos (Nat.succ_pos g)
  unfold between todos
  simp only [eIn, eOut]
  iintro ⟨⟨⟨H0, H1, H2⟩, H3, HS4, HP, HS3, ⟨%A, HA⟩, ⟨%B, HB⟩, HO⟩, HZ⟩ HQ
  unfold group
  rw [wp_bind]
  iapply (step_groupIn 𝒱 d bd M V X q g hg _) $$ [H0 H1 H2 H3 HS4 HA HB HO]
  · isplitl [H0]; · iexact H0
    isplitl [H1]; · iexact H1
    isplitl [H2]; · iexact H2
    isplitl [H3]; · iexact H3
    isplitl [HS4]; · iexact HS4
    isplitl [HA]; · iapply (filled_start d M.xT _ A); iexact HA
    isplitl [HB]; · iapply (filled_start d M.sT _ B); iexact HB
    iexact HO
  iintro ⟨H0, H1, H2, H3, HS4, HA, HB, HO⟩
  rw [wp_bind]
  iapply (step_startNext 𝒱 d bd M X q g 0 _ _) $$ H0
  iintro H0
  rw [wp_bind]
  iapply (step_levelsP 𝒱 d bd M V _ _) $$ HB
  iintro HB
  iapply (step_groupOut 𝒱 d bd M V X q g hg _) $$ [H1 H2 HA HB HP HS3 HZ HO]
  · isplitl [HA]; · iexact HA
    isplitl [HB]; · iexact HB
    isplitl [H1 H2]
    · isplitl [H1]; · iexact H1
      iexact H2
    isplitl [HP]; · iexact HP
    isplitl [HS3]; · iexact HS3
    isplitl [HZ]; · iexact HZ
    iexact HO
  iintro ⟨HA, HB, ⟨H1, H2⟩, HP, HS3, HD, HE, HO⟩
  iapply HQ
  isplitr [HD HE]; swap
  · isplitl [HD]; · unfold dones; iexact HD
    unfold donesBefore; iexact HE
  isplitl [H0 H1 H2]
  · isplitl [H0]; · iexact H0
    isplitl [H1]; · iexact H1
    iexact H2
  isplitl [H3]; · iexact H3
  isplitl [HS4]; · iexact HS4
  isplitl [HP]; · iexact HP
  isplitl [HS3]; · iexact HS3
  isplitl [HA]; · iexists _; iexact HA
  isplitl [HB]; · iexists _; iexact HB
  iexact HO

end TreeScan

end
-- ==== Proof.Whole.lean ====
/-
  The rings as their four buffers, the result as its thirty-two chunks, and `x` as four shares;
  then the whole body.
-/
module

public import proofs.«01_k».proof.Proof.Groups
public import Idealize.ShloMosaic.Lib.MemrefSat

@[expose] public section

noncomputable section

namespace TreeScan

open Idealize.ShloMosaic
open Idealize.SL
open Idealize.SL.BI (sProp)
open scoped Idealize.SL.BI
open Idealize.SL.BI.BIBase Idealize.SL.BI.Laws Idealize.SL.Sem Idealize.SL.ProofMode
open Idealize.SL.RA
open TcCoe Transfers

variable {F : FTy → Type} [FloatOps F]
variable {nD : ℕ} {τ : Topo} {sig : RefSig} {Λ : Labels}

local notation "𝕄" => MT nD τ sig Unit (Elt F) ℕ (Pipeline.UD sig nD τ) ℕ

variable {defs : Defs nD τ sig (Elt F) Λ} (𝒱 : Variants) (d : Dev nD) (bd : Option 𝒱.V)

local notation "c₀" => (d.tc : Thread nD τ)
local notation "wp⟨" p ", " Q "⟩" => wp frame (wpE defs 𝒱 c₀ bd) Set.univ p Q

variable (M : Mem sig) (V : Pre F) (X : SX.Idx → F .f32) (q : ℕ → PosShare TreeShare)

/-! ## The rings -/

theorem emb_mem {s : Shape} (r : Rect s) (j : r.shape.Idx) : r.emb j ∈ r.set := by
  rw [← Rect.map_emb_univ]
  exact Finset.mem_map_of_mem _ (Finset.mem_univ j)

/-- The ring's buffers. -/
abbrev bufs (k : Fin 4) : Rect SR := bufR k.val k.isLt

theorem bufs_emb (k : Fin 4) (u : Fin 1) (b : Fin 8) (r : Fin 512) (f : Fin 128) :
    (bufs k).emb (ix4 u b r f) = ix4 k b r f := by
  funext a
  refine Fin.ext ?_
  show (_ : ℕ) + 1 * _ = _
  rw [Nat.one_mul]
  fin_cases a
  · show k.val + u.val = k.val; omega
  · exact Nat.zero_add _
  · exact Nat.zero_add _
  · exact Nat.zero_add _

theorem mem_bufs (k : Fin 4) (i : SR.Idx) : i ∈ (bufs k).set ↔ i 0 = k := by
  constructor
  · intro hi
    obtain ⟨j, rfl⟩ := (bufs k).exists_idx_of_mem hi
    obtain ⟨u, b, r, f, rfl⟩ : ∃ (u : Fin 1) (b : Fin 8) (r : Fin 512) (f : Fin 128), j = ix4 u b r f :=
      ⟨j 0, j 1, j 2, j 3, eq_ix4 j⟩
    exact congrFun (bufs_emb k u b r f) 0
  · obtain ⟨l, b, r, f, rfl⟩ : ∃ (l : Fin 4) (b : Fin 8) (r : Fin 512) (f : Fin 128), i = ix4 l b r f :=
      ⟨i 0, i 1, i 2, i 3, eq_ix4 i⟩
    rintro (rfl : l = k)
    rw [← bufs_emb l 0 b r f]
    exact emb_mem (bufs l) _

theorem bufs_disj (k k' : Fin 4) (h : k ≠ k') : Disjoint (bufs k).set (bufs k').set :=
  Finset.disjoint_left.mpr fun i hi hi' => h (((mem_bufs k i).mp hi).symm.trans ((mem_bufs k' i).mp hi'))

theorem bufs_cov : (Finset.univ : Finset (Fin 4)).biUnion (fun k => (bufs k).set) = Finset.univ :=
  Finset.eq_univ_of_forall fun i => Finset.mem_biUnion.mpr ⟨i 0, Finset.mem_univ _, (mem_bufs _ i).mpr rfl⟩

theorem list4 (Φ : Fin 4 → sProp 𝕄) : BI.bigSep Finset.univ Φ = iprop(Φ 0 ∗ Φ 1 ∗ Φ 2 ∗ Φ 3) := by
  rw [BI.bigSep_univ_eq_bigSepL [0, 1, 2, 3] (by decide) (by decide)]; rfl

/-- A ring is its four buffers, -/
theorem ring_split (B : Memref sig .tc .vmem SR .f32) :
    (iprop(∃ Y, owns c₀ B fullShare Y) : sProp 𝕄)
      ⊢ iprop((∃ Y, owns c₀ (slotM B 0 (by decide)) fullShare Y) ∗ (∃ Y, owns c₀ (slotM B 1 (by decide)) fullShare Y)
          ∗ (∃ Y, owns c₀ (slotM B 2 (by decide)) fullShare Y) ∗ (∃ Y, owns c₀ (slotM B 3 (by decide)) fullShare Y)) := by
  iintro ⟨%Y, H⟩
  ihave H' := ((owns_rects (Val := Elt F) c₀ B fullShare bufs (fun _ _ => rfl) bufs_disj bufs_cov Y).trans
    (Entails.of_eq (list4 _))) $$ H
  icases H' with ⟨H0, H1, H2, H3⟩
  isplitl [H0]; · iexists _; iexact H0
  isplitl [H1]; · iexists _; iexact H1
  isplitl [H2]; · iexists _; iexact H2
  iexists _; iexact H3

/-- and back. -/
theorem ring_join (B : Memref sig .tc .vmem SR .f32) :
    (iprop((∃ Y, owns c₀ (slotM B 0 (by decide)) fullShare Y) ∗ (∃ Y, owns c₀ (slotM B 1 (by decide)) fullShare Y)
          ∗ (∃ Y, owns c₀ (slotM B 2 (by decide)) fullShare Y) ∗ (∃ Y, owns c₀ (slotM B 3 (by decide)) fullShare Y)) : sProp 𝕄)
      ⊢ iprop(∃ Y, owns c₀ B fullShare Y) := by
  iintro ⟨⟨%Y0, H0⟩, ⟨%Y1, H1⟩, ⟨%Y2, H2⟩, ⟨%Y3, H3⟩⟩
  have key : ∀ (Ys : Fin 4 → (SS 512).Idx → Elt F .f32) (k : Fin 4),
      (fun j => (fun i : SR.Idx => Ys (i 0) (ix4 (0 : Fin 1) (i 1) (i 2) (i 3))) ((bufs k).emb j)) = Ys k := by
    intro Ys k
    funext j
    obtain ⟨u, b, r, f, rfl⟩ : ∃ (u : Fin 1) (b : Fin 8) (r : Fin 512) (f : Fin 128), j = ix4 u b r f :=
      ⟨j 0, j 1, j 2, j 3, eq_ix4 j⟩
    refine (congrArg (fun i : SR.Idx => Ys (i 0) (ix4 (0 : Fin 1) (i 1) (i 2) (i 3))) (bufs_emb k u b r f)).trans ?_
    obtain rfl : u = 0 := Subsingleton.elim _ _
    rfl
  iexists (fun i => (![Y0, Y1, Y2, Y3] : Fin 4 → (SS 512).Idx → Elt F .f32) (i 0) (ix4 (0 : Fin 1) (i 1) (i 2) (i 3)))
  iapply ((Entails.of_eq (list4 _).symm).trans
    (owns_of_rects (Val := Elt F) c₀ B fullShare bufs (fun _ _ => rfl) bufs_disj bufs_cov _))
  simp only [key]
  isplitl [H0]; · iexact H0
  isplitl [H1]; · iexact H1
  isplitl [H2]; · iexact H2
  iexact H3

/-! ## The result -/

/-- The rows a chunk's copy moves. -/
abbrev rowsIn (c : Fin 8) : ℕ := if c.val = 7 then 511 else 512

/-- The result's chunks. -/
abbrev blks (t : Fin 4 × Fin 8) : Rect SX :=
  Rect.unit (s := SX) ![8 * t.1.val, 512 * t.2.val, 0] (SB (rowsIn t.2)).size
    (inX t.1.isLt (by have := t.2.isLt; unfold rowsIn; split <;> omega))

theorem blks_emb (g : Fin 4) (c : Fin 8) (b : Fin 8) (r : Fin (rowsIn c)) (f : Fin 128) (h : 512 * c.val + r.val < 4095) :
    (blks (g, c)).emb (ix3 b r f) = ix3 (batchOf g b) (⟨512 * c.val + r.val, h⟩ : Fin 4095) f := by
  funext a
  refine Fin.ext ?_
  show (_ : ℕ) + 1 * _ = _
  rw [Nat.one_mul]
  fin_cases a
  · rfl
  · rfl
  · exact Nat.zero_add _

theorem rowsIn_lt (c : Fin 8) (r : Fin (rowsIn c)) : 512 * c.val + r.val < 4095 ∧ r.val < 512 := by
  have h := r.isLt
  have := c.isLt
  unfold rowsIn at h
  split at h <;> omega

theorem mem_blks (t : Fin 4 × Fin 8) (i : SX.Idx) : i ∈ (blks t).set ↔ groupOf (i 0) = t.1 ∧ chunkRow (i 1) = t.2 := by
  obtain ⟨g, c⟩ := t
  constructor
  · intro hi
    obtain ⟨j, hj⟩ := (blks (g, c)).exists_idx_of_mem hi
    obtain ⟨b, r, f, rfl⟩ : ∃ (b : Fin 8) (r : Fin (rowsIn c)) (f : Fin 128), j = ix3 b r f := ⟨j 0, j 1, j 2, eq_ix3 j⟩
    have hr := rowsIn_lt c r
    obtain rfl := (blks_emb g c b r f hr.1).symm.trans hj
    constructor
    · refine Fin.ext ?_; show (8 * g.val + b.val) / 8 = g.val; omega
    · refine Fin.ext ?_; show (512 * c.val + r.val) / 512 = c.val; omega
  · obtain ⟨m, n, f, rfl⟩ : ∃ (m : Fin 32) (n : Fin 4095) (f : Fin 128), i = ix3 m n f := ⟨i 0, i 1, i 2, eq_ix3 i⟩
    rintro ⟨h1, h2⟩
    have h1 : m.val / 8 = g.val := congrArg Fin.val h1
    have h2 : n.val / 512 = c.val := congrArg Fin.val h2
    have hn := n.isLt
    have hr : n.val % 512 < rowsIn c := by unfold rowsIn; split <;> omega
    have e := blks_emb g c (memberOf m) ⟨n.val % 512, hr⟩ f (by show 512 * c.val + n.val % 512 < 4095; omega)
    have e' : (ix3 m n f : SX.Idx) = (blks (g, c)).emb (ix3 (memberOf m) (⟨n.val % 512, hr⟩ : Fin (rowsIn c)) f) := by
      rw [e]
      have e1 : batchOf g (memberOf m) = m := Fin.ext (by show 8 * g.val + m.val % 8 = m.val; omega)
      have e2 : (⟨512 * c.val + n.val % 512, by omega⟩ : Fin 4095) = n := Fin.ext (by show 512 * c.val + n.val % 512 = n.val; omega)
      rw [e1]; exact congrArg (fun n => ix3 m n f) e2.symm
    rw [e']
    exact emb_mem (blks (g, c)) _

theorem blks_disj (t t' : Fin 4 × Fin 8) (h : t ≠ t') : Disjoint (blks t).set (blks t').set :=
  Finset.disjoint_left.mpr fun i hi hi' => h (by
    obtain ⟨a, b⟩ := (mem_blks t i).mp hi
    obtain ⟨a', b'⟩ := (mem_blks t' i).mp hi'
    exact Prod.ext (a.symm.trans a') (b.symm.trans b'))

theorem blks_cov : (Finset.univ : Finset (Fin 4 × Fin 8)).biUnion (fun t => (blks t).set) = Finset.univ :=
  Finset.eq_univ_of_forall fun i =>
    Finset.mem_biUnion.mpr ⟨(groupOf (i 0), chunkRow (i 1)), Finset.mem_univ _, (mem_blks _ i).mpr ⟨rfl, rfl⟩⟩

theorem list32 (Φ : Fin 4 × Fin 8 → sProp 𝕄) :
    BI.bigSep Finset.univ Φ = BI.bigSep Finset.univ fun g => iprop(Φ (g, 0) ∗ Φ (g, 1) ∗ Φ (g, 2) ∗ Φ (g, 3)
      ∗ Φ (g, 4) ∗ Φ (g, 5) ∗ Φ (g, 6) ∗ Φ (g, 7)) := by
  rw [BI.bigSep_univ_prod]
  refine congrArg _ (funext fun g => ?_)
  rw [BI.bigSep_univ_eq_bigSepL [0, 1, 2, 3, 4, 5, 6, 7] (by decide) (by decide)]; rfl

/-- The result is its thirty-two chunks still to be written, -/
theorem out_split (A : SX.Idx → F .f32) :
    (owns c₀ M.o fullShare A : sProp 𝕄)
      ⊢ iprop(todos d M 0 (by decide) ∗ todos d M 1 (by decide) ∗ todos d M 2 (by decide) ∗ todos d M 3 (by decide)) := by
  refine (owns_rects (Val := Elt F) c₀ M.o fullShare blks (fun _ _ => rfl) blks_disj blks_cov A).trans ?_
  rw [list32]
  have h (g : Fin 4) : (iprop(owns c₀ (M.o.slice (blks (g, 0)) (fun _ => rfl)) fullShare (fun j => A ((blks (g, 0)).emb j))
      ∗ owns c₀ (M.o.slice (blks (g, 1)) (fun _ => rfl)) fullShare (fun j => A ((blks (g, 1)).emb j))
      ∗ owns c₀ (M.o.slice (blks (g, 2)) (fun _ => rfl)) fullShare (fun j => A ((blks (g, 2)).emb j))
      ∗ owns c₀ (M.o.slice (blks (g, 3)) (fun _ => rfl)) fullShare (fun j => A ((blks (g, 3)).emb j))
      ∗ owns c₀ (M.o.slice (blks (g, 4)) (fun _ => rfl)) fullShare (fun j => A ((blks (g, 4)).emb j))
      ∗ owns c₀ (M.o.slice (blks (g, 5)) (fun _ => rfl)) fullShare (fun j => A ((blks (g, 5)).emb j))
      ∗ owns c₀ (M.o.slice (blks (g, 6)) (fun _ => rfl)) fullShare (fun j => A ((blks (g, 6)).emb j))
      ∗ owns c₀ (M.o.slice (blks (g, 7)) (fun _ => rfl)) fullShare (fun j => A ((blks (g, 7)).emb j))) : sProp 𝕄)
      ⊢ todos d M g.val g.isLt := by
    unfold todos todo
    iintro ⟨H0, H1, H2, H3, H4, H5, H6, H7⟩
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  refine Entails.trans (BI.bigSep_mono fun g _ => h g) ?_
  exact Entails.of_eq (list4 _)

/-- A chunk's rows as the result's. -/
theorem firstRows_result (g : ℕ) (hg : g < 4) (c : Fin 8) (hm : rowsIn c = 512 ∨ rowsIn c = 511) :
    firstRows (rowsIn c) hm (chunkOut V X ⟨g, hg⟩ c) = fun j => result V X ((blks (⟨g, hg⟩, c)).emb j) := by
  funext j
  obtain ⟨b, r, f, rfl⟩ : ∃ (b : Fin 8) (r : Fin (rowsIn c)) (f : Fin 128), j = ix3 b r f := ⟨j 0, j 1, j 2, eq_ix3 j⟩
  have hr := rowsIn_lt c r
  refine Eq.trans ?_ (congrArg (result V X) (blks_emb ⟨g, hg⟩ c b r f hr.1)).symm
  show chunkOut V X ⟨g, hg⟩ c (ix4 (0 : Fin 1) b (⟨r.val, hr.2⟩ : Fin 512) f)
    = chunkOut V X (groupOf (batchOf ⟨g, hg⟩ b)) (chunkRow ⟨512 * c.val + r.val, hr.1⟩)
        (ix4 (0 : Fin 1) (memberOf (batchOf ⟨g, hg⟩ b)) (placeRow ⟨512 * c.val + r.val, hr.1⟩) f)
  have e1 : groupOf (batchOf ⟨g, hg⟩ b) = ⟨g, hg⟩ := Fin.ext (by show (8 * g + b.val) / 8 = g; omega)
  have e2 : chunkRow ⟨512 * c.val + r.val, hr.1⟩ = c := Fin.ext (by show (512 * c.val + r.val) / 512 = c.val; omega)
  have e3 : memberOf (batchOf ⟨g, hg⟩ b) = b := Fin.ext (by show (8 * g + b.val) % 8 = b.val; omega)
  have e4 : placeRow ⟨512 * c.val + r.val, hr.1⟩ = ⟨r.val, hr.2⟩ := Fin.ext (by show (512 * c.val + r.val) % 512 = r.val; omega)
  rw [e1, e2, e3, e4]

/-- The last four chunks of a group, written. -/
def donesLate (g : ℕ) (hg : g < 4) : sProp 𝕄 :=
  iprop(done d M V X g 4 512 hg (by decide) (.inl rfl) ∗ done d M V X g 5 512 hg (by decide) (.inl rfl)
    ∗ done d M V X g 6 512 hg (by decide) (.inl rfl) ∗ done d M V X g 7 511 hg (by decide) (.inr rfl))

theorem donesBefore_succ (g : ℕ) (hg : g < 4) :
    (donesBefore d M V X (g + 1) hg : sProp 𝕄) = donesLate d M V X g hg := by
  unfold donesBefore donesLate doneBefore
  simp only [dif_pos (Nat.succ_pos g)]
  rfl

/-- and, all written, it is the result. -/
theorem out_join :
    (BI.bigSep Finset.univ (fun g : Fin 4 => iprop(dones d M V X g.val g.isLt ∗ donesLate d M V X g.val g.isLt)) : sProp 𝕄)
      ⊢ owns c₀ M.o fullShare (result V X) := by
  refine Entails.trans ?_ (owns_of_rects (Val := Elt F) c₀ M.o fullShare blks (fun _ _ => rfl) blks_disj blks_cov (result V X))
  refine Entails.trans ?_ (Entails.of_eq (list32 _).symm)
  refine BI.bigSep_mono fun g _ => ?_
  have e (c : Fin 8) (hm : rowsIn c = 512 ∨ rowsIn c = 511) :
      (fun j => result V X ((blks (g, c)).emb j)) = firstRows (rowsIn c) hm (chunkOut V X g c) :=
    (firstRows_result V X g.val g.isLt c hm).symm
  simp only [e 0 (.inl rfl), e 1 (.inl rfl), e 2 (.inl rfl), e 3 (.inl rfl), e 4 (.inl rfl), e 5 (.inl rfl), e 6 (.inl rfl),
    e 7 (.inr rfl)]
  exact show iprop((done d M V X g.val 0 512 g.isLt (by decide) (.inl rfl) ∗ done d M V X g.val 1 512 g.isLt (by decide) (.inl rfl)
        ∗ done d M V X g.val 2 512 g.isLt (by decide) (.inl rfl) ∗ done d M V X g.val 3 512 g.isLt (by decide) (.inl rfl))
      ∗ (done d M V X g.val 4 512 g.isLt (by decide) (.inl rfl) ∗ done d M V X g.val 5 512 g.isLt (by decide) (.inl rfl)
        ∗ done d M V X g.val 6 512 g.isLt (by decide) (.inl rfl) ∗ done d M V X g.val 7 511 g.isLt (by decide) (.inr rfl)))
    ⊢ iprop(done d M V X g.val 0 512 g.isLt (by decide) (.inl rfl) ∗ done d M V X g.val 1 512 g.isLt (by decide) (.inl rfl)
      ∗ done d M V X g.val 2 512 g.isLt (by decide) (.inl rfl) ∗ done d M V X g.val 3 512 g.isLt (by decide) (.inl rfl)
      ∗ done d M V X g.val 4 512 g.isLt (by decide) (.inl rfl) ∗ done d M V X g.val 5 512 g.isLt (by decide) (.inl rfl)
      ∗ done d M V X g.val 6 512 g.isLt (by decide) (.inl rfl) ∗ done d M V X g.val 7 511 g.isLt (by decide) (.inr rfl)) from by
    iintro ⟨⟨H0, H1, H2, H3⟩, ⟨H4, H5, H6, H7⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The four shares of `x` -/

/-- Each input buffer's share of `x`. -/
def shareOfX (q : PosShare TreeShare) (k : ℕ) : PosShare TreeShare :=
  if k = 0 then q.left.left else if k = 1 then q.left.right else if k = 2 then q.right.left else q.right.right

theorem x_split (q : PosShare TreeShare) :
    (owns c₀ M.x q X : sProp 𝕄) ⊣⊢ iprop((owns c₀ M.x (shareOfX q 0) X ∗ owns c₀ M.x (shareOfX q 1) X)
      ∗ owns c₀ M.x (shareOfX q 2) X ∗ owns c₀ M.x (shareOfX q 3) X) := by
  refine (owns_halves (Val := Elt F) c₀ M.x q X).trans (sep_congr ?_ ?_)
  · exact owns_halves (Val := Elt F) c₀ M.x q.left X
  · exact owns_halves (Val := Elt F) c₀ M.x q.right X

end TreeScan

end
-- ==== Proof.Body.lean ====
/-
  The whole body: from the arguments and the memory at rest to the result written and the memory
  at rest again.
-/
module

public import proofs.«01_k».proof.Proof.Whole

@[expose] public section

noncomputable section

namespace TreeScan

open Idealize.ShloMosaic
open Idealize.SL
open Idealize.SL.BI (sProp)
open scoped Idealize.SL.BI
open Idealize.SL.BI.BIBase Idealize.SL.BI.Laws Idealize.SL.Sem Idealize.SL.ProofMode
open Idealize.SL.RA
open TcCoe Transfers

variable {F : FTy → Type} [FloatOps F]

/-- The parameters. -/
structure Args (F : FTy → Type) where
  win : SQ.Idx → F .f32
  b : SV.Idx → F .f32
  d : SQ.Idx → F .f32
  nu : SH.Idx → F .f32
  th : SH.Idx → F .f32
  ga : SH.Idx → F .f32
  bre : SBr.Idx → F .f32
  bim : SBr.Idx → F .f32
  cre : SCr.Idx → F .f32
  cim : SCr.Idx → F .f32

/-- What is computed from the parameters before the first group. -/
def preOf (A : Args F) : Pre F where
  laa := mulRe A.nu A.th
  lbb := mulIm A.nu A.th
  w12 := inMat A.ga A.bre A.bim A.win
  dw := skipMat A.d A.win
  cc := outMat A.cre A.cim
  bc := biasRow A.b (scaledB A.ga A.bre A.bim)
  oc := biasRow A.b A.d

variable {nD : ℕ} {τ : Topo} {sig : RefSig} {Λ : Labels}

local notation "𝕄" => MT nD τ sig Unit (Elt F) ℕ (Pipeline.UD sig nD τ) ℕ

variable {defs : Defs nD τ sig (Elt F) Λ} (𝒱 : Variants) (d : Dev nD) (bd : Option 𝒱.V)

local notation "c₀" => (d.tc : Thread nD τ)
local notation "wp⟨" p ", " Q "⟩" => wp frame (wpE defs 𝒱 c₀ bd) Set.univ p Q

variable (M : Mem sig) (V : Pre F) (X : SX.Idx → F .f32) (q : ℕ → PosShare TreeShare)

/-- A load of a whole matrix reads it. -/
theorem step_loadAll {p n : ℕ} (A : Memref sig .tc .vmem ⟨2, ![p, n]⟩ .f32) (h : 0 < (⟨2, ![p, n]⟩ : Shape).numel)
    (Y : (⟨2, ![p, n]⟩ : Shape).Idx → F .f32) (Q : ((⟨2, ![p, n]⟩ : Shape).Idx → F .f32) → sProp 𝕄) :
    (owns c₀ A fullShare Y : sProp 𝕄) ⊢ iprop((owns c₀ A fullShare Y -∗ Q Y) -∗ wp⟨loadAll A h, Q⟩) := by
  have e : (fun j : (⟨2, ![p, n]⟩ : Shape).Idx =>
      Y ((Rect.unit (s := ⟨2, ![p, n]⟩) ![0, 0] (⟨2, ![p, n]⟩ : Shape).size inAll2).emb j)) = Y := by
    funext j
    refine congrArg Y (funext fun a => Fin.ext ?_)
    show (_ : ℕ) + 1 * (j a : ℕ) = _
    rw [Nat.one_mul]
    fin_cases a <;> exact Nat.zero_add _
  have h := step_load (F := F) 𝒱 d bd (defs := defs) A
    (Rect.unit (s := ⟨2, ![p, n]⟩) ![0, 0] (⟨2, ![p, n]⟩ : Shape).size inAll2) (hl := View.loadsAt_vmem h) Y fullShare Q
  refine h.trans ?_
  rw [show (fun j => Y ((Rect.unit (s := ⟨2, ![p, n]⟩) ![0, 0] (⟨2, ![p, n]⟩ : Shape).size inAll2).emb j)) = Y from e]

/-- The parameters in their buffers. -/
def params (A : Args F) : sProp 𝕄 :=
  iprop(owns c₀ M.win fullShare A.win ∗ owns c₀ M.b fullShare A.b ∗ owns c₀ M.d fullShare A.d
    ∗ owns c₀ M.nu fullShare A.nu ∗ owns c₀ M.th fullShare A.th ∗ owns c₀ M.ga fullShare A.ga
    ∗ owns c₀ M.bre fullShare A.bre ∗ owns c₀ M.bim fullShare A.bim ∗ owns c₀ M.cre fullShare A.cre
    ∗ owns c₀ M.cim fullShare A.cim)

theorem step_prologue (A : Args F) (Q : Pre F → sProp 𝕄) :
    (params d M A : sProp 𝕄) ⊢ iprop((params d M A -∗ Q (preOf A)) -∗ wp⟨prologue M, Q⟩) := by
  unfold params preOf
  iintro ⟨H1, H2, H3, H4, H5, H6, H7, H8, H9, H10⟩ HQ
  unfold prologue
  rw [wp_bind]; iapply (step_loadAll 𝒱 d bd M.nu _ _ _) $$ H4; iintro H4
  rw [wp_bind]; iapply (step_loadAll 𝒱 d bd M.th _ _ _) $$ H5; iintro H5
  rw [wp_bind]; iapply (step_loadAll 𝒱 d bd M.ga _ _ _) $$ H6; iintro H6
  rw [wp_bind]; iapply (step_loadAll 𝒱 d bd M.bre _ _ _) $$ H7; iintro H7
  rw [wp_bind]; iapply (step_loadAll 𝒱 d bd M.bim _ _ _) $$ H8; iintro H8
  rw [wp_bind]; iapply (step_loadAll 𝒱 d bd M.win _ _ _) $$ H1; iintro H1
  rw [wp_bind]; iapply (step_loadAll 𝒱 d bd M.d _ _ _) $$ H3; iintro H3
  rw [wp_bind]; iapply (step_loadAll 𝒱 d bd M.win _ _ _) $$ H1; iintro H1
  rw [wp_bind]; iapply (step_loadAll 𝒱 d bd M.cre _ _ _) $$ H9; iintro H9
  rw [wp_bind]; iapply (step_loadAll 𝒱 d bd M.cim _ _ _) $$ H10; iintro H10
  rw [wp_bind]; iapply (step_loadAll 𝒱 d bd M.b _ _ _) $$ H2; iintro H2
  rw [wp_bind]; iapply (step_loadAll 𝒱 d bd M.b _ _ _) $$ H2; iintro H2
  rw [wp_bind]; iapply (step_loadAll 𝒱 d bd M.d _ _ _) $$ H3; iintro H3
  rw [wp_pure]
  imodintro
  iapply HQ
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The scratch memory and its semaphores at rest. -/
def atRest : sProp 𝕄 :=
  iprop((∃ T, owns c₀ M.xT fullShare T) ∗ (∃ T, owns c₀ M.sT fullShare T)
    ∗ (∃ Y, owns c₀ M.xbuf fullShare Y) ∗ (∃ Y, owns c₀ M.obuf fullShare Y)
    ∗ (inRest d M 0 (by decide) ∗ inRest d M 1 (by decide) ∗ inRest d M 2 (by decide) ∗ inRest d M 3 (by decide)
      ∗ inRest d M 4 (by decide))
    ∗ (outRest d M 0 (by decide) ∗ outRest d M 1 (by decide) ∗ outRest d M 2 (by decide) ∗ outRest d M 3 (by decide)
      ∗ outRest d M 4 (by decide)))

theorem start_free (k : ℕ) (hk : k < 4) :
    iprop(owns c₀ M.x (q k) X ∗ (∃ Y, owns c₀ (slotM M.xbuf k hk) fullShare Y) ∗ inRest d M k (by omega) : sProp 𝕄)
      ⊢ free d M X q k hk := .rfl

/-- The state before the first group. -/
theorem between_zero :
    iprop((coming d M X q 0 0 0 512 0 (by decide) (by decide) (by decide) (.inl rfl) (by decide)
          ∗ coming d M X q 0 1 1 512 1 (by decide) (by decide) (by decide) (.inl rfl) (by decide)
          ∗ coming d M X q 0 2 2 512 2 (by decide) (by decide) (by decide) (.inl rfl) (by decide))
        ∗ free d M X q 3 (by decide) ∗ inRest d M 4 (by decide)
        ∗ (((∃ Y, owns c₀ (slotM M.obuf 0 (by decide)) fullShare Y) ∗ outRest d M 0 (by decide)) ∗ ((∃ Y, owns c₀ (slotM M.obuf 1 (by decide)) fullShare Y) ∗ outRest d M 1 (by decide))
          ∗ ((∃ Y, owns c₀ (slotM M.obuf 2 (by decide)) fullShare Y) ∗ outRest d M 2 (by decide)) ∗ ((∃ Y, owns c₀ (slotM M.obuf 3 (by decide)) fullShare Y) ∗ outRest d M 4 (by decide)))
        ∗ outRest d M 3 (by decide)
        ∗ (∃ T, owns c₀ M.xT fullShare T) ∗ (∃ T, owns c₀ M.sT fullShare T) ∗ Owes d : sProp 𝕄)
      ⊢ between d M V X q 0 (by decide) := by
  unfold between inAt outAt
  simp only [dif_pos (show 0 < 4 by decide), dif_neg (Nat.lt_irrefl 0)]
  exact .rfl

/-- The state after the last group. -/
theorem between_four :
    (between d M V X q 4 (by decide) : sProp 𝕄)
      ⊢ iprop(((owns c₀ M.x (q 0) X ∗ (∃ Y, owns c₀ (slotM M.xbuf 0 (by decide)) fullShare Y) ∗ inRest d M 0 (by decide)) ∗ (owns c₀ M.x (q 1) X ∗ (∃ Y, owns c₀ (slotM M.xbuf 1 (by decide)) fullShare Y) ∗ inRest d M 1 (by decide)) ∗ (owns c₀ M.x (q 2) X ∗ (∃ Y, owns c₀ (slotM M.xbuf 2 (by decide)) fullShare Y) ∗ inRest d M 2 (by decide)))
        ∗ (owns c₀ M.x (q 3) X ∗ (∃ Y, owns c₀ (slotM M.xbuf 3 (by decide)) fullShare Y) ∗ inRest d M 3 (by decide)) ∗ inRest d M 4 (by decide)
        ∗ (going d M V X 3 4 0 512 0 (by decide) (by decide) (by decide) (.inl rfl) (by decide)
          ∗ going d M V X 3 5 1 512 1 (by decide) (by decide) (by decide) (.inl rfl) (by decide)
          ∗ going d M V X 3 6 2 512 2 (by decide) (by decide) (by decide) (.inl rfl) (by decide)
          ∗ going d M V X 3 7 3 511 4 (by decide) (by decide) (by decide) (.inr rfl) (by decide))
        ∗ outRest d M 3 (by decide)
        ∗ (∃ T, owns c₀ M.xT fullShare T) ∗ (∃ T, owns c₀ M.sT fullShare T) ∗ Owes d) := by
  unfold between inAt outAt
  simp only [dif_neg (Nat.lt_irrefl 4), dif_pos (show 0 < 4 by decide)]
  exact .rfl

/-- The chunks of all four groups, written, are the result. -/
theorem all_done :
    iprop((dones d M V X 0 (by decide) ∗ donesBefore d M V X 0 (by decide))
        ∗ (dones d M V X 1 (by decide) ∗ donesBefore d M V X 1 (by decide))
        ∗ (dones d M V X 2 (by decide) ∗ donesBefore d M V X 2 (by decide))
        ∗ (dones d M V X 3 (by decide) ∗ donesBefore d M V X 3 (by decide))
        ∗ donesLate d M V X 3 (by decide) : sProp 𝕄)
      ⊢ owns c₀ M.o fullShare (result V X) := by
  refine Entails.trans ?_ (out_join d M V X)
  refine Entails.trans ?_ (Entails.of_eq (list4 _).symm)
  have e0 := donesBefore_succ (F := F) (nD := nD) (τ := τ) d M V X 0 (by decide)
  have e1 := donesBefore_succ (F := F) (nD := nD) (τ := τ) d M V X 1 (by decide)
  have e2 := donesBefore_succ (F := F) (nD := nD) (τ := τ) d M V X 2 (by decide)
  exact show _ ⊢ iprop((dones d M V X 0 (by decide) ∗ donesLate d M V X 0 (by decide))
    ∗ (dones d M V X 1 (by decide) ∗ donesLate d M V X 1 (by decide))
    ∗ (dones d M V X 2 (by decide) ∗ donesLate d M V X 2 (by decide))
    ∗ (dones d M V X 3 (by decide) ∗ donesLate d M V X 3 (by decide))) from by
    rw [← e0, ← e1, ← e2]
    iintro ⟨⟨H0, -⟩, ⟨H1, L0⟩, ⟨H2, L1⟩, ⟨H3, L2⟩, L3⟩
    isplitl [H0 L0]
    · isplitl [H0]; · iexact H0
      iexact L0
    isplitl [H1 L1]
    · isplitl [H1]; · iexact H1
      iexact L1
    isplitl [H2 L2]
    · isplitl [H2]; · iexact H2
      iexact L2
    isplitl [H3]; · iexact H3
    iexact L3

/-- The body writes the result. -/
theorem step_body (A : Args F) (qx : PosShare TreeShare) (Q : PUnit → sProp 𝕄) :
    iprop(params d M A ∗ owns c₀ M.x qx X ∗ (∃ Z, owns c₀ M.o fullShare Z) ∗ atRest d M ∗ Owes d)
      ⊢ iprop((iprop(params d M A ∗ owns c₀ M.x qx X ∗ owns c₀ M.o fullShare (result (preOf A) X) ∗ atRest d M ∗ Owes d)
              -∗ Q ⟨⟩)
          -∗ wp⟨body M, Q⟩) := by
  unfold atRest
  iintro ⟨HP, HX, ⟨%Z, HZ⟩, ⟨HA, HB, HR, HU, ⟨I0, I1, I2, I3, I4⟩, ⟨O0, O1, O2, O3, O4⟩⟩, HO⟩ HQ
  ihave HX' := (x_split d M X qx).1 $$ HX
  icases HX' with ⟨⟨X0, X1⟩, X2, X3⟩
  ihave HR' := (ring_split d M.xbuf) $$ HR
  icases HR' with ⟨⟨%Y0, R0⟩, ⟨%Y1, R1⟩, ⟨%Y2, R2⟩, R3⟩
  ihave HU' := (ring_split d M.obuf) $$ HU
  icases HU' with ⟨U0, U1, U2, U3⟩
  ihave HZ' := (out_split d M Z) $$ HZ
  icases HZ' with ⟨Z0, Z1, Z2, Z3⟩
  unfold body
  rw [wp_bind]
  iapply (step_prologue 𝒱 d bd M A _) $$ HP
  iintro HP
  rw [wp_bind]
  iapply (step_start 𝒱 d bd M X (shareOfX qx) 0 0 0 512 0 _ _ _ _ _ Y0 (landed_full 0 0 _ (by decide) X _) _) $$ [X0 R0 I0]
  · isplitl [X0]; · iexact X0
    isplitl [R0]; · iexact R0
    iexact I0
  iintro H0
  rw [wp_bind]
  iapply (step_start 𝒱 d bd M X (shareOfX qx) 0 1 1 512 1 _ _ _ _ _ Y1 (landed_full 0 1 _ (by decide) X _) _) $$ [X1 R1 I1]
  · isplitl [X1]; · iexact X1
    isplitl [R1]; · iexact R1
    iexact I1
  iintro H1
  rw [wp_bind]
  iapply (step_start 𝒱 d bd M X (shareOfX qx) 0 2 2 512 2 _ _ _ _ _ Y2 (landed_full 0 2 _ (by decide) X _) _) $$ [X2 R2 I2]
  · isplitl [X2]; · iexact X2
    isplitl [R2]; · iexact R2
    iexact I2
  iintro H2
  ihave HS := (between_zero d M (preOf A) X (shareOfX qx)) $$ [H0 H1 H2 X3 R3 I3 I4 U0 U1 U2 U3 O0 O1 O2 O3 O4 HA HB HO]
  · isplitl [H0 H1 H2]
    · isplitl [H0]; · iexact H0
      isplitl [H1]; · iexact H1
      iexact H2
    isplitl [X3 R3 I3]
    · iapply (start_free d M X (shareOfX qx) 3 _)
      isplitl [X3]; · iexact X3
      isplitl [R3]; · iexact R3
      iexact I3
    isplitl [I4]; · iexact I4
    isplitl [U0 U1 U2 U3 O0 O1 O2 O4]
    · isplitl [U0 O0]
      · isplitl [U0]; · iexact U0
        iexact O0
      isplitl [U1 O1]
      · isplitl [U1]; · iexact U1
        iexact O1
      isplitl [U2 O2]
      · isplitl [U2]; · iexact U2
        iexact O2
      isplitl [U3]; · iexact U3
      iexact O4
    isplitl [O3]; · iexact O3
    isplitl [HA]; · iexact HA
    isplitl [HB]; · iexact HB
    iexact HO
  rw [wp_bind]
  iapply (step_group 𝒱 d bd M (preOf A) X (shareOfX qx) 0 _ _) $$ [HS Z0]
  · isplitl [HS]; · iexact HS
    iexact Z0
  iintro ⟨HS, D0, E0⟩
  rw [wp_bind]
  iapply (step_group 𝒱 d bd M (preOf A) X (shareOfX qx) 1 _ _) $$ [HS Z1]
  · isplitl [HS]; · iexact HS
    iexact Z1
  iintro ⟨HS, D1, E1⟩
  rw [wp_bind]
  iapply (step_group 𝒱 d bd M (preOf A) X (shareOfX qx) 2 _ _) $$ [HS Z2]
  · isplitl [HS]; · iexact HS
    iexact Z2
  iintro ⟨HS, D2, E2⟩
  rw [wp_bind]
  iapply (step_group 𝒱 d bd M (preOf A) X (shareOfX qx) 3 _ _) $$ [HS Z3]
  · isplitl [HS]; · iexact HS
    iexact Z3
  iintro ⟨HS, D3, E3⟩
  ihave HS' := (between_four d M (preOf A) X (shareOfX qx)) $$ HS
  icases HS' with ⟨⟨⟨X0, R0, I0⟩, ⟨X1, R1, I1⟩, ⟨X2, R2, I2⟩⟩, ⟨X3, R3, I3⟩, I4, ⟨G4, G5, G6, G7⟩, O3, HA, HB, HO⟩
  rw [wp_bind]
  iapply (step_gone 𝒱 d bd M (preOf A) X 3 4 0 512 0 _ _ _ _ _ _) $$ [G4 HO]
  · isplitl [G4]; · iexact G4
    iexact HO
  iintro ⟨U0, F4, O0, HO⟩
  rw [wp_bind]
  iapply (step_gone 𝒱 d bd M (preOf A) X 3 5 1 512 1 _ _ _ _ _ _) $$ [G5 HO]
  · isplitl [G5]; · iexact G5
    iexact HO
  iintro ⟨U1, F5, O1, HO⟩
  rw [wp_bind]
  iapply (step_gone 𝒱 d bd M (preOf A) X 3 6 2 512 2 _ _ _ _ _ _) $$ [G6 HO]
  · isplitl [G6]; · iexact G6
    iexact HO
  iintro ⟨U2, F6, O2, HO⟩
  iapply (step_gone 𝒱 d bd M (preOf A) X 3 7 3 511 4 _ _ _ _ _ _) $$ [G7 HO]
  · isplitl [G7]; · iexact G7
    iexact HO
  iintro ⟨U3, F7, O4, HO⟩
  iapply HQ
  isplitl [HP]; · iexact HP
  isplitl [X0 X1 X2 X3]
  · iapply (x_split d M X qx).2
    isplitl [X0 X1]
    · isplitl [X0]; · iexact X0
      iexact X1
    isplitl [X2]; · iexact X2
    iexact X3
  isplitl [D0 D1 D2 D3 E0 E1 E2 E3 F4 F5 F6 F7]
  · iapply (all_done d M (preOf A) X)
    isplitl [D0 E0]
    · isplitl [D0]; · iexact D0
      iexact E0
    isplitl [D1 E1]
    · isplitl [D1]; · iexact D1
      iexact E1
    isplitl [D2 E2]
    · isplitl [D2]; · iexact D2
      iexact E2
    isplitl [D3 E3]
    · isplitl [D3]; · iexact D3
      iexact E3
    unfold donesLate
    isplitl [F4]; · iexact F4
    isplitl [F5]; · iexact F5
    isplitl [F6]; · iexact F6
    iexact F7
  isplitr [HO]; swap; · iexact HO
  isplitl [HA]; · iexact HA
  isplitl [HB]; · iexact HB
  isplitl [R0 R1 R2 R3]
  · iapply (ring_join d M.xbuf)
    isplitl [R0]; · iexact R0
    isplitl [R1]; · iexact R1
    isplitl [R2]; · iexact R2
    iexact R3
  isplitl [U0 U1 U2 U3]
  · iapply (ring_join d M.obuf)
    isplitl [U0]; · iexact U0
    isplitl [U1]; · iexact U1
    isplitl [U2]; · iexact U2
    iexact U3
  isplitl [I0 I1 I2 I3 I4]
  · isplitl [I0]; · iexact I0
    isplitl [I1]; · iexact I1
    isplitl [I2]; · iexact I2
    isplitl [I3]; · iexact I3
    iexact I4
  isplitl [O0]; · iexact O0
  isplitl [O1]; · iexact O1
  isplitl [O2]; · iexact O2
  isplitl [O3]; · iexact O3
  iexact O4

end TreeScan

end
-- ==== Proof.BodyKernelIdeal.lean ====
/-
  The printed kernel body is the structured program of `Program.lean`.
-/
module

public import proofs.«01_k».proof.Proof.Gen.KernelIdeal.Skeleton
public import proofs.«01_k».proof.Proof.Program

@[expose] public section

noncomputable section

namespace Cert.KernelIdeal

open Idealize.ShloMosaic Idealize.SL.Sem
open Gen

variable {F : FTy → Type} [FloatOps F]

set_option maxRecDepth 1000000 in
set_option maxHeartbeats 4000000 in
/-- The printed body, on any memory, is the structured one.  Both sides are brought to one sequence of
    instructions; the values they compute then agree by unfolding. -/
theorem body_eq (i : grid0.Coords) (arg1 : Memref sig .tc .hbm S32x4095x128 .f32) (harg1 : arg1.IsWhole) (arg2 : Memref sig
    .tc .vmem S128x128 .f32) (harg2 : arg2.IsWhole) (arg3 : Memref sig .tc .vmem S1x128 .f32) (harg3 :
    arg3.IsWhole) (arg4 : Memref sig .tc .vmem S128x128 .f32) (harg4 : arg4.IsWhole) (arg5 : Memref sig .tc .vmem
    S1x64 .f32) (harg5 : arg5.IsWhole) (arg6 : Memref sig .tc .vmem S1x64 .f32) (harg6 : arg6.IsWhole) (arg7 :
    Memref sig .tc .vmem S1x64 .f32) (harg7 : arg7.IsWhole) (arg8 : Memref sig .tc .vmem S64x128 .f32) (harg8 :
    arg8.IsWhole) (arg9 : Memref sig .tc .vmem S64x128 .f32) (harg9 : arg9.IsWhole) (arg10 : Memref sig .tc .vmem
    S128x64 .f32) (harg10 : arg10.IsWhole) (arg11 : Memref sig .tc .vmem S128x64 .f32) (harg11 : arg11.IsWhole)
    (arg12 : Memref sig .tc .hbm S32x4095x128 .f32) (harg12 : arg12.IsWhole) (arg13 : Memref sig .tc .vmem
    S4096x8x128 .bf16) (harg13 : arg13.IsWhole) (arg14 : Memref sig .tc .vmem S4096x8x128 .f32) (harg14 :
    arg14.IsWhole) (arg15 : Memref sig .tc .vmem S4x8x512x128 .f32) (harg15 : arg15.IsWhole) (arg16 : Memref sig
    .tc .vmem S4x8x512x128 .f32) (harg16 : arg16.IsWhole) (arg17 : DmaSems sig S5) (arg18 : DmaSems sig S5) :
    cc0__body (F := F) i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17
      arg18
      = TreeScan.body ⟨arg1, arg2, arg3, arg4, arg5, arg6, arg7, arg8, arg9, arg10, arg11, arg12, arg13, arg14,
          arg15, arg16, arg17, arg18, harg13⟩ := by
  rw [cc0__body_eq_skeleton]
  unfold cc0__body_skel
  simp only [k0_part77_eq_skeleton, k0_part78_eq_skeleton]
  unfold k0_part77_skel k0_part78_skel
  simp only [k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton, k0_part14_eq_skeleton, k0_part15_eq_skeleton, k0_part16_eq_skeleton,
    k0_part17_eq_skeleton, k0_part18_eq_skeleton, k0_part19_eq_skeleton, k0_part20_eq_skeleton,
    k0_part21_eq_skeleton, k0_part22_eq_skeleton, k0_part23_eq_skeleton, k0_part24_eq_skeleton,
    k0_part25_eq_skeleton, k0_part26_eq_skeleton, k0_part27_eq_skeleton, k0_part28_eq_skeleton,
    k0_part29_eq_skeleton, k0_part30_eq_skeleton, k0_part31_eq_skeleton, k0_part32_eq_skeleton,
    k0_part33_eq_skeleton, k0_part34_eq_skeleton, k0_part35_eq_skeleton, k0_part36_eq_skeleton,
    k0_part37_eq_skeleton, k0_part38_eq_skeleton, k0_part39_eq_skeleton, k0_part40_eq_skeleton,
    k0_part41_eq_skeleton, k0_part42_eq_skeleton, k0_part43_eq_skeleton, k0_part44_eq_skeleton,
    k0_part45_eq_skeleton, k0_part46_eq_skeleton, k0_part47_eq_skeleton, k0_part48_eq_skeleton,
    k0_part49_eq_skeleton, k0_part50_eq_skeleton, k0_part51_eq_skeleton, k0_part52_eq_skeleton,
    k0_part53_eq_skeleton, k0_part54_eq_skeleton, k0_part55_eq_skeleton, k0_part56_eq_skeleton,
    k0_part57_eq_skeleton, k0_part58_eq_skeleton, k0_part59_eq_skeleton, k0_part60_eq_skeleton,
    k0_part61_eq_skeleton, k0_part62_eq_skeleton, k0_part63_eq_skeleton, k0_part64_eq_skeleton,
    k0_part65_eq_skeleton, k0_part66_eq_skeleton, k0_part67_eq_skeleton, k0_part68_eq_skeleton,
    k0_part69_eq_skeleton, k0_part70_eq_skeleton, k0_part71_eq_skeleton, k0_part72_eq_skeleton,
    k0_part73_eq_skeleton, k0_part74_eq_skeleton, k0_part75_eq_skeleton, k0_part76_eq_skeleton,
    k0_part77_eq_skeleton, k0_part78_eq_skeleton]
  dsimp only [k0_part1_skel, k0_part2_skel, k0_part3_skel, k0_part4_skel, k0_part5_skel, k0_part6_skel, k0_part7_skel,
    k0_part8_skel, k0_part9_skel, k0_part10_skel, k0_part11_skel, k0_part12_skel, k0_part13_skel,
    k0_part14_skel, k0_part15_skel, k0_part16_skel, k0_part17_skel, k0_part18_skel, k0_part19_skel,
    k0_part20_skel, k0_part21_skel, k0_part22_skel, k0_part23_skel, k0_part24_skel, k0_part25_skel,
    k0_part26_skel, k0_part27_skel, k0_part28_skel, k0_part29_skel, k0_part30_skel, k0_part31_skel,
    k0_part32_skel, k0_part33_skel, k0_part34_skel, k0_part35_skel, k0_part36_skel, k0_part37_skel,
    k0_part38_skel, k0_part39_skel, k0_part40_skel, k0_part41_skel, k0_part42_skel, k0_part43_skel,
    k0_part44_skel, k0_part45_skel, k0_part46_skel, k0_part47_skel, k0_part48_skel, k0_part49_skel,
    k0_part50_skel, k0_part51_skel, k0_part52_skel, k0_part53_skel, k0_part54_skel, k0_part55_skel,
    k0_part56_skel, k0_part57_skel, k0_part58_skel, k0_part59_skel, k0_part60_skel, k0_part61_skel,
    k0_part62_skel, k0_part63_skel, k0_part64_skel, k0_part65_skel, k0_part66_skel, k0_part67_skel,
    k0_part68_skel, k0_part69_skel, k0_part70_skel, k0_part71_skel, k0_part72_skel, k0_part73_skel,
    k0_part74_skel, k0_part75_skel, k0_part76_skel, k0_part77_skel, k0_part78_skel,
    Prog.bind_op, Prog.bind_ret, Prog.bind_lift, Prog.pure_eq_ret]
  unfold TreeScan.body
  dsimp only [TreeScan.prologue, TreeScan.startIn, TreeScan.group, TreeScan.groupIn, TreeScan.groupOut,
    TreeScan.startNext, TreeScan.waitPrev, TreeScan.waitIn, TreeScan.waitOut, TreeScan.startOut, TreeScan.takeIn,
    TreeScan.giveOut, TreeScan.levelsP, TreeScan.levelP, TreeScan.loadAll, Prog.bind_op, Prog.bind_ret,
    Prog.bind_lift, Prog.pure_eq_ret, Nat.reduceAdd, Nat.reduceLT, ↓reduceDIte, Nat.lt_irrefl]
  rfl

end Cert.KernelIdeal

end
-- ==== Proof.LaunchKernelIdeal.lean ====
/-
  The launch of the program KernelIdeal: its pipeline of one point brings the ten parameters whole, the body
  runs (`TreeScan.step_body`), and the result array is left holding `TreeScan.result`.
-/
module

public import proofs.«01_k».proof.Proof.Gen.KernelIdeal.Frame
public import proofs.«01_k».proof.Proof.BodyKernelIdeal
public import proofs.«01_k».proof.Proof.Body
public import Idealize.ShloMosaic.Lib.Pipeline.FrameValue
public import Idealize.ShloMosaic.Lib.StableHlo

@[expose] public section

noncomputable section

namespace Cert.KernelIdeal.Launch

open Cert.KernelIdeal Cert.KernelIdeal.Gen
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem
open Idealize.ShloMosaic.Pipeline (Dat Cfg Window BodyObligation)
open TreeScan (Args Mem preOf result params atRest Owes inRest outRest cell)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The memory the body is run on -/

/-- The buffers the body is handed at point `t`. -/
abbrev memAt (t : Fin cfg0.N) : Mem sig where
  x := Memref.whole main_arg0
  win := st0_0 t
  b := st0_1 t
  d := st0_2 t
  nu := st0_3 t
  th := st0_4 t
  ga := st0_5 t
  bre := st0_6 t
  bim := st0_7 t
  cre := st0_8 t
  cim := st0_9 t
  o := Memref.whole main_v4
  xT := Memref.whole cc0_scratch0
  sT := Memref.whole cc0_scratch1
  xbuf := Memref.whole cc0_scratch2
  obuf := Memref.whole cc0_scratch3
  insem := cc0_scratch4
  outsem := cc0_scratch5
  hxT := Memref.isWhole_whole _

/-- The parameters as the region finds them. -/
def argsOf (c : Dev nD) : Args F where
  win := V m c main_arg3
  b := V m c main_v0
  d := V m c main_arg5
  nu := V m c main_v1
  th := V m c main_v2
  ga := V m c main_v3
  bre := V m c main_arg9
  bim := V m c main_arg10
  cre := V m c main_arg11
  cim := V m c main_arg12

/-- The node features as the region finds them. -/
def featOf (c : Dev nD) : TreeScan.SX.Idx → F .f32 := V m c main_arg0

/-- What the result array holds at the end. -/
def outOf (c : Dev nD) : TreeScan.SX.Idx → F .f32 := result (preOf (argsOf m c)) (featOf m c)

/-- Every buffer's contents at the end: the result array's replaced. -/
def G (c : Dev nD) : (b : Ref sig .tc) → Buf (Elt F) ((c : Thread nD τ).loc b) :=
  Function.update (V m c) main_v4 (outOf m c)

/-! ## The cells and the arrays left in place -/

/-- The ten cells the body's own transfers complete on. -/
abbrev osem0 : Fin 10 → SemLoc sig := fun j => SemLoc.dma ((![10, 11, 12, 13, 14, 15, 16, 17, 18, 19] : Fin 10 → DmaSem sig) j)

theorem ownSemFacts0 : Pipeline.OwnSemFacts spec0 osem0 := by decide

/-- The node features are read in place. -/
def H0 : Finset (Ref sig .tc) := {main_arg0}
theorem H0_sub : H0 ⊆ Pipeline.restRefs sig spec0 := by decide

/-- The result array is written in place. -/
def R0 : Finset (Ref sig .tc) := {main_v4}
theorem R0_sub : R0 ⊆ Pipeline.restRefs sig spec0 \ H0 := by decide

/-- The cells at rest, listed. -/
theorem sems_eq (t : Fin cfg0.N) (c : Dev nD) :
    (Pipeline.ownSems0 (Ix := Unit) (Name := ℕ) (U := Pipeline.UD sig nD τ) (Lvl := ℕ) (Val := Elt F) (τ := τ) osem0 c : sProp 𝕄)
      = iprop(inRest c (memAt t) 0 (by decide) ∗ inRest c (memAt t) 1 (by decide) ∗ inRest c (memAt t) 2 (by decide)
          ∗ inRest c (memAt t) 3 (by decide) ∗ inRest c (memAt t) 4 (by decide)
          ∗ outRest c (memAt t) 0 (by decide) ∗ outRest c (memAt t) 1 (by decide) ∗ outRest c (memAt t) 2 (by decide)
          ∗ outRest c (memAt t) 3 (by decide) ∗ outRest c (memAt t) 4 (by decide)) := by
  rw [Pipeline.ownSems0_eq_of_list c osem0 [0, 1, 2, 3, 4, 5, 6, 7, 8, 9] (by decide) (by decide)]
  rfl

/-- The features' points-to. -/
theorem feats_eq (c : Dev nD) :
    (BI.bigSep H0 (fun b => ((c : Thread nD τ).loc b) ↦{fullShare} V m c b) : sProp 𝕄)
      = owns (c : Thread nD τ) (Memref.whole main_arg0) fullShare (featOf m c) := by
  rw [BI.bigSep_eq_bigSepL_of_eq [main_arg0] (by decide) (by decide), owns_whole]; rfl

/-- The result array's points-to before the body. -/
theorem routed_in (c : Dev nD) :
    (Pipeline.routed R0 c (V m c) : sProp 𝕄)
      = owns (c : Thread nD τ) (Memref.whole main_v4) fullShare (V m c main_v4) := by
  unfold Pipeline.routed
  rw [BI.bigSep_eq_bigSepL_of_eq [main_v4] (by decide) (by decide), owns_whole]; rfl

/-- The result array's points-to after the body. -/
theorem routed_out (c : Dev nD) :
    (Pipeline.routed R0 c (G m c) : sProp 𝕄)
      = owns (c : Thread nD τ) (Memref.whole main_v4) fullShare (outOf m c) := by
  unfold Pipeline.routed G
  rw [BI.bigSep_eq_bigSepL_of_eq [main_v4] (by decide) (by decide), owns_whole]
  simp only [BI.bigSepL_singleton, Function.update_self]

/-- The scratch buffers, each at some contents. -/
theorem scratch_eq (c : Dev nD) :
    (Pipeline.scopedRest (Ix := Unit) (Name := ℕ) (U := Pipeline.UD sig nD τ) (Lvl := ℕ) (Val := Elt F) spec0 c : sProp 𝕄)
      = iprop((∃ T, owns (c : Thread nD τ) (Memref.whole cc0_scratch0) fullShare T)
          ∗ (∃ T, owns (c : Thread nD τ) (Memref.whole cc0_scratch1) fullShare T)
          ∗ (∃ T, owns (c : Thread nD τ) (Memref.whole cc0_scratch2) fullShare T)
          ∗ (∃ T, owns (c : Thread nD τ) (Memref.whole cc0_scratch3) fullShare T)) := by
  rw [scopedRest0_eq]
  simp only [owns_whole]

/-! ## The blocks: each window brings its array whole -/

/-- Window 0's block is its array. -/
theorem read_0 (c : Dev nD) (f : Buf (Elt F) ((c : Thread nD τ).loc main_arg3)) :
    (win0_0.blk t0_0).view.read (Elt F) f = f :=
  Memref.read_access_unit_zero (Elt F) main_arg3
    (show (fun a => (win0_0.index t0_0) a * main_arg3.ty.shape.size a) = fun _ => 0 from
      funext fun a => by fin_cases a <;> decide) (fun a => by fin_cases a <;> decide) f

/-- Window 1's block is its array. -/
theorem read_1 (c : Dev nD) (f : Buf (Elt F) ((c : Thread nD τ).loc main_v0)) :
    (win0_1.blk t0_0).view.read (Elt F) f = f :=
  Memref.read_access_unit_zero (Elt F) main_v0
    (show (fun a => (win0_1.index t0_0) a * main_v0.ty.shape.size a) = fun _ => 0 from
      funext fun a => by fin_cases a <;> decide) (fun a => by fin_cases a <;> decide) f

/-- Window 2's block is its array. -/
theorem read_2 (c : Dev nD) (f : Buf (Elt F) ((c : Thread nD τ).loc main_arg5)) :
    (win0_2.blk t0_0).view.read (Elt F) f = f :=
  Memref.read_access_unit_zero (Elt F) main_arg5
    (show (fun a => (win0_2.index t0_0) a * main_arg5.ty.shape.size a) = fun _ => 0 from
      funext fun a => by fin_cases a <;> decide) (fun a => by fin_cases a <;> decide) f

/-- Window 3's block is its array. -/
theorem read_3 (c : Dev nD) (f : Buf (Elt F) ((c : Thread nD τ).loc main_v1)) :
    (win0_3.blk t0_0).view.read (Elt F) f = f :=
  Memref.read_access_unit_zero (Elt F) main_v1
    (show (fun a => (win0_3.index t0_0) a * main_v1.ty.shape.size a) = fun _ => 0 from
      funext fun a => by fin_cases a <;> decide) (fun a => by fin_cases a <;> decide) f

/-- Window 4's block is its array. -/
theorem read_4 (c : Dev nD) (f : Buf (Elt F) ((c : Thread nD τ).loc main_v2)) :
    (win0_4.blk t0_0).view.read (Elt F) f = f :=
  Memref.read_access_unit_zero (Elt F) main_v2
    (show (fun a => (win0_4.index t0_0) a * main_v2.ty.shape.size a) = fun _ => 0 from
      funext fun a => by fin_cases a <;> decide) (fun a => by fin_cases a <;> decide) f

/-- Window 5's block is its array. -/
theorem read_5 (c : Dev nD) (f : Buf (Elt F) ((c : Thread nD τ).loc main_v3)) :
    (win0_5.blk t0_0).view.read (Elt F) f = f :=
  Memref.read_access_unit_zero (Elt F) main_v3
    (show (fun a => (win0_5.index t0_0) a * main_v3.ty.shape.size a) = fun _ => 0 from
      funext fun a => by fin_cases a <;> decide) (fun a => by fin_cases a <;> decide) f

/-- Window 6's block is its array. -/
theorem read_6 (c : Dev nD) (f : Buf (Elt F) ((c : Thread nD τ).loc main_arg9)) :
    (win0_6.blk t0_0).view.read (Elt F) f = f :=
  Memref.read_access_unit_zero (Elt F) main_arg9
    (show (fun a => (win0_6.index t0_0) a * main_arg9.ty.shape.size a) = fun _ => 0 from
      funext fun a => by fin_cases a <;> decide) (fun a => by fin_cases a <;> decide) f

/-- Window 7's block is its array. -/
theorem read_7 (c : Dev nD) (f : Buf (Elt F) ((c : Thread nD τ).loc main_arg10)) :
    (win0_7.blk t0_0).view.read (Elt F) f = f :=
  Memref.read_access_unit_zero (Elt F) main_arg10
    (show (fun a => (win0_7.index t0_0) a * main_arg10.ty.shape.size a) = fun _ => 0 from
      funext fun a => by fin_cases a <;> decide) (fun a => by fin_cases a <;> decide) f

/-- Window 8's block is its array. -/
theorem read_8 (c : Dev nD) (f : Buf (Elt F) ((c : Thread nD τ).loc main_arg11)) :
    (win0_8.blk t0_0).view.read (Elt F) f = f :=
  Memref.read_access_unit_zero (Elt F) main_arg11
    (show (fun a => (win0_8.index t0_0) a * main_arg11.ty.shape.size a) = fun _ => 0 from
      funext fun a => by fin_cases a <;> decide) (fun a => by fin_cases a <;> decide) f

/-- Window 9's block is its array. -/
theorem read_9 (c : Dev nD) (f : Buf (Elt F) ((c : Thread nD τ).loc main_arg12)) :
    (win0_9.blk t0_0).view.read (Elt F) f = f :=
  Memref.read_access_unit_zero (Elt F) main_arg12
    (show (fun a => (win0_9.index t0_0) a * main_arg12.ty.shape.size a) = fun _ => 0 from
      funext fun a => by fin_cases a <;> decide) (fun a => by fin_cases a <;> decide) f

/-! ## The proof data and the body's triple -/

/-- The invariant: before the one point the result array as found, after it as computed. -/
def inv (c : Dev nD) (k : Fin (cfg0.N + 1)) : sProp 𝕄 :=
  if k.val = 0 then Pipeline.ΦDRG osem0 spec0 H0 R0 (V m) (V m) c
  else Pipeline.ΦDRG osem0 spec0 H0 R0 (V m) (G m) c

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => (argsOf m c).win
    | ⟨1, _⟩ => (argsOf m c).b
    | ⟨2, _⟩ => (argsOf m c).d
    | ⟨3, _⟩ => (argsOf m c).nu
    | ⟨4, _⟩ => (argsOf m c).th
    | ⟨5, _⟩ => (argsOf m c).ga
    | ⟨6, _⟩ => (argsOf m c).bre
    | ⟨7, _⟩ => (argsOf m c).bim
    | ⟨8, _⟩ => (argsOf m c).cre
    | ⟨9, _⟩ => (argsOf m c).cim
  Φ := inv m c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = (argsOf m c).win := by dsimp only [dats]
theorem before_0 (c : Dev nD) (d) : (dats m 0 c).before 0 t0_0 d = (argsOf m c).win := by
  unfold Dat.before; rw [if_pos (fetch0_0 t0_0)]
  exact read_0 c (V m c main_arg3)

theorem after_1 (c : Dev nD) (t : Fin cfg0.N) : (dats m 0 c).after 1 t = (argsOf m c).b := by dsimp only [dats]
theorem before_1 (c : Dev nD) (d) : (dats m 0 c).before 1 t0_0 d = (argsOf m c).b := by
  unfold Dat.before; rw [if_pos (fetch0_1 t0_0)]
  exact read_1 c (V m c main_v0)

theorem after_2 (c : Dev nD) (t : Fin cfg0.N) : (dats m 0 c).after 2 t = (argsOf m c).d := by dsimp only [dats]
theorem before_2 (c : Dev nD) (d) : (dats m 0 c).before 2 t0_0 d = (argsOf m c).d := by
  unfold Dat.before; rw [if_pos (fetch0_2 t0_0)]
  exact read_2 c (V m c main_arg5)

theorem after_3 (c : Dev nD) (t : Fin cfg0.N) : (dats m 0 c).after 3 t = (argsOf m c).nu := by dsimp only [dats]
theorem before_3 (c : Dev nD) (d) : (dats m 0 c).before 3 t0_0 d = (argsOf m c).nu := by
  unfold Dat.before; rw [if_pos (fetch0_3 t0_0)]
  exact read_3 c (V m c main_v1)

theorem after_4 (c : Dev nD) (t : Fin cfg0.N) : (dats m 0 c).after 4 t = (argsOf m c).th := by dsimp only [dats]
theorem before_4 (c : Dev nD) (d) : (dats m 0 c).before 4 t0_0 d = (argsOf m c).th := by
  unfold Dat.before; rw [if_pos (fetch0_4 t0_0)]
  exact read_4 c (V m c main_v2)

theorem after_5 (c : Dev nD) (t : Fin cfg0.N) : (dats m 0 c).after 5 t = (argsOf m c).ga := by dsimp only [dats]
theorem before_5 (c : Dev nD) (d) : (dats m 0 c).before 5 t0_0 d = (argsOf m c).ga := by
  unfold Dat.before; rw [if_pos (fetch0_5 t0_0)]
  exact read_5 c (V m c main_v3)

theorem after_6 (c : Dev nD) (t : Fin cfg0.N) : (dats m 0 c).after 6 t = (argsOf m c).bre := by dsimp only [dats]
theorem before_6 (c : Dev nD) (d) : (dats m 0 c).before 6 t0_0 d = (argsOf m c).bre := by
  unfold Dat.before; rw [if_pos (fetch0_6 t0_0)]
  exact read_6 c (V m c main_arg9)

theorem after_7 (c : Dev nD) (t : Fin cfg0.N) : (dats m 0 c).after 7 t = (argsOf m c).bim := by dsimp only [dats]
theorem before_7 (c : Dev nD) (d) : (dats m 0 c).before 7 t0_0 d = (argsOf m c).bim := by
  unfold Dat.before; rw [if_pos (fetch0_7 t0_0)]
  exact read_7 c (V m c main_arg10)

theorem after_8 (c : Dev nD) (t : Fin cfg0.N) : (dats m 0 c).after 8 t = (argsOf m c).cre := by dsimp only [dats]
theorem before_8 (c : Dev nD) (d) : (dats m 0 c).before 8 t0_0 d = (argsOf m c).cre := by
  unfold Dat.before; rw [if_pos (fetch0_8 t0_0)]
  exact read_8 c (V m c main_arg11)

theorem after_9 (c : Dev nD) (t : Fin cfg0.N) : (dats m 0 c).after 9 t = (argsOf m c).cim := by dsimp only [dats]
theorem before_9 (c : Dev nD) (d) : (dats m 0 c).before 9 t0_0 d = (argsOf m c).cim := by
  unfold Dat.before; rw [if_pos (fetch0_9 t0_0)]
  exact read_9 c (V m c main_arg12)

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem inv_in (c : Dev nD) : inv m c (t0_0 : Fin cfg0.N).castSucc = Pipeline.ΦDRG osem0 spec0 H0 R0 (V m) (V m) c := by
  exact if_pos rfl

theorem inv_out (c : Dev nD) : inv m c (t0_0 : Fin cfg0.N).succ = Pipeline.ΦDRG osem0 spec0 H0 R0 (V m) (G m) c := by
  exact if_neg (Nat.succ_ne_zero _)

/-- The body's triple at the one point. -/
theorem sound_body (c : Dev nD) :
    bodyPre m c t0_0 ⊢ wp frame (wpE (defs₀ (F := F)) Variants.none c none) Set.univ (bodyAt0 t0_0) (fun _ => bodyPost m c t0_0) := by
  unfold bodyPre bodyPost bodyAt0
  rw [body_eq]
  rw [show (dats m 0 c).Φ (t0_0 : Fin cfg0.N).castSucc = inv m c (t0_0 : Fin cfg0.N).castSucc from rfl,
    show (dats m 0 c).Φ (t0_0 : Fin cfg0.N).succ = inv m c (t0_0 : Fin cfg0.N).succ from rfl, inv_in, inv_out]
  unfold Dat.owesAt Pipeline.owesWithin
  rw [show (dats m 0 c).owed (t0_0 : Fin cfg0.N).castSucc = 0 from rfl, show (dats m 0 c).owed (t0_0 : Fin cfg0.N).succ = 0 from rfl]
  rw [Pipeline.ΦDRG_eq, Pipeline.ΦDRG_eq, scratch_eq, sems_eq t0_0 c, feats_eq, routed_in, routed_out]
  simp only [before_0, before_1, before_2, before_3, before_4, before_5, before_6, before_7, before_8, before_9, after_0, after_1, after_2, after_3, after_4, after_5, after_6, after_7, after_8, after_9]
  iintro ⟨⟨⟨S0, S1, S2, S3⟩, Hg, ⟨I0, I1, I2, I3, I4, O0, O1, O2, O3, O4⟩, HX, HZ⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (TreeScan.step_body Variants.none c none (memAt t0_0) (featOf m c) (argsOf m c) fullShare _) $$ [H0 H1 H2 H3 H4 H5 H6 H7 H8 H9 S0 S1 S2 S3 I0 I1 I2 I3 I4 O0 O1 O2 O3 O4 HX HZ HW]
  · isplitl [H0 H1 H2 H3 H4 H5 H6 H7 H8 H9]
    · unfold params
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HX]; · iexact HX
    isplitl [HZ]; · iexists _; iexact HZ
    isplitr [HW]; swap; · unfold TreeScan.Owes; iexists _; iexact HW
    unfold atRest
    isplitl [S0]; · iexact S0
    isplitl [S1]; · iexact S1
    isplitl [S2]; · iexact S2
    isplitl [S3]; · iexact S3
    isplitl [I0 I1 I2 I3 I4]
    · isplitl [I0]; · iexact I0
      isplitl [I1]; · iexact I1
      isplitl [I2]; · iexact I2
      isplitl [I3]; · iexact I3
      iexact I4
    isplitl [O0]; · iexact O0
    isplitl [O1]; · iexact O1
    isplitl [O2]; · iexact O2
    isplitl [O3]; · iexact O3
    iexact O4
  unfold params atRest TreeScan.Owes
  iintro ⟨⟨H0, H1, H2, H3, H4, H5, H6, H7, H8, H9⟩, HX, HZ, ⟨S0, S1, S2, S3, ⟨I0, I1, I2, I3, I4⟩, ⟨O0, O1, O2, O3, O4⟩⟩, ⟨%W', HW⟩⟩
  isplitl [S0 S1 S2 S3 Hg I0 I1 I2 I3 I4 O0 O1 O2 O3 O4 HX HZ]
  · isplitl [S0 S1 S2 S3]
    · isplitl [S0]; · iexact S0
      isplitl [S1]; · iexact S1
      isplitl [S2]; · iexact S2
      iexact S3
    isplitl [Hg]; · iexact Hg
    isplitl [I0 I1 I2 I3 I4 O0 O1 O2 O3 O4]
    · isplitl [I0]; · iexact I0
      isplitl [I1]; · iexact I1
      isplitl [I2]; · iexact I2
      isplitl [I3]; · iexact I3
      isplitl [I4]; · iexact I4
      isplitl [O0]; · iexact O0
      isplitl [O1]; · iexact O1
      isplitl [O2]; · iexact O2
      isplitl [O3]; · iexact O3
      iexact O4
    isplitl [HX]; · iexact HX
    iexact HZ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [fin_N0 t, bigSep_W0, bigSep_W0, defs₀_row]
  exact triple_restated (sound_body m c) rfl .rfl fun _ => .rfl

/-! ## The run -/

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The program runs, its arrays end as stated, and every semaphore counter ends at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m) (hA := A_eq m) (G := G m)
    (hin := fun c => Entails.of_eq (inv_in m c).symm) (hout := fun c => Entails.of_eq (inv_out m c))

/-- What the run says: the arguments unchanged, the result array at `outOf`, every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_v4) = outOf m c)
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).1 0).trans (((dats m 0 c).arrAt_in 0 rfl _).trans ((A_eq m c 0).trans (V_main_arg3 m c))),
      ((h.1.toR c).2 main_arg4 (Finset.mem_sdiff.mpr ⟨Pipeline.mem_restRefs_of main_arg4 (by decide) (by decide), by decide⟩)).trans (V_main_arg4 m c),
      ((h.1.toR c).1 2).trans (((dats m 0 c).arrAt_in 2 rfl _).trans ((A_eq m c 2).trans (V_main_arg5 m c))),
      ((h.1.toR c).2 main_arg6 (Finset.mem_sdiff.mpr ⟨Pipeline.mem_restRefs_of main_arg6 (by decide) (by decide), by decide⟩)).trans (V_main_arg6 m c),
      ((h.1.toR c).2 main_arg7 (Finset.mem_sdiff.mpr ⟨Pipeline.mem_restRefs_of main_arg7 (by decide) (by decide), by decide⟩)).trans (V_main_arg7 m c),
      ((h.1.toR c).2 main_arg8 (Finset.mem_sdiff.mpr ⟨Pipeline.mem_restRefs_of main_arg8 (by decide) (by decide), by decide⟩)).trans (V_main_arg8 m c),
      ((h.1.toR c).1 6).trans (((dats m 0 c).arrAt_in 6 rfl _).trans ((A_eq m c 6).trans (V_main_arg9 m c))),
      ((h.1.toR c).1 7).trans (((dats m 0 c).arrAt_in 7 rfl _).trans ((A_eq m c 7).trans (V_main_arg10 m c))),
      ((h.1.toR c).1 8).trans (((dats m 0 c).arrAt_in 8 rfl _).trans ((A_eq m c 8).trans (V_main_arg11 m c))),
      ((h.1.toR c).1 9).trans (((dats m 0 c).arrAt_in 9 rfl _).trans ((A_eq m c 9).trans (V_main_arg12 m c))),
      (h.1.written c (by decide)).trans (by unfold G; rw [Function.update_self])⟩, h.2⟩) (run_main m ρ)

end Cert.KernelIdeal.Launch

end
-- ==== Proof.KernelValue.lean ====
/-
  What the kernel computes before its groups, and a chunk of its drive and of its result, read at
  one element over the extended reals.
-/
module

public import proofs.«01_k».proof.Proof.Body
public import Idealize.ShloMosaic.Lib.Pointwise

@[expose] public section

noncomputable section

namespace TreeScan

open Idealize.ShloMosaic

/-- The lane of state `c`'s real part. -/
abbrev lo (c : Fin 64) : Fin 128 := ⟨c.val, by omega⟩
/-- The lane of state `c`'s imaginary part. -/
abbrev hi (c : Fin 64) : Fin 128 := ⟨64 + c.val, by omega⟩

/-- A sum over the lanes is the sum over both halves. -/
theorem sum_lanes (g : Fin 128 → EReal) : ∑ j : Fin 128, g j = ∑ c : Fin 64, g (lo c) + ∑ c : Fin 64, g (hi c) :=
  Fin.sum_univ_add (a := 64) (b := 64) g

/-- The modulus of a coefficient times the cosine of its angle. -/
def coefRe (nu th : EReal) : EReal := Ideal.exp (-Ideal.exp nu) * Ideal.cos (Ideal.exp th)
/-- The modulus of a coefficient times the sine of its angle. -/
def coefIm (nu th : EReal) : EReal := Ideal.exp (-Ideal.exp nu) * Ideal.sin (Ideal.exp th)

section Halves

variable (nu th ga : Vec Ideal SH .f32) (bre bim : Vec Ideal SBr .f32) (cre cim : Vec Ideal SCr .f32) (c : Fin 64)

/-- The multiplier's real part, in the first half of the lanes. -/
theorem mulRe_lo : mulRe (F := Ideal) nu th (ix3 0 0 (lo c)) = coefRe (nu (ix2 0 c)) (th (ix2 0 c)) := by
  pointwise [mulRe, lamMod, angle]
  rw [zero_sub]
  rfl

/-- The multiplier's real part, in the second half of the lanes. -/
theorem mulRe_hi : mulRe (F := Ideal) nu th (ix3 0 0 (hi c)) = coefRe (nu (ix2 0 c)) (th (ix2 0 c)) := by
  pointwise [mulRe, lamMod, angle]
  simp only [zero_sub]
  rfl

/-- The multiplier's imaginary part, negated in the first half of the lanes. -/
theorem mulIm_lo : mulIm (F := Ideal) nu th (ix3 0 0 (lo c)) = -coefIm (nu (ix2 0 c)) (th (ix2 0 c)) := by
  pointwise [mulIm, lamMod, angle]
  simp only [zero_sub]
  rfl

/-- The multiplier's imaginary part, in the second half of the lanes. -/
theorem mulIm_hi : mulIm (F := Ideal) nu th (ix3 0 0 (hi c)) = coefIm (nu (ix2 0 c)) (th (ix2 0 c)) := by
  pointwise [mulIm, lamMod, angle]
  simp only [zero_sub]
  rfl

/-- The first rows of the scaled input matrix. -/
theorem scaledB_lo (k : Fin 128) : scaledB (F := Ideal) ga bre bim (ix2 (lo c) k) = bre (ix2 c k) * Ideal.exp (ga (ix2 0 c)) := by
  pointwise [scaledB]

/-- The last rows of the scaled input matrix. -/
theorem scaledB_hi (k : Fin 128) : scaledB (F := Ideal) ga bre bim (ix2 (hi c) k) = bim (ix2 c k) * Ideal.exp (ga (ix2 0 c)) := by
  pointwise [scaledB]

/-- The first columns of the output matrix. -/
theorem outMat_lo (f : Fin 128) : outMat (F := Ideal) cre cim (ix2 f (lo c)) = cre (ix2 f c) := by
  pointwise [outMat]

/-- The last columns of the output matrix. -/
theorem outMat_hi (f : Fin 128) : outMat (F := Ideal) cre cim (ix2 f (hi c)) = -cim (ix2 f c) := by
  pointwise [outMat]
  exact zero_sub _

end Halves

theorem inMat_apply (ga : Vec Ideal SH .f32) (bre bim : Vec Ideal SBr .f32) (w : Vec Ideal SQ .f32) (k j : Fin 128) :
    inMat (F := Ideal) ga bre bim w (ix2 k j) = ∑ i : Fin 128, w (ix2 i k) * scaledB (F := Ideal) ga bre bim (ix2 j i) := by
  pointwise [inMat]

theorem skipMat_apply (d w : Vec Ideal SQ .f32) (f k : Fin 128) :
    skipMat (F := Ideal) d w (ix2 f k) = ∑ i : Fin 128, d (ix2 f i) * w (ix2 i k) := by
  pointwise [skipMat]

theorem biasRow_apply (b : Vec Ideal SV .f32) (w : FVec Ideal SQ .f32) (j : Fin 128) :
    biasRow (F := Ideal) b w (ix2 0 j) = ∑ i : Fin 128, b (ix2 0 i) * w (ix2 j i) := by
  pointwise [biasRow]

theorem chunkX_apply (v : Vec Ideal (SS 512) .f32) (r : Fin 512) (b : Fin 8) (k : Fin 128) :
    chunkX (F := Ideal) v (ix3 r b k) = v (ix4 0 b r k) := by
  pointwise [chunkX]

theorem chunkS_apply (w12 : FVec Ideal SQ .bf16) (bc : FVec Ideal SV .f32) (v : Vec Ideal (SS 512) .f32) (r : Fin 512) (b : Fin 8) (j : Fin 128) :
    chunkS (F := Ideal) w12 bc v (ix3 r b j) = ∑ k : Fin 128, v (ix4 0 b r k) * w12 (ix2 k j) + bc (ix2 0 j) := by
  pointwise [chunkS, chunkX]

theorem chunkO_apply (dw : FVec Ideal SQ .bf16) (cc : FVec Ideal SQ .f32) (oc : FVec Ideal SV .f32)
    (s : Vec Ideal (ST 512) .f32) (xc : Vec Ideal (ST 512) .bf16) (b : Fin 8) (r : Fin 512) (f : Fin 128) :
    chunkO (F := Ideal) dw cc oc s xc (ix4 0 b r f)
      = (∑ j : Fin 128, s (ix3 r b j) * cc (ix2 f j) + ∑ k : Fin 128, xc (ix3 r b k) * dw (ix2 f k)) + oc (ix2 0 f) := by
  pointwise [chunkO]

/-- The lane a half turn away. -/
abbrev turn (j : Fin 128) : Fin 128 := ⟨(j.val + 64) % 128, by omega⟩

/-- Two rows of the level below added up. -/
def pairSum {m : ℕ} (cur : Vec Ideal (ST (2 * m)) .f32) (i : Fin m) (b : Fin 8) (j : Fin 128) : EReal :=
  cur (ix3 ⟨2 * i.val, by omega⟩ b j) + cur (ix3 ⟨2 * i.val + 1, by omega⟩ b j)

theorem pairs_apply (m : ℕ) (cur : Vec Ideal (ST (2 * m)) .f32) (i : Fin m) (e : Fin 2) (b : Fin 8) (j : Fin 128) :
    shapeCast (SP m) cur (castLevel m) (ix4 i e b j) = cur (ix3 ⟨2 * i.val + e.val, by omega⟩ b j) := by
  refine shapeCast_apply _ _ _ _ ?_
  rw [Shape.rowMajor_val_three, Shape.rowMajor_val_four]
  simp
  omega

theorem reduced_apply (m : ℕ) (cur : Vec Ideal (ST (2 * m)) .f32) (i : Fin m) (b : Fin 8) (j : Fin 128) :
    multiReduction (F := Ideal) .add [1] (ST m) (shapeCast (SP m) cur (castLevel m)) 0x00000000#32 (reduceLevel m) (.inl rfl) rfl (ix3 i b j)
      = pairSum cur i b j := by
  refine (Ideal.reduceAdd_r4_a1 (reduceLevel m) _ _).trans ?_
  refine (Fin.sum_univ_two _).trans ?_
  exact congrArg₂ (· + ·) (pairs_apply m cur i 0 b j) (pairs_apply m cur i 1 b j)

/-- A level's state. -/
theorem levelS_apply (m : ℕ) (laa lbb : FVec Ideal SL .f32) (cur : Vec Ideal (ST (2 * m)) .f32) (own : Vec Ideal (ST m) .f32)
    (i : Fin m) (b : Fin 8) (j : Fin 128) :
    levelS (F := Ideal) m laa lbb cur own (ix3 i b j)
      = (pairSum cur i b j * laa (ix3 0 0 j) + pairSum cur i b (turn j) * lbb (ix3 0 0 j)) + own (ix3 i b j) := by
  have hb : ∀ v : FVec Ideal SL .f32, broadcastTo (ST m) v (broadLevel m) (ix3 i b j) = v (ix3 0 0 j) := by
    intro v
    refine congrArg v ?_
    funext k
    match k with
    | ⟨0, _⟩ => rfl
    | ⟨1, _⟩ => rfl
    | ⟨2, _⟩ => rfl
  have hr : ∀ v : FVec Ideal (ST m) .f32, dynamicRotate 2 64#32 none v (rotateLevel m) (ix3 i b j) = v (ix3 i b (turn j)) := by
    intro v
    refine congrArg v ?_
    funext k
    match k with
    | ⟨0, _⟩ => rfl
    | ⟨1, _⟩ => rfl
    | ⟨2, _⟩ =>
      refine Fin.ext ?_
      change (j.val + 128 - 64 % 128) % 128 = (j.val + 64) % 128
      omega
  change (_ * broadcastTo (ST m) laa (broadLevel m) (ix3 i b j)
    + dynamicRotate 2 64#32 none _ (rotateLevel m) (ix3 i b j) * broadcastTo (ST m) lbb (broadLevel m) (ix3 i b j)) + _ = _
  rw [hb, hb, hr, reduced_apply]
  exact congrArg (fun z => _ * _ + z * _ + _) (reduced_apply ..)

end TreeScan
-- ==== Proof.KernelScan.lean ====
/-
  The kernel's eleven levels, from the lowest inner nodes to the root: the states it ends with are
  the tree's recurrence at every node, and the result is read off them row by row.
-/
module

public import proofs.«01_k».proof.Proof.KernelValue

@[expose] public section

noncomputable section

namespace TreeScan

open Idealize.ShloMosaic
open Idealize.SL

/-- The states of node `m`, none where the tree has no such node. -/
def child (T : (ST 4096).Idx → EReal) (b : Fin 8) (m : ℕ) (j : Fin 128) : EReal :=
  if h : m < 4095 then T (ix3 ⟨m, by omega⟩ b j) else 0

/-- The states of both children of node `n` added up. -/
def children (T : (ST 4096).Idx → EReal) (b : Fin 8) (n : ℕ) (j : Fin 128) : EReal :=
  child T b (2 * n + 1) j + child T b (2 * n + 2) j

/-- From node `o` on the array holds the recurrence's states, before it the drive as it was. -/
structure Climb (laa lbb : FVec Ideal SL .f32) (U : (ST 4096).Idx → EReal) (o : ℕ) (T : (ST 4096).Idx → EReal) : Prop where
  below : ∀ (n : Fin 4096) (b : Fin 8) (j : Fin 128), n.val < o → T (ix3 n b j) = U (ix3 n b j)
  above : ∀ (n : Fin 4096) (b : Fin 8) (j : Fin 128), o ≤ n.val → n.val < 4095 → T (ix3 n b j)
    = (children T b n.val j * laa (ix3 0 0 j) + children T b n.val (turn j) * lbb (ix3 0 0 j)) + U (ix3 n b j)

/-- The leaves have no children: their states are the drive. -/
theorem climb_leaves (laa lbb : FVec Ideal SL .f32) (U : (ST 4096).Idx → EReal) : Climb laa lbb U 2047 U where
  below _ _ _ _ := rfl
  above n b j ho _ := by
    have h : ∀ j, children U b n.val j = 0 := by
      intro j
      unfold children child
      rw [dif_neg (by omega), dif_neg (by omega), add_zero]
    rw [h, h, zero_mul, zero_mul, add_zero, zero_add]

/-- A level takes the recurrence one level up. -/
theorem climb_level (V : Pre Ideal) (U T : (ST 4096).Idx → EReal) (m : ℕ) (h0 : 1 ≤ m) (hm : m ≤ 1024)
    (h : Climb V.laa V.lbb U (2 * m - 1) T) : Climb V.laa V.lbb U (m - 1) (stepLevel V m hm T) := by
  have out : ∀ (n : Fin 4096) (b : Fin 8) (j : Fin 128), ¬ (m - 1 ≤ n.val ∧ n.val < m - 1 + m) →
      stepLevel V m hm T (ix3 n b j) = T (ix3 n b j) := fun n b j hn =>
    Rect.overlay_of_not_mem _ _ _ (not_mem_rowsT (m - 1) m (by omega) n b j hn)
  have kept : ∀ (n b j), m - 1 ≤ n → children (stepLevel V m hm T) b n j = children T b n j := by
    intro n b j hn
    have hc : ∀ k, 2 * m - 1 ≤ k → child (stepLevel V m hm T) b k j = child T b k j := by
      intro k hk
      unfold child
      split
      · exact out _ b j fun h => absurd (show k < m - 1 + m from h.2) (by omega)
      · rfl
    unfold children
    rw [hc _ (by omega), hc _ (by omega)]
  refine ⟨fun n b j hn => ?_, fun n b j ho hn => ?_⟩
  · rw [out n b j (by omega)]
    exact h.below n b j (by omega)
  · rw [kept _ _ _ ho, kept _ _ _ ho]
    by_cases hw : n.val < m - 1 + m
    · have pair : ∀ j, pairSum (rowsOf (2 * m - 1) (2 * m) (by omega) T) (⟨n.val - (m - 1), by omega⟩ : Fin m) b j = children T b n.val j := by
        intro j
        unfold pairSum children child rowsOf
        rw [dif_pos (by omega), dif_pos (by omega), rowsT_emb, rowsT_emb]
        refine congrArg₂ (fun x y => T (ix3 x b j) + T (ix3 y b j)) (Fin.ext ?_) (Fin.ext ?_)
        · show 2 * m - 1 + 2 * (n.val - (m - 1)) = 2 * n.val + 1
          omega
        · show 2 * m - 1 + (2 * (n.val - (m - 1)) + 1) = 2 * n.val + 2
          omega
      have own : rowsOf (m - 1) m (by omega) T (ix3 (⟨n.val - (m - 1), by omega⟩ : Fin m) b j) = U (ix3 n b j) :=
        (congrArg T (mem_rowsT (m - 1) m (by omega) n b j ho hw).symm).trans (h.below n b j (by omega))
      unfold stepLevel
      rw [mem_rowsT (m - 1) m (by omega) n b j ho hw, Rect.overlay_emb, levelS_apply, pair, pair, own,
        ← mem_rowsT (m - 1) m (by omega) n b j ho hw]
    · rw [out n b j (by omega)]
      exact h.above n b j (by omega) hn

/-- The states the kernel ends with are the recurrence's at every node. -/
theorem climb_states (V : Pre Ideal) (U : (ST 4096).Idx → EReal) : Climb V.laa V.lbb U 0 (states V U) :=
  climb_level V U _ 1 (by decide) (by decide) <| climb_level V U _ 2 (by decide) (by decide) <|
  climb_level V U _ 4 (by decide) (by decide) <| climb_level V U _ 8 (by decide) (by decide) <|
  climb_level V U _ 16 (by decide) (by decide) <| climb_level V U _ 32 (by decide) (by decide) <|
  climb_level V U _ 64 (by decide) (by decide) <| climb_level V U _ 128 (by decide) (by decide) <|
  climb_level V U _ 256 (by decide) (by decide) <| climb_level V U _ 512 (by decide) (by decide) <|
  climb_level V U _ 1024 (by decide) (by decide) <| climb_leaves _ _ U

theorem chunk_row (n : ℕ) (hn : n < 4095) (h : n % 512 < 512) : rowIn (n / 512) ⟨n % 512, h⟩ = ⟨n, hn⟩ := by
  rw [rowIn_of_lt _ _ (by show 512 * (n / 512) + n % 512 < 4095; omega)]
  exact Fin.ext (by show 512 * (n / 512) + n % 512 = n; omega)

theorem batch_member (b : Fin 32) : batchOf (groupOf b) (memberOf b) = b :=
  Fin.ext (by show 8 * (b.val / 8) + b.val % 8 = b.val; omega)

/-- A node's drive: its row of `x` against the input matrix, and the bias. -/
theorem drive_apply (V : Pre Ideal) (X : SX.Idx → EReal) (b : Fin 32) (n : Fin 4095) (j : Fin 128) :
    drive (F := Ideal) V X (groupOf b) (ix3 ⟨n.val, by omega⟩ (memberOf b) j)
      = ∑ k : Fin 128, X (ix3 b n k) * V.w12 (ix2 k j) + V.bc (ix2 0 j) := by
  refine (chunkS_apply V.w12 V.bc _ _ _ _).trans ?_
  refine congrArg (· + _) (Finset.sum_congr rfl fun k _ => congrArg (· * _) ?_)
  exact congrArg₂ (fun b n => X (ix3 b n k)) (batch_member b) (chunk_row n.val n.isLt (by omega))

/-- An entry of the result: the node's states against the output matrix, its row of `x` against the
    skip matrix, and the bias. -/
theorem result_apply (V : Pre Ideal) (X : SX.Idx → EReal) (b : Fin 32) (n : Fin 4095) (f : Fin 128) :
    result (F := Ideal) V X (ix3 b n f)
      = (∑ j : Fin 128, states V (drive V X (groupOf b)) (ix3 ⟨n.val, by omega⟩ (memberOf b) j) * V.cc (ix2 f j)
        + ∑ k : Fin 128, X (ix3 b n k) * V.dw (ix2 f k)) + V.oc (ix2 0 f) := by
  have row : rowAt (512 * (n.val / 512)) 512 (by omega) ⟨n.val % 512, by omega⟩ = ⟨n.val, by omega⟩ :=
    Fin.ext (by show 512 * (n.val / 512) + n.val % 512 = n.val; omega)
  refine (chunkO_apply V.dw V.cc V.oc _ _ _ _ _).trans ?_
  refine congrArg (· + _) (congrArg₂ (· + ·) (Finset.sum_congr rfl fun j _ => congrArg (· * _) ?_)
    (Finset.sum_congr rfl fun k _ => congrArg (· * _) ?_))
  · refine (congrArg (states V (drive V X (groupOf b))) (rowsT_emb _ _ _ _ _ _)).trans ?_
    exact congrArg (fun r => states V (drive V X (groupOf b)) (ix3 r (memberOf b) j)) row
  · refine (congrArg (rowsX (F := Ideal) X (groupOf b)) (rowsT_emb _ _ _ _ _ _)).trans ?_
    refine (congrArg (fun r => rowsX (F := Ideal) X (groupOf b) (ix3 r (memberOf b) k)) row).trans ?_
    refine (chunkX_apply _ _ _ _).trans ?_
    exact congrArg₂ (fun b n => X (ix3 b n k)) (batch_member b) (chunk_row n.val n.isLt (by omega))

end TreeScan
-- ==== Proof.RowMoves.lean ====
/-
  Rows taken from and put into a table of 4095 rows: what a gather by row numbers reads, and what
  a scatter of a run of rows leaves, each at one element.
-/
module

public import Idealize.ShloMosaic.Lib.Routing.OpsPair
public import Idealize.ShloMosaic.Lib.Pointwise

@[expose] public section

namespace TreeScan

open Idealize.ShloMosaic

/-- A table of `w` rows for each of 32 batches, 64 lanes a row. -/
abbrev table (w : ℕ) : Shape := ⟨3, ![32, w, 64]⟩

/-- A fold that overwrites its state at the hits does nothing where there is no hit. -/
theorem foldl_no_hit {ι α : Type} (P : ι → Prop) [DecidablePred P] (g : ι → α) (l : List ι) (a : α)
    (h : ∀ n ∈ l, ¬ P n) : l.foldl (fun a n => if P n then g n else a) a = a := by
  induction l with
  | nil => rfl
  | cons m l ih =>
    rw [List.foldl_cons, if_neg (h m List.mem_cons_self)]
    exact ih fun n hn => h n (List.mem_cons_of_mem _ hn)

/-- A fold that overwrites its state at the hits, every hit with one value, ends at that value
    when there is a hit. -/
theorem foldl_hits {ι α : Type} (P : ι → Prop) [DecidablePred P] (g : ι → α) (v : α) (l : List ι) (a : α)
    (h : ∀ n ∈ l, P n → g n = v) (e : ∃ n ∈ l, P n) : l.foldl (fun a n => if P n then g n else a) a = v := by
  induction l generalizing a with
  | nil => simp at e
  | cons m l ih =>
    rw [List.foldl_cons]
    by_cases e' : ∃ n ∈ l, P n
    · exact ih _ (fun n hn => h n (List.mem_cons_of_mem _ hn)) e'
    · rw [foldl_no_hit _ _ _ _ fun n hn hp => e' ⟨n, hn, hp⟩]
      obtain ⟨n, hn, hp⟩ := e
      rcases List.mem_cons.1 hn with rfl | hn
      · rw [if_pos hp, h n List.mem_cons_self hp]
      · exact absurd ⟨n, hn, hp⟩ e'

section Scatter

variable {w : ℕ} (d : ScatterDims (table 4095) ⟨1, ![1]⟩ (table w))
  (huw : d.updateWindowDims = [0, 1, 2]) (hiw : d.insertedWindowDims = [])
  (hsd : d.scatterDimsToOperandDims = [1]) (hiv : d.indexVectorDim = 0)
  (idx : IVec ⟨1, ![1]⟩ 32) (o : ℕ) (hidx : ∀ k, (idx k).toInt = o)
include huw hiw hsd hiv hidx

/-- The element of the table at which row `n` of the run lands: row `o + n`, the batch and the
    lane kept. -/
theorem scatter_lands (b b' : Fin 32) (n : Fin w) (n' : Fin 4095) (c c' : Fin 64) :
    d.resultIdx? (ix3 b n c) idx = some (ix3 b' n' c') ↔ b = b' ∧ o + n.val = n'.val ∧ c = c' := by
  obtain ⟨uw, iw, sd, iv, wf⟩ := d
  simp only at huw hiw hsd hiv
  subst huw hiw hsd hiv
  rw [Routing.resultIdx?_eq_some]
  constructor
  · intro h
    have h0 := h 0
    have h1 := h 1
    have h2 := h 2
    change (0 : ℤ) + (b.val : ℤ) = (b'.val : ℤ) at h0
    change (idx _).toInt + (n.val : ℤ) = (n'.val : ℤ) at h1
    rw [hidx] at h1
    change (0 : ℤ) + (c.val : ℤ) = (c'.val : ℤ) at h2
    exact ⟨Fin.ext (by omega), by omega, Fin.ext (by omega)⟩
  · rintro ⟨rfl, h, rfl⟩ a
    match a with
    | ⟨0, _⟩ => exact (Int.zero_add _)
    | ⟨1, _⟩ =>
      change (idx _).toInt + (n.val : ℤ) = (n'.val : ℤ)
      rw [hidx]
      omega
    | ⟨2, _⟩ => exact (Int.zero_add _)

variable {α : Type} (x : (table 4095).Idx → α) (upd : (table w).Idx → α)

/-- Inside the run the scatter leaves the run's row. -/
theorem scatter_in (b : Fin 32) (n : Fin 4095) (c : Fin 64) (k : Fin w) (hk : o + k.val = n.val) :
    Host.scatter d (fun _ b => b) x idx upd (ix3 b n c) = upd (ix3 b k c) := by
  classical
  rw [Routing.scatter_at]
  refine foldl_hits (fun m => d.resultIdx? ((table w).rowMajor.symm m) idx = some (ix3 b n c))
    (fun m => upd ((table w).rowMajor.symm m)) (upd (ix3 b k c)) _ _ ?_
    ⟨(table w).rowMajor (ix3 b k c), List.mem_finRange _, ?_⟩
  rotate_left
  · rw [Equiv.symm_apply_apply]
    exact (scatter_lands d huw hiw hsd hiv idx o hidx ..).2 ⟨rfl, hk, rfl⟩
  · intro m _ hm
    obtain ⟨j, rfl⟩ := (table w).rowMajor.surjective m
    simp only [Equiv.symm_apply_apply] at hm ⊢
    obtain ⟨b', k', c', rfl⟩ : ∃ (b' : Fin 32) (k' : Fin w) (c' : Fin 64), j = ix3 b' k' c' := ⟨j 0, j 1, j 2, eq_ix3 j⟩
    obtain ⟨rfl, h, rfl⟩ := (scatter_lands d huw hiw hsd hiv idx o hidx ..).1 hm
    rw [show k' = k from Fin.ext (by omega)]

/-- Outside the run the scatter leaves the table as it was. -/
theorem scatter_out (b : Fin 32) (n : Fin 4095) (c : Fin 64) (hn : n.val < o ∨ o + w ≤ n.val) :
    Host.scatter d (fun _ b => b) x idx upd (ix3 b n c) = x (ix3 b n c) := by
  classical
  rw [Routing.scatter_at]
  refine foldl_no_hit (fun m => d.resultIdx? ((table w).rowMajor.symm m) idx = some (ix3 b n c))
    (fun m => upd ((table w).rowMajor.symm m)) _ _ ?_
  intro m _ hm
  obtain ⟨j, rfl⟩ := (table w).rowMajor.surjective m
  simp only [Equiv.symm_apply_apply] at hm
  obtain ⟨b', k', c', rfl⟩ : ∃ (b' : Fin 32) (k' : Fin w) (c' : Fin 64), j = ix3 b' k' c' := ⟨j 0, j 1, j 2, eq_ix3 j⟩
  obtain ⟨-, h, -⟩ := (scatter_lands d huw hiw hsd hiv idx o hidx ..).1 hm
  have := k'.isLt
  omega

end Scatter

/-- A gather of rows by a column of row numbers: row `i` of the result is the table's row at the
    `i`-th number, read signed and clamped into the table. -/
theorem gather_rows {w : ℕ} {α : Type} (d : GatherDims (table 4095) ⟨2, ![w, 1]⟩ (table w))
    (hod : d.offsetDims = [0, 2]) (hcd : d.collapsedSliceDims = [1]) (hob : d.operandBatchingDims = [])
    (hsb : d.startIndicesBatchingDims = []) (hsm : d.startIndexMap = [1]) (hiv : d.indexVectorDim = 1)
    (hss : d.sliceSizes = ![32, 1, 64]) (x : (table 4095).Idx → α) (idx : IVec ⟨2, ![w, 1]⟩ 32)
    (b : Fin 32) (i : Fin w) (c : Fin 64) (n : Fin 4095) (hn : (idx (ix2 i 0)).toInt = n.val) :
    Host.gather d x idx (ix3 b i c) = x (ix3 b n c) := by
  obtain ⟨od, cd, ob, sb, sm, iv, ss, wf⟩ := d
  simp only at hod hcd hob hsb hsm hiv hss
  subst hod hcd hob hsb hsm hiv hss
  unfold Host.gather
  refine congrArg x ?_
  funext a
  match a with
  | ⟨0, _⟩ => exact Fin.ext ((Nat.zero_add _).trans rfl)
  | ⟨1, _⟩ =>
    refine Fin.ext ?_
    have e : ∀ k : (⟨2, ![w, 1]⟩ : Shape).Idx, (k 0).val = i.val → idx k = idx (ix2 i 0) := by
      intro k hk
      refine congrArg idx ?_
      rw [eq_ix2 k]
      exact (ix2_inj ..).2 ⟨Fin.ext hk, Subsingleton.elim _ _⟩
    change min (idx _).toInt.toNat 4094 + 0 + 0 = n.val
    rw [e _ rfl, hn]
    have := n.isLt
    simp
    omega
  | ⟨2, _⟩ => exact Fin.ext ((Nat.zero_add _).trans rfl)

end TreeScan
-- ==== Proof.RefLevel.lean ====
/-
  One level of the reference's recurrence, at any number of rows: the children's rows taken and
  added up, the level's rows put back, each read at one element.
-/
module

public import proofs.«01_k».proof.Proof.RowMoves
public import Idealize.ShloMosaic.PureOps.Ideal.Laws

@[expose] public section

noncomputable section

namespace TreeScan

open Idealize.ShloMosaic

/-- The word the tree's tables hold for child `m`: its number, or minus one when there is none. -/
def kidWord (m : ℕ) : BitVec 32 := if m < 4095 then BitVec.ofNat 32 m else 4294967295#32

/-- Row `m` of a table, a row of zeros when the table has no row `m`. -/
def kid (T : (table 4095).Idx → EReal) (b : Fin 32) (m : ℕ) (c : Fin 64) : EReal :=
  if h : m < 4095 then T (ix3 b ⟨m, h⟩ c) else 0

/-- A child's number is not negative, the missing child's word is. -/
theorem kidWord_sge (m : ℕ) : IntOp.cmpi .sge (kidWord m) 0#32 = if m < 4095 then 1#1 else 0#1 := by
  unfold kidWord
  by_cases h : m < 4095
  · rw [if_pos h, if_pos h]
    simp only [IntOp.cmpi, BitVec.sle, WordCmp.toInt_ofNat_of_lt (w := 32) (a := m) (by omega)]
    simp
  · rw [if_neg h, if_neg h]
    decide

/-- A child's number survives the clamp into the table. -/
theorem kidWord_clamp (m : ℕ) (h : m < 4095) :
    (IntOp.minsi 4094#32 (IntOp.maxsi 0#32 (kidWord m))).toInt = m := by
  have e : (kidWord m).toInt = m := by
    unfold kidWord
    rw [if_pos h]
    exact WordCmp.toInt_ofNat_of_lt (by omega)
  have z : IntOp.maxsi 0#32 (kidWord m) = kidWord m := by
    unfold IntOp.maxsi
    by_cases h0 : (kidWord m).slt 0#32
    · simp [BitVec.slt, e] at h0
      omega
    · rw [if_neg h0]
  rw [z]
  unfold IntOp.minsi
  by_cases h1 : (4094#32).slt (kidWord m)
  · simp [BitVec.slt, e] at h1
    omega
  · rw [if_neg h1, e]

/-- The relations between shapes that a level of `w` rows at row `o` takes. -/
structure Fits (w o : ℕ) : Prop where
  scalar1 : (⟨0, ![]⟩ : Shape).BroadcastsInDim ⟨1, ![w]⟩ ![]
  scalar3 : (⟨0, ![]⟩ : Shape).BroadcastsInDim (table w) ![]
  start : (⟨0, ![]⟩ : Shape).BroadcastsInDim ⟨1, ![1]⟩ ![]
  mask : (⟨1, ![w]⟩ : Shape).BroadcastsInDim ⟨3, ![1, w, 1]⟩ ![1]
  masks : (⟨3, ![1, w, 1]⟩ : Shape).BroadcastsInDim (table w) ![0, 1, 2]
  column : (⟨1, ![w]⟩ : Shape).BroadcastsInDim ⟨2, ![w, 1]⟩ ![0]
  lane : (⟨1, ![64]⟩ : Shape).BroadcastsInDim ⟨3, ![1, 1, 64]⟩ ![2]
  lanes : (⟨3, ![1, 1, 64]⟩ : Shape).BroadcastsInDim (table w) ![0, 1, 2]
  words : (⟨1, ![4095]⟩ : Shape).Slices ![o] ⟨1, ![w]⟩
  rows : (table 4095).Slices ![0, o, 0] (table w)
  gather : GatherDims.WF (table 4095) ⟨2, ![w, 1]⟩ (table w) [0, 2] [1] [] [1] [] 1 ![32, 1, 64]
  scatter : ScatterDims.WF (table 4095) ⟨1, ![1]⟩ (table w) [0, 1, 2] [] [1] 0

variable {w o : ℕ} (f : Fits w o)

/-- The rows of the children named by a stretch of a table of children, zeros for the missing. -/
def taken (l : IVec ⟨1, ![4095]⟩ 32) (T : FVec Ideal (table 4095) .f32) : FVec Ideal (table w) .f32 :=
  select
    (broadcastInDim (table w) ![0, 1, 2] f.masks (broadcastInDim ⟨3, ![1, w, 1]⟩ ![1] f.mask
      (cmpi .sge (extractStridedSlice ⟨1, ![w]⟩ ![o] l f.words) (broadcastInDim ⟨1, ![w]⟩ ![] f.scalar1 (constantI ⟨0, ![]⟩ 32 0#32)))))
    (Host.gather ⟨[0, 2], [1], [], [], [1], 1, ![32, 1, 64], f.gather⟩ T (broadcastInDim ⟨2, ![w, 1]⟩ ![0] f.column
      (minsi (broadcastInDim ⟨1, ![w]⟩ ![] f.scalar1 (id (constantI ⟨0, ![]⟩ 32 4094#32)))
        (maxsi (broadcastInDim ⟨1, ![w]⟩ ![] f.scalar1 (id (constantI ⟨0, ![]⟩ 32 0#32))) (extractStridedSlice ⟨1, ![w]⟩ ![o] l f.words)))))
    (broadcastInDim (table w) ![] f.scalar3 (id (constant ⟨0, ![]⟩ .f32 0x00000000#32)))

/-- The two children's rows added. -/
def kids (l r : IVec ⟨1, ![4095]⟩ 32) (T : FVec Ideal (table 4095) .f32) : FVec Ideal (table w) .f32 :=
  addf (taken f l T) (taken f r T)

/-- A lane vector at every row. -/
def spread (a : FVec Ideal ⟨1, ![64]⟩ .f32) : FVec Ideal (table w) .f32 :=
  broadcastInDim (table w) ![0, 1, 2] f.lanes (broadcastInDim ⟨3, ![1, 1, 64]⟩ ![2] f.lane a)

/-- A level's rows put into a table. -/
def put (T : FVec Ideal (table 4095) .f32) (U : FVec Ideal (table w) .f32) : FVec Ideal (table 4095) .f32 :=
  Host.scatter ⟨[0, 1, 2], [], [1], 0, f.scatter⟩ (fun _ b => b) T
    (broadcastInDim ⟨1, ![1]⟩ ![] f.start (constantI ⟨0, ![]⟩ 32 (BitVec.ofNat 32 o))) U

/-- The level's real parts. -/
def levelRe (l r : IVec ⟨1, ![4095]⟩ 32) (a a' : FVec Ideal ⟨1, ![64]⟩ .f32) (u : FVec Ideal (table 4095) .f32)
    (T T' : FVec Ideal (table 4095) .f32) : FVec Ideal (table 4095) .f32 :=
  put f T (addf (subf (mulf (spread f a) (kids f l r T)) (mulf (spread f a') (kids f l r T')))
    (extractStridedSlice (table w) ![0, o, 0] u f.rows))

/-- The level's imaginary parts. -/
def levelIm (l r : IVec ⟨1, ![4095]⟩ 32) (a a' : FVec Ideal ⟨1, ![64]⟩ .f32) (u : FVec Ideal (table 4095) .f32)
    (T T' : FVec Ideal (table 4095) .f32) : FVec Ideal (table 4095) .f32 :=
  put f T' (addf (addf (mulf (spread f a) (kids f l r T')) (mulf (spread f a') (kids f l r T)))
    (extractStridedSlice (table w) ![0, o, 0] u f.rows))

theorem spread_apply (a : FVec Ideal ⟨1, ![64]⟩ .f32) (b : Fin 32) (i : Fin w) (c : Fin 64) :
    spread f a (ix3 b i c) = a (ix1 c) := by
  refine congrArg a ?_
  funext k
  match k with
  | ⟨0, _⟩ => rfl

/-- The stretch of a table of children that a level reads. -/
theorem words_apply (l : IVec ⟨1, ![4095]⟩ 32) (i : Fin w) (n : Fin 4095) (hn : o + i.val = n.val) :
    extractStridedSlice ⟨1, ![w]⟩ ![o] l f.words (ix1 i) = l (ix1 n) := by
  refine congrArg l ?_
  funext k
  match k with
  | ⟨0, _⟩ => exact Fin.ext hn

/-- The stretch of a table of rows that a level reads. -/
theorem rows_apply (u : FVec Ideal (table 4095) .f32) (b : Fin 32) (i : Fin w) (c : Fin 64) (n : Fin 4095) (hn : o + i.val = n.val) :
    extractStridedSlice (table w) ![0, o, 0] u f.rows (ix3 b i c) = u (ix3 b n c) := by
  refine congrArg u ?_
  funext k
  match k with
  | ⟨0, _⟩ => exact Fin.ext (Nat.zero_add _)
  | ⟨1, _⟩ => exact Fin.ext hn
  | ⟨2, _⟩ => exact Fin.ext (Nat.zero_add _)

/-- A vector of `w` words stood up as a column, read at its place. -/
theorem column_apply (v : IVec ⟨1, ![w]⟩ 32) (i : Fin w) :
    broadcastInDim ⟨2, ![w, 1]⟩ ![0] f.column v (ix2 i 0) = v (ix1 i) := by
  refine congrArg v ?_
  funext k
  match k with
  | ⟨0, _⟩ =>
    by_cases h : w = 1
    · subst h
      exact Subsingleton.elim (α := Fin 1) _ _
    · exact dif_neg h

/-- A vector of `w` bits spread over the batches and the lanes, read at its place. -/
theorem masks_apply (v : IVec ⟨1, ![w]⟩ 1) (b : Fin 32) (i : Fin w) (c : Fin 64) :
    broadcastInDim (table w) ![0, 1, 2] f.masks (broadcastInDim ⟨3, ![1, w, 1]⟩ ![1] f.mask v) (ix3 b i c) = v (ix1 i) := by
  refine congrArg v ?_
  funext k
  match k with
  | ⟨0, _⟩ =>
    by_cases h : w = 1
    · subst h
      exact Subsingleton.elim (α := Fin 1) _ _
    · refine (dif_neg h).trans (Fin.ext ?_)
      exact congrArg Fin.val (dif_neg h)

/-- The row of the child that a level's row takes. -/
theorem taken_apply (l : IVec ⟨1, ![4095]⟩ 32) (T : FVec Ideal (table 4095) .f32) (b : Fin 32) (i : Fin w) (c : Fin 64)
    (n : Fin 4095) (hn : o + i.val = n.val) (m : ℕ) (hm : l (ix1 n) = kidWord m) :
    taken f l T (ix3 b i c) = kid T b m c := by
  unfold taken kid
  change Scalar.select _ _ _ = _
  rw [masks_apply f]
  change Scalar.select (IntOp.cmpi .sge (extractStridedSlice ⟨1, ![w]⟩ ![o] l f.words (ix1 i)) 0#32) _ _ = _
  rw [words_apply f l i n hn, hm, kidWord_sge]
  by_cases h : m < 4095
  · rw [if_pos h, dif_pos h]
    refine (if_pos rfl).trans ?_
    refine gather_rows _ rfl rfl rfl rfl rfl rfl rfl T _ b i c ⟨m, h⟩ ?_
    rw [column_apply f]
    change (IntOp.minsi 4094#32 (IntOp.maxsi 0#32 (extractStridedSlice ⟨1, ![w]⟩ ![o] l f.words (ix1 i)))).toInt = _
    rw [words_apply f l i n hn, hm, kidWord_clamp m h]
  · rw [if_neg h, dif_neg h]
    refine (if_neg (by decide)).trans ?_
    exact Ideal.ofBits_zero_f32

section Put

variable (T : FVec Ideal (table 4095) .f32) (U : FVec Ideal (table w) .f32) (ho : o < 2 ^ 31) (b : Fin 32) (n : Fin 4095) (c : Fin 64)
include ho

/-- A row of the level, put. -/
theorem put_in (i : Fin w) (hi : o + i.val = n.val) : put f T U (ix3 b n c) = U (ix3 b i c) :=
  scatter_in _ rfl rfl rfl rfl _ o (fun _ => WordCmp.toInt_ofNat_of_lt ho) T U b n c i hi

/-- A row outside the level stays. -/
theorem put_out (hn : n.val < o ∨ o + w ≤ n.val) : put f T U (ix3 b n c) = T (ix3 b n c) :=
  scatter_out _ rfl rfl rfl rfl _ o (fun _ => WordCmp.toInt_ofNat_of_lt ho) T U b n c hn

end Put

/-- The recurrence of the tree, from node `o` on: a node's state is the complex product of the
    coefficient with the sum of its children's states, plus what drives the node; `T` and `T'` are
    the real and imaginary parts, `a`, `a'` the coefficient's, `u`, `u'` the drive's. -/
def Scan (a a' : FVec Ideal ⟨1, ![64]⟩ .f32) (u u' : FVec Ideal (table 4095) .f32) (o : ℕ)
    (T T' : FVec Ideal (table 4095) .f32) : Prop :=
  ∀ (b : Fin 32) (n : Fin 4095) (c : Fin 64), o ≤ n.val →
    T (ix3 b n c) = (a (ix1 c) * (kid T b (2 * n.val + 1) c + kid T b (2 * n.val + 2) c)
        - a' (ix1 c) * (kid T' b (2 * n.val + 1) c + kid T' b (2 * n.val + 2) c)) + u (ix3 b n c)
    ∧ T' (ix3 b n c) = (a (ix1 c) * (kid T' b (2 * n.val + 1) c + kid T' b (2 * n.val + 2) c)
        + a' (ix1 c) * (kid T b (2 * n.val + 1) c + kid T b (2 * n.val + 2) c)) + u' (ix3 b n c)

/-- No node is left beyond the last. -/
theorem scan_top (a a' : FVec Ideal ⟨1, ![64]⟩ .f32) (u u' T T' : FVec Ideal (table 4095) .f32) : Scan a a' u u' 4095 T T' :=
  fun _ n _ h => absurd n.isLt (by omega)

/-- A child beyond the level is untouched by putting the level. -/
theorem kid_put (ho : o < 2 ^ 31) (T : FVec Ideal (table 4095) .f32) (U : FVec Ideal (table w) .f32) (b : Fin 32) (m : ℕ) (c : Fin 64)
    (hm : o + w ≤ m) : kid (put f T U) b m c = kid T b m c := by
  unfold kid
  by_cases h : m < 4095
  · rw [dif_pos h, dif_pos h]
    exact put_out f T U ho b ⟨m, h⟩ c (.inr hm)
  · rw [dif_neg h, dif_neg h]

/-- A level extends the recurrence to its rows, when the tables of children are the complete
    tree's. -/
theorem scan_level (hw : o + 1 = w) (ho : o < 2 ^ 31) (l r : IVec ⟨1, ![4095]⟩ 32)
    (hl : ∀ n : Fin 4095, l (ix1 n) = kidWord (2 * n.val + 1)) (hr : ∀ n : Fin 4095, r (ix1 n) = kidWord (2 * n.val + 2))
    (a a' : FVec Ideal ⟨1, ![64]⟩ .f32) (u u' T T' : FVec Ideal (table 4095) .f32) (h : Scan a a' u u' (o + w) T T') :
    Scan a a' u u' o (levelRe f l r a a' u T T') (levelIm f l r a a' u' T T') := by
  intro b n c hn
  have kr : ∀ m, o + w ≤ m → kid (levelRe f l r a a' u T T') b m c = kid T b m c := fun m hm => kid_put f ho _ _ b m c hm
  have ki : ∀ m, o + w ≤ m → kid (levelIm f l r a a' u' T T') b m c = kid T' b m c := fun m hm => kid_put f ho _ _ b m c hm
  rw [kr _ (by omega), kr _ (by omega), ki _ (by omega), ki _ (by omega)]
  by_cases hi : n.val < o + w
  · have hk : ∀ X : FVec Ideal (table 4095) .f32, kids f l r X (ix3 b ⟨n.val - o, by omega⟩ c)
        = kid X b (2 * n.val + 1) c + kid X b (2 * n.val + 2) c := fun X =>
      congrArg₂ (· + ·) (taken_apply f l X b ⟨n.val - o, by omega⟩ c n (by simp; omega) _ (hl n))
        (taken_apply f r X b ⟨n.val - o, by omega⟩ c n (by simp; omega) _ (hr n))
    constructor
    · refine (put_in f _ _ ho b n c ⟨n.val - o, by omega⟩ (by simp; omega)).trans ?_
      change (spread f a _ * kids f l r T _ - spread f a' _ * kids f l r T' _) + extractStridedSlice _ _ u f.rows _ = _
      rw [spread_apply, spread_apply, hk, hk, rows_apply f u b _ c n (by simp; omega)]
    · refine (put_in f _ _ ho b n c ⟨n.val - o, by omega⟩ (by simp; omega)).trans ?_
      change (spread f a _ * kids f l r T' _ + spread f a' _ * kids f l r T _) + extractStridedSlice _ _ u' f.rows _ = _
      rw [spread_apply, spread_apply, hk, hk, rows_apply f u' b _ c n (by simp; omega)]
  · have := h b n c (by omega)
    exact ⟨(put_out f _ _ ho b n c (.inr (by omega))).trans this.1, (put_out f _ _ ho b n c (.inr (by omega))).trans this.2⟩

end TreeScan
-- ==== Proof.RefScan.lean ====
/-
  The reference's twelve levels, from the leaves to the root: the two tables it ends with are the
  tree's recurrence at every node.
-/
module

public import proofs.«01_k».proof.Proof.RefLevel
public import proofs.«01_k».proof.Proof.Gen.ReferenceIdeal.Run

@[expose] public section

noncomputable section

namespace Cert.ReferenceIdeal.Scan

open Idealize.ShloMosaic Idealize.ShloMosaic.StableHlo
open Cert.ReferenceIdeal.Value
open TreeScan

attribute [local instance] Cert.ReferenceIdeal.Gen.facts

variable (V : Valuation τ sig (Elt Ideal))

/-- The table of left children, as the program is given it. -/
abbrev left : IVec ⟨1, ![4095]⟩ 32 := V (Proc.devRef .tc main_arg1)
/-- The table of right children. -/
abbrev right : IVec ⟨1, ![4095]⟩ 32 := V (Proc.devRef .tc main_arg2)

theorem fits0 : Fits 1 0 := by constructor <;> decide

/-- The real parts the reference ends with. -/
def lastRe : FVec Ideal (table 4095) .f32 :=
  levelRe fits0 (left V) (right V) (res_main_v5 V) (res_main_v7 V) (res_main_v18 V) (res_main_v485 V) (res_main_v487 V)
/-- The imaginary parts the reference ends with. -/
def lastIm : FVec Ideal (table 4095) .f32 :=
  levelIm fits0 (left V) (right V) (res_main_v5 V) (res_main_v7 V) (res_main_v23 V) (res_main_v485 V) (res_main_v487 V)

/-- The recurrence holds of two of the reference's tables from a node on. -/
abbrev From (o : ℕ) (T T' : FVec Ideal (table 4095) .f32) : Prop :=
  TreeScan.Scan (res_main_v5 V) (res_main_v7 V) (res_main_v18 V) (res_main_v23 V) o T T'

variable (hl : ∀ n : Fin 4095, left V (ix1 n) = kidWord (2 * n.val + 1))
  (hr : ∀ n : Fin 4095, right V (ix1 n) = kidWord (2 * n.val + 2))
include hl hr

/-- One level, on the reference's coefficients and drives. -/
theorem level {w o : ℕ} (f : Fits w o) (hw : o + 1 = w) (ho : o < 2 ^ 31) (T T' : FVec Ideal (table 4095) .f32)
    (h : From V (o + w) T T') :
    From V o (levelRe f (left V) (right V) (res_main_v5 V) (res_main_v7 V) (res_main_v18 V) T T')
      (levelIm f (left V) (right V) (res_main_v5 V) (res_main_v7 V) (res_main_v23 V) T T') :=
  scan_level f hw ho _ _ hl hr _ _ _ _ _ _ h

/-- The recurrence holds from node 2047 on after the level that begins there. -/
theorem from2047 : From V 2047 (res_main_v65 V) (res_main_v67 V) :=
  level V hl hr (w := 2048) (by constructor <;> decide) rfl (by decide) (res_main_v24 V) (res_main_v25 V) (scan_top _ _ _ _ _ _)

/-- The recurrence holds from node 1023 on after the level that begins there. -/
theorem from1023 : From V 1023 (res_main_v107 V) (res_main_v109 V) :=
  level V hl hr (w := 1024) (by constructor <;> decide) rfl (by decide) _ _ (from2047 V hl hr)

/-- The recurrence holds from node 511 on after the level that begins there. -/
theorem from511 : From V 511 (res_main_v149 V) (res_main_v151 V) :=
  level V hl hr (w := 512) (by constructor <;> decide) rfl (by decide) _ _ (from1023 V hl hr)

/-- The recurrence holds from node 255 on after the level that begins there. -/
theorem from255 : From V 255 (res_main_v191 V) (res_main_v193 V) :=
  level V hl hr (w := 256) (by constructor <;> decide) rfl (by decide) _ _ (from511 V hl hr)

/-- The recurrence holds from node 127 on after the level that begins there. -/
theorem from127 : From V 127 (res_main_v233 V) (res_main_v235 V) :=
  level V hl hr (w := 128) (by constructor <;> decide) rfl (by decide) _ _ (from255 V hl hr)

/-- The recurrence holds from node 63 on after the level that begins there. -/
theorem from63 : From V 63 (res_main_v275 V) (res_main_v277 V) :=
  level V hl hr (w := 64) (by constructor <;> decide) rfl (by decide) _ _ (from127 V hl hr)

/-- The recurrence holds from node 31 on after the level that begins there. -/
theorem from31 : From V 31 (res_main_v317 V) (res_main_v319 V) :=
  level V hl hr (w := 32) (by constructor <;> decide) rfl (by decide) _ _ (from63 V hl hr)

/-- The recurrence holds from node 15 on after the level that begins there. -/
theorem from15 : From V 15 (res_main_v359 V) (res_main_v361 V) :=
  level V hl hr (w := 16) (by constructor <;> decide) rfl (by decide) _ _ (from31 V hl hr)

/-- The recurrence holds from node 7 on after the level that begins there. -/
theorem from7 : From V 7 (res_main_v401 V) (res_main_v403 V) :=
  level V hl hr (w := 8) (by constructor <;> decide) rfl (by decide) _ _ (from15 V hl hr)

/-- The recurrence holds from node 3 on after the level that begins there. -/
theorem from3 : From V 3 (res_main_v443 V) (res_main_v445 V) :=
  level V hl hr (w := 4) (by constructor <;> decide) rfl (by decide) _ _ (from7 V hl hr)

/-- The recurrence holds from node 1 on after the level that begins there. -/
theorem from1 : From V 1 (res_main_v485 V) (res_main_v487 V) :=
  level V hl hr (w := 2) (by constructor <;> decide) rfl (by decide) _ _ (from3 V hl hr)

/-- The tables the reference ends with follow the recurrence at every node. -/
theorem from0 : From V 0 (lastRe V) (lastIm V) := level V hl hr fits0 rfl (by decide) _ _ (from1 V hl hr)

end Cert.ReferenceIdeal.Scan
-- ==== Proof.RefValue.lean ====
/-
  The reference's arrays read at one element: what drives a node, the coefficients, the result.
-/
module

public import proofs.«01_k».proof.Proof.RefScan

@[expose] public section

noncomputable section

namespace Cert.ReferenceIdeal.Scan

open Idealize.ShloMosaic Idealize.ShloMosaic.StableHlo
open Cert.ReferenceIdeal.Value
open TreeScan

attribute [local instance] Cert.ReferenceIdeal.Gen.facts

variable (V : Valuation τ sig (Elt Ideal))

/-- The features. -/
abbrev feat : FVec Ideal ⟨3, ![32, 4095, 128]⟩ .f32 := V (Proc.devRef .tc main_arg0)
/-- The input projection's weights. -/
abbrev win : FVec Ideal ⟨2, ![128, 128]⟩ .f32 := V (Proc.devRef .tc main_arg3)
/-- The input projection's bias. -/
abbrev bias : FVec Ideal ⟨1, ![128]⟩ .f32 := V (Proc.devRef .tc main_arg4)
/-- The skip matrix. -/
abbrev skip : FVec Ideal ⟨2, ![128, 128]⟩ .f32 := V (Proc.devRef .tc main_arg5)
/-- The logarithms of the coefficients' decay. -/
abbrev nu : FVec Ideal ⟨1, ![64]⟩ .f32 := V (Proc.devRef .tc main_arg6)
/-- The logarithms of the coefficients' angle. -/
abbrev th : FVec Ideal ⟨1, ![64]⟩ .f32 := V (Proc.devRef .tc main_arg7)
/-- The logarithms of the normalization. -/
abbrev ga : FVec Ideal ⟨1, ![64]⟩ .f32 := V (Proc.devRef .tc main_arg8)
/-- The input matrix, real part. -/
abbrev bre : FVec Ideal ⟨2, ![64, 128]⟩ .f32 := V (Proc.devRef .tc main_arg9)
/-- The input matrix, imaginary part. -/
abbrev bim : FVec Ideal ⟨2, ![64, 128]⟩ .f32 := V (Proc.devRef .tc main_arg10)
/-- The output matrix, real part. -/
abbrev cre : FVec Ideal ⟨2, ![128, 64]⟩ .f32 := V (Proc.devRef .tc main_arg11)
/-- The output matrix, imaginary part. -/
abbrev cim : FVec Ideal ⟨2, ![128, 64]⟩ .f32 := V (Proc.devRef .tc main_arg12)

/-- The projected features. -/
abbrev proj : FVec Ideal ⟨3, ![32, 4095, 128]⟩ .f32 := res_main_v13 V
/-- The real part of what drives the nodes. -/
abbrev driveRe : FVec Ideal (table 4095) .f32 := res_main_v18 V
/-- The imaginary part of what drives the nodes. -/
abbrev driveIm : FVec Ideal (table 4095) .f32 := res_main_v23 V
/-- The coefficients' real parts. -/
abbrev lamRe : FVec Ideal ⟨1, ![64]⟩ .f32 := res_main_v5 V
/-- The coefficients' imaginary parts. -/
abbrev lamIm : FVec Ideal ⟨1, ![64]⟩ .f32 := res_main_v7 V

/-- A projected feature is a row of weights against the node's features, plus the bias. -/
theorem proj_apply (b : Fin 32) (n : Fin 4095) (i : Fin 128) :
    proj V (ix3 b n i) = ∑ k : Fin 128, feat V (ix3 b n k) * win V (ix2 i k) + bias V (ix1 i) := by
  pointwise [proj, res_main_v13]

/-- What drives a node, real part: the input matrix's row against the projected features, scaled. -/
theorem driveRe_apply (b : Fin 32) (n : Fin 4095) (c : Fin 64) :
    driveRe V (ix3 b n c) = (∑ i : Fin 128, proj V (ix3 b n i) * bre V (ix2 c i)) * Ideal.exp (ga V (ix1 c)) := by
  pointwise [driveRe, res_main_v18, res_main_v8]

/-- What drives a node, imaginary part. -/
theorem driveIm_apply (b : Fin 32) (n : Fin 4095) (c : Fin 64) :
    driveIm V (ix3 b n c) = (∑ i : Fin 128, proj V (ix3 b n i) * bim V (ix2 c i)) * Ideal.exp (ga V (ix1 c)) := by
  pointwise [driveIm, res_main_v23, res_main_v8]

/-- A coefficient's real part. -/
theorem lamRe_apply (c : Fin 64) :
    lamRe V (ix1 c) = Ideal.exp (-Ideal.exp (nu V (ix1 c))) * Ideal.cos (Ideal.exp (th V (ix1 c))) := by
  pointwise [lamRe, res_main_v5, res_main_v2, res_main_v3]

/-- A coefficient's imaginary part. -/
theorem lamIm_apply (c : Fin 64) :
    lamIm V (ix1 c) = Ideal.exp (-Ideal.exp (nu V (ix1 c))) * Ideal.sin (Ideal.exp (th V (ix1 c))) := by
  pointwise [lamIm, res_main_v7, res_main_v2, res_main_v3]

/-- The array the reference returns. -/
def outRef : FVec Ideal ⟨3, ![32, 4095, 128]⟩ .f32 :=
  addf (subf
      (Host.dotGeneral dot_S32x4095x64_S64x128_S32x4095x128_2_0_01_1_n_n none (lastRe V) (transpose S64x128 [1, 0] (cre V) (by decide)))
      (Host.dotGeneral dot_S32x4095x64_S64x128_S32x4095x128_2_0_01_1_n_n none (lastIm V) (transpose S64x128 [1, 0] (cim V) (by decide))))
    (Host.dotGeneral dot_S32x4095x128_S128x128_S32x4095x128_2_0_01_1_n_n none (proj V) (transpose S128x128 [1, 0] (skip V) (by decide)))

/-- A result is the real part of the output matrix's row against the node's state, plus the skip
    matrix's row against the projected features. -/
theorem outRef_apply (b : Fin 32) (n : Fin 4095) (f : Fin 128) :
    outRef V (ix3 b n f) = (∑ c : Fin 64, lastRe V (ix3 b n c) * cre V (ix2 f c) - ∑ c : Fin 64, lastIm V (ix3 b n c) * cim V (ix2 f c))
      + ∑ i : Fin 128, proj V (ix3 b n i) * skip V (ix2 f i) := by
  pointwise [outRef]

/-- The reference's run: it ends with that array, the arguments as they were. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v537) = outRef (launchContents m c) :=
  (θ_run defs _ _).mono (fun _ h c => (h c).1) (run m ρ)

end Cert.ReferenceIdeal.Scan
-- ==== Proof.Algebra.lean ====
/-
  Sums of products of real numbers among the extended reals: what makes the kernel's grouping of
  the products agree with the reference's.
-/
module

public import Idealize.ShloMosaic.PureOps.Ideal.Laws

@[expose] public section

noncomputable section

namespace TreeScan

open Idealize.ShloMosaic

/-- An extended real that is a real number. -/
def IsReal (x : EReal) : Prop := ∃ r : ℝ, x = r

theorem IsReal.add {x y : EReal} : IsReal x → IsReal y → IsReal (x + y) := fun ⟨a, ha⟩ ⟨b, hb⟩ =>
  ⟨a + b, by rw [ha, hb, EReal.coe_add]⟩

theorem IsReal.mul {x y : EReal} : IsReal x → IsReal y → IsReal (x * y) := fun ⟨a, ha⟩ ⟨b, hb⟩ =>
  ⟨a * b, by rw [ha, hb, EReal.coe_mul]⟩

theorem IsReal.neg {x : EReal} : IsReal x → IsReal (-x) := fun ⟨a, ha⟩ => ⟨-a, by rw [ha, EReal.coe_neg]⟩

theorem IsReal.sub {x y : EReal} (hx : IsReal x) (hy : IsReal y) : IsReal (x - y) := by
  rw [sub_eq_add_neg]
  exact hx.add hy.neg

/-- What equals a real number is one. -/
theorem IsReal.of_eq {x y : EReal} (hy : IsReal y) (h : x = y) : IsReal x := h ▸ hy

theorem isReal_zero : IsReal 0 := ⟨0, EReal.coe_zero.symm⟩

/-- The sum of real numbers is their sum among the reals. -/
theorem coe_sum {ι : Type} (s : Finset ι) (g : ι → ℝ) : ((∑ i ∈ s, g i : ℝ) : EReal) = ∑ i ∈ s, (g i : EReal) :=
  map_sum (⟨⟨Real.toEReal, EReal.coe_zero⟩, EReal.coe_add⟩ : ℝ →+ EReal) g s

theorem isReal_sum {ι : Type} (s : Finset ι) (g : ι → EReal) (h : ∀ i, IsReal (g i)) : IsReal (∑ i ∈ s, g i) := by
  choose r hr using h
  exact ⟨∑ i ∈ s, r i, by rw [coe_sum]; exact Finset.sum_congr rfl fun i _ => hr i⟩

/-- A real factor taken into a sum of products. -/
theorem sum_mul_right {ι : Type} [Fintype ι] (p v : ι → EReal) (e : EReal) (hp : ∀ i, IsReal (p i)) (hv : ∀ i, IsReal (v i))
    (he : IsReal e) : (∑ i, p i * v i) * e = ∑ i, p i * (v i * e) := by
  choose p' hp using hp
  choose v' hv using hv
  obtain ⟨e', rfl⟩ := he
  simp only [hp, hv, ← EReal.coe_mul, ← coe_sum]
  congr 1
  rw [Finset.sum_mul]
  exact Finset.sum_congr rfl fun i _ => mul_assoc ..

/-- A sum of negated products is the negated sum. -/
theorem sum_mul_neg {ι : Type} [Fintype ι] (p v : ι → EReal) (hp : ∀ i, IsReal (p i)) (hv : ∀ i, IsReal (v i)) :
    ∑ i, p i * -v i = -∑ i, p i * v i := by
  choose p' hp using hp
  choose v' hv using hv
  simp only [hp, hv, ← EReal.coe_mul, ← EReal.coe_neg, ← coe_sum]
  congr 1
  simp only [mul_neg, Finset.sum_neg_distrib]

/-- A linear form of a projection with a bias is one form of what is projected, and a constant. -/
theorem fold_projection {ι κ : Type} [Fintype ι] [Fintype κ] (x : κ → EReal) (W : ι → κ → EReal) (b v : ι → EReal)
    (hx : ∀ k, IsReal (x k)) (hW : ∀ i k, IsReal (W i k)) (hb : ∀ i, IsReal (b i)) (hv : ∀ i, IsReal (v i)) :
    ∑ k, x k * (∑ i, W i k * v i) + ∑ i, b i * v i = ∑ i, (∑ k, x k * W i k + b i) * v i := by
  choose x' hx using hx
  choose W' hW using hW
  choose b' hb using hb
  choose v' hv using hv
  simp only [hx, hW, hb, hv, ← EReal.coe_mul, ← EReal.coe_add, ← coe_sum]
  congr 1
  simp only [add_mul, Finset.sum_add_distrib, Finset.sum_mul, Finset.mul_sum]
  congr 1
  rw [Finset.sum_comm]
  exact Finset.sum_congr rfl fun i _ => Finset.sum_congr rfl fun k _ => (mul_assoc ..).symm

/-! ## The functions that make the coefficients -/

/-- The exponential of anything below `+∞` is real. -/
theorem isReal_exp {x : EReal} (h : x < ⊤) : IsReal (Ideal.exp x) := by
  induction x with
  | bot => exact isReal_zero
  | coe r => exact ⟨Real.exp r, rfl⟩
  | top => exact absurd h (lt_irrefl _)

/-- The exponential of a negated exponential is real. -/
theorem isReal_decay (x : EReal) : IsReal (Ideal.exp (-Ideal.exp x)) := by
  refine isReal_exp ?_
  induction x with
  | bot => change -(0 : EReal) < ⊤; rw [neg_zero]; exact EReal.coe_lt_top 0
  | coe r => exact EReal.coe_lt_top (-Real.exp r)
  | top => exact bot_lt_top

theorem IsReal.cos {x : EReal} : IsReal x → IsReal (Ideal.cos x) := fun ⟨a, ha⟩ => ⟨Real.cos a, by rw [ha]; rfl⟩

theorem IsReal.sin {x : EReal} : IsReal x → IsReal (Ideal.sin x) := fun ⟨a, ha⟩ => ⟨Real.sin a, by rw [ha]; rfl⟩

/-- What is smaller in absolute value than `+∞` is real. -/
theorem isReal_of_abs {x : EReal} (h : max x (-x) < ⊤) : IsReal x := by
  induction x with
  | bot => exact absurd (lt_of_le_of_lt (le_max_right _ _) h) (lt_irrefl _)
  | coe r => exact ⟨r, rfl⟩
  | top => exact absurd (lt_of_le_of_lt (le_max_left _ _) h) (lt_irrefl _)

end TreeScan
-- ==== Proof.Agree.lean ====
/-
  The kernel's result is the reference's, on a complete tree and real factors.
-/
module

public import proofs.«01_k».proof.Proof.KernelScan
public import proofs.«01_k».proof.Proof.RefValue
public import proofs.«01_k».proof.Proof.Algebra

@[expose] public section

noncomputable section

namespace Cert.ReferenceIdeal.Scan

open Idealize.ShloMosaic Idealize.ShloMosaic.StableHlo
open Cert.ReferenceIdeal.Value
open TreeScan

attribute [local instance] Cert.ReferenceIdeal.Gen.facts

/-- The kernel is given what the reference is given. -/
structure Same (A : Args Ideal) (X : SX.Idx → EReal) (V : Valuation τ sig (Elt Ideal)) : Prop where
  feat : ∀ b n k, X (ix3 b n k) = feat V (ix3 b n k)
  win : ∀ i k, A.win (ix2 i k) = win V (ix2 i k)
  bias : ∀ i, A.b (ix2 0 i) = bias V (ix1 i)
  skip : ∀ f i, A.d (ix2 f i) = skip V (ix2 f i)
  nu : ∀ c, A.nu (ix2 0 c) = nu V (ix1 c)
  th : ∀ c, A.th (ix2 0 c) = th V (ix1 c)
  ga : ∀ c, A.ga (ix2 0 c) = ga V (ix1 c)
  bre : ∀ c i, A.bre (ix2 c i) = bre V (ix2 c i)
  bim : ∀ c i, A.bim (ix2 c i) = bim V (ix2 c i)
  cre : ∀ f c, A.cre (ix2 f c) = cre V (ix2 f c)
  cim : ∀ f c, A.cim (ix2 f c) = cim V (ix2 f c)

/-- The factors whose products are grouped differently are real, the logarithms below `+∞`. -/
structure Finite (V : Valuation τ sig (Elt Ideal)) : Prop where
  feat : ∀ b n k, IsReal (feat V (ix3 b n k))
  win : ∀ i k, IsReal (win V (ix2 i k))
  bias : ∀ i, IsReal (bias V (ix1 i))
  skip : ∀ f i, IsReal (skip V (ix2 f i))
  th : ∀ c, th V (ix1 c) < ⊤
  ga : ∀ c, ga V (ix1 c) < ⊤
  bre : ∀ c i, IsReal (bre V (ix2 c i))
  bim : ∀ c i, IsReal (bim V (ix2 c i))
  cim : ∀ f c, IsReal (cim V (ix2 f c))

variable {A : Args Ideal} {X : SX.Idx → EReal} {V : Valuation τ sig (Elt Ideal)}

section Drives

variable (hs : Same A X V) (hf : Finite V)
include hf

/-- The projected features are real. -/
theorem isReal_proj (b : Fin 32) (n : Fin 4095) (i : Fin 128) : IsReal (proj V (ix3 b n i)) := by
  rw [proj_apply]
  exact (isReal_sum _ _ fun k => (hf.feat b n k).mul (hf.win i k)).add (hf.bias i)

include hs

/-- A linear form of the projected features, as the kernel has it. -/
theorem folded (v : Fin 128 → EReal) (hv : ∀ i, IsReal (v i)) (b : Fin 32) (n : Fin 4095) :
    ∑ k : Fin 128, X (ix3 b n k) * (∑ i : Fin 128, A.win (ix2 i k) * v i) + ∑ i : Fin 128, A.b (ix2 0 i) * v i
      = ∑ i : Fin 128, proj V (ix3 b n i) * v i := by
  simp only [hs.feat, hs.win, hs.bias, proj_apply]
  exact fold_projection _ (fun i k => win V (ix2 i k)) _ v (hf.feat b n) hf.win hf.bias hv

/-- A node's drive, real part. -/
theorem drive_lo (b : Fin 32) (n : Fin 4095) (c : Fin 64) :
    drive (F := Ideal) (preOf A) X (groupOf b) (ix3 ⟨n.val, by omega⟩ (memberOf b) (lo c)) = driveRe V (ix3 b n c) := by
  have hg := isReal_exp (hf.ga c)
  rw [drive_apply, driveRe_apply, sum_mul_right _ _ _ (isReal_proj hf b n) (hf.bre c) hg,
    ← folded hs hf _ (fun i => (hf.bre c i).mul hg)]
  refine congrArg₂ (· + ·) (Finset.sum_congr rfl fun k _ => congrArg (_ * ·) ?_) ?_
  · refine (inMat_apply ..).trans (Finset.sum_congr rfl fun i _ => congrArg (_ * ·) ?_)
    rw [scaledB_lo, hs.bre, hs.ga]
  · refine (biasRow_apply ..).trans (Finset.sum_congr rfl fun i _ => congrArg (_ * ·) ?_)
    rw [scaledB_lo, hs.bre, hs.ga]

/-- A node's drive, imaginary part. -/
theorem drive_hi (b : Fin 32) (n : Fin 4095) (c : Fin 64) :
    drive (F := Ideal) (preOf A) X (groupOf b) (ix3 ⟨n.val, by omega⟩ (memberOf b) (hi c)) = driveIm V (ix3 b n c) := by
  have hg := isReal_exp (hf.ga c)
  rw [drive_apply, driveIm_apply, sum_mul_right _ _ _ (isReal_proj hf b n) (hf.bim c) hg,
    ← folded hs hf _ (fun i => (hf.bim c i).mul hg)]
  refine congrArg₂ (· + ·) (Finset.sum_congr rfl fun k _ => congrArg (_ * ·) ?_) ?_
  · refine (inMat_apply ..).trans (Finset.sum_congr rfl fun i _ => congrArg (_ * ·) ?_)
    rw [scaledB_hi, hs.bim, hs.ga]
  · refine (biasRow_apply ..).trans (Finset.sum_congr rfl fun i _ => congrArg (_ * ·) ?_)
    rw [scaledB_hi, hs.bim, hs.ga]

/-- The skip term: the skip matrix against the projected features. -/
theorem skip_term (b : Fin 32) (n : Fin 4095) (f : Fin 128) :
    ∑ k : Fin 128, X (ix3 b n k) * (preOf A).dw (ix2 f k) + (preOf A).oc (ix2 0 f)
      = ∑ i : Fin 128, proj V (ix3 b n i) * skip V (ix2 f i) := by
  rw [← folded hs hf _ (hf.skip f)]
  refine congrArg₂ (· + ·) (Finset.sum_congr rfl fun k _ => congrArg (_ * ·) ?_) ?_
  · refine (skipMat_apply ..).trans (Finset.sum_congr rfl fun i _ => ?_)
    rw [mul_comm, hs.skip]
  · refine (biasRow_apply ..).trans (Finset.sum_congr rfl fun i _ => congrArg (_ * ·) ?_)
    rw [hs.skip]

end Drives

/-! ## The states -/

section States

variable (hs : Same A X V) (hf : Finite V)
variable (hl : ∀ n : Fin 4095, left V (ix1 n) = kidWord (2 * n.val + 1)) (hr : ∀ n : Fin 4095, right V (ix1 n) = kidWord (2 * n.val + 2))
include hl hr hf

/-- The reference's states are real. -/
theorem isReal_states (b : Fin 32) (n : Fin 4095) (c : Fin 64) :
    IsReal (lastRe V (ix3 b n c)) ∧ IsReal (lastIm V (ix3 b n c)) := by
  have ha : IsReal (lamRe V (ix1 c)) := by
    rw [lamRe_apply]; exact (isReal_decay _).mul (isReal_exp (hf.th c)).cos
  have ha' : IsReal (lamIm V (ix1 c)) := by
    rw [lamIm_apply]; exact (isReal_decay _).mul (isReal_exp (hf.th c)).sin
  have hu : IsReal (driveRe V (ix3 b n c)) := by
    rw [driveRe_apply]
    exact (isReal_sum _ _ fun i => (isReal_proj hf b n i).mul (hf.bre c i)).mul (isReal_exp (hf.ga c))
  have hu' : IsReal (driveIm V (ix3 b n c)) := by
    rw [driveIm_apply]
    exact (isReal_sum _ _ fun i => (isReal_proj hf b n i).mul (hf.bim c i)).mul (isReal_exp (hf.ga c))
  have hk : ∀ m, n.val < m → IsReal (kid (lastRe V) b m c) ∧ IsReal (kid (lastIm V) b m c) := by
    intro m hm
    unfold kid
    split
    · exact isReal_states b _ c
    · exact ⟨isReal_zero, isReal_zero⟩
  obtain ⟨e, e'⟩ := from0 V hl hr b n c (Nat.zero_le _)
  obtain ⟨h1, h1'⟩ := hk (2 * n.val + 1) (by omega)
  obtain ⟨h2, h2'⟩ := hk (2 * n.val + 2) (by omega)
  rw [e, e']
  exact ⟨((ha.mul (h1.add h2)).sub (ha'.mul (h1'.add h2'))).add hu, ((ha.mul (h1'.add h2')).add (ha'.mul (h1.add h2))).add hu'⟩
termination_by 4095 - n.val

include hs

/-- The kernel's states are the reference's: the real parts in the first half of the lanes, the
    imaginary parts in the second. -/
theorem states_agree (b : Fin 32) (n : Fin 4095) (c : Fin 64) :
    states (preOf A) (drive (preOf A) X (groupOf b)) (ix3 ⟨n.val, by omega⟩ (memberOf b) (lo c)) = lastRe V (ix3 b n c)
    ∧ states (preOf A) (drive (preOf A) X (groupOf b)) (ix3 ⟨n.val, by omega⟩ (memberOf b) (hi c)) = lastIm V (ix3 b n c) := by
  have hk : ∀ m, n.val < m →
      child (states (preOf A) (drive (preOf A) X (groupOf b))) (memberOf b) m (lo c) = kid (lastRe V) b m c
      ∧ child (states (preOf A) (drive (preOf A) X (groupOf b))) (memberOf b) m (hi c) = kid (lastIm V) b m c := by
    intro m hm
    unfold child kid
    by_cases h : m < 4095
    · simp only [dif_pos h]
      exact states_agree b ⟨m, h⟩ c
    · simp only [dif_neg h, and_self]
  have tl : turn (lo c) = hi c := Fin.ext (by show (c.val + 64) % 128 = 64 + c.val; omega)
  have th' : turn (hi c) = lo c := Fin.ext (by show (64 + c.val + 64) % 128 = c.val; omega)
  have la : (preOf A).laa (ix3 0 0 (lo c)) = lamRe V (ix1 c) := by
    rw [lamRe_apply]; exact (mulRe_lo ..).trans (by rw [hs.nu, hs.th]; rfl)
  have la' : (preOf A).laa (ix3 0 0 (hi c)) = lamRe V (ix1 c) := by
    rw [lamRe_apply]; exact (mulRe_hi ..).trans (by rw [hs.nu, hs.th]; rfl)
  have lb : (preOf A).lbb (ix3 0 0 (lo c)) = -lamIm V (ix1 c) := by
    rw [lamIm_apply]; exact (mulIm_lo ..).trans (by rw [hs.nu, hs.th]; rfl)
  have lb' : (preOf A).lbb (ix3 0 0 (hi c)) = lamIm V (ix1 c) := by
    rw [lamIm_apply]; exact (mulIm_hi ..).trans (by rw [hs.nu, hs.th]; rfl)
  obtain ⟨e, e'⟩ := from0 V hl hr b n c (Nat.zero_le _)
  obtain ⟨h1, h1'⟩ := hk (2 * n.val + 1) (by omega)
  obtain ⟨h2, h2'⟩ := hk (2 * n.val + 2) (by omega)
  have climb := climb_states (preOf A) (drive (preOf A) X (groupOf b))
  constructor
  · rw [climb.above _ _ _ (Nat.zero_le _) n.isLt, tl, la, lb, drive_lo hs hf, e]
    unfold children
    rw [h1, h2, h1', h2', mul_neg, ← sub_eq_add_neg, mul_comm, mul_comm (_ + _) (lamIm V (ix1 c))]
  · rw [climb.above _ _ _ (Nat.zero_le _) n.isLt, th', la', lb', drive_hi hs hf, e']
    unfold children
    rw [h1, h2, h1', h2', mul_comm, mul_comm (_ + _) (lamIm V (ix1 c))]
termination_by 4095 - n.val

/-- The kernel's result is the reference's. -/
theorem result_agree : result (F := Ideal) (preOf A) X = outRef V := by
  funext i
  obtain ⟨b, n, f, rfl⟩ : ∃ (b : Fin 32) (n : Fin 4095) (f : Fin 128), i = ix3 b n f := ⟨i 0, i 1, i 2, eq_ix3 i⟩
  have hcr : ∀ c, (preOf A).cc (ix2 f (lo c)) = cre V (ix2 f c) := fun c => (outMat_lo ..).trans (hs.cre f c)
  have hci : ∀ c, (preOf A).cc (ix2 f (hi c)) = -cim V (ix2 f c) := fun c => (outMat_hi ..).trans (congrArg (-·) (hs.cim f c))
  rw [result_apply, outRef_apply, sum_lanes, add_assoc, skip_term hs hf]
  simp only [hcr, hci, (states_agree hs hf hl hr b n _).1, (states_agree hs hf hl hr b n _).2]
  rw [sum_mul_neg _ _ (fun c => (isReal_states hf hl hr b n c).2) (hf.cim f), ← sub_eq_add_neg]

end States

end Cert.ReferenceIdeal.Scan
-- ==== Proof.Decode.lean ====
/-
  What the precondition says of the arguments: the children's tables are the complete binary
  tree's, and the factors are real, the logarithms below `+∞`.
-/
module

public import proofs.«01_k».proof.Pre_complete_tree_and_finite
public import proofs.«01_k».proof.Proof.RefLevel
public import proofs.«01_k».proof.Proof.Algebra
public import Idealize.ShloMosaic.Lib.ReduceAll
public import Idealize.ShloMosaic.Lib.StableHlo.Predicate

@[expose] public section

noncomputable section

namespace Cert.Pre_complete_tree_and_finite

open Idealize.ShloMosaic
open TreeScan

/-- The precondition's shape relations hold. -/
theorem facts : Facts := by constructor <;> decide

attribute [local instance] facts

theorem and_ones : ∀ x y : BitVec 1, IntOp.andi x y = 1#1 → x = 1#1 ∧ y = 1#1 := by decide

theorem inf_eq : Ideal.ofBits .f32 0x7F800000#32 = ⊤ := by simp [Ideal.ofBits, Ideal.ieee]

theorem lt_of_cmp {x y : EReal} (h : Ideal.cmp .olt x y = 1#1) : x < y :=
  of_decide_eq_true ((StableHlo.Predicate.ofBool_eq_one_iff _).mp h)

instance : Subsingleton S_.Idx := ⟨fun _ _ => funext fun a => a.elim0⟩

section Reads

variable {s : Shape} {axes : List (Fin s.rank)} (x : FVec Ideal s .f32) (hb : S_.BroadcastsInDim s (![] : Fin 0 → Fin s.rank))
  (hr : s.ReducesTo axes S_) (hu : 0 < S_.numel) (j : S_.Idx)

/-- An array all below `+∞`. -/
theorem below_top (h : Host.reduce IntOp.andi (cmpf .olt x (broadcastInDim s ![] hb (constant S_ .f32 0x7F800000#32)))
    (constantI S_ 1 1#1) hr hu j = 1#1) (i : s.Idx) : x i < ⊤ := by
  rw [← inf_eq]
  exact lt_of_cmp (Host.reduce_andi_all _ _ hr hu j h i)

/-- An array all finite. -/
theorem all_real (h : Host.reduce IntOp.andi (cmpf .olt (Host.absf x) (broadcastInDim s ![] hb (constant S_ .f32 0x7F800000#32)))
    (constantI S_ 1 1#1) hr hu j = 1#1) (i : s.Idx) : IsReal (x i) :=
  isReal_of_abs (below_top (Host.absf x) hb hr hu j h i)

end Reads

/-- The `k`th children's table that the precondition compares with. -/
def table (k : BitVec 32) : IVec S4095 32 :=
  fn_where (F := Ideal)
    (cmpi .slt (addi (muli (broadcastInDim S4095 ![] Facts.bcast_S_S4095 (constantI S_ 32 2#32)) (iotaInDim S4095 32 0))
      (broadcastInDim S4095 ![] Facts.bcast_S_S4095 (constantI S_ 32 k))) (broadcastInDim S4095 ![] Facts.bcast_S_S4095 (constantI S_ 32 4095#32)))
    (addi (muli (broadcastInDim S4095 ![] Facts.bcast_S_S4095 (constantI S_ 32 2#32)) (iotaInDim S4095 32 0))
      (broadcastInDim S4095 ![] Facts.bcast_S_S4095 (constantI S_ 32 k)))
    (constantI S_ 32 4294967295#32)

theorem table_apply (k : ℕ) (hk : k ≤ 2) (n : Fin 4095) : table (BitVec.ofNat 32 k) (ix1 n) = kidWord (2 * n.val + k) := by
  have e : 2#32 * BitVec.ofNat 32 n.val + BitVec.ofNat 32 k = BitVec.ofNat 32 (2 * n.val + k) := by
    rw [BitVec.ofNat_add, BitVec.ofNat_mul]
  change Scalar.select (BitVec.ofBool ((2#32 * BitVec.ofNat 32 n.val + BitVec.ofNat 32 k).slt (BitVec.ofNat 32 4095)))
    (2#32 * BitVec.ofNat 32 n.val + BitVec.ofNat 32 k) 4294967295#32 = _
  rw [e]
  have c := StableHlo.Predicate.slt_ofNat_iff (2 * n.val + k) 4095 (by omega) (by decide)
  unfold Scalar.select kidWord
  by_cases h : 2 * n.val + k < 4095
  · exact (if_pos (c.mpr h)).trans (if_pos h).symm
  · exact (if_neg (fun h' => h (c.mp h'))).trans (if_neg h).symm

/-- A table that is the complete tree's. -/
theorem is_tree (l : IVec S4095 32) (k : ℕ) (hk : k ≤ 2) (hr : S4095.ReducesTo [0] S_) (hu : 0 < S_.numel) (j : S_.Idx)
    (h : Host.reduce IntOp.andi (cmpi .eq l (table (BitVec.ofNat 32 k))) (constantI S_ 1 1#1) hr hu j = 1#1) (n : Fin 4095) :
    l (ix1 n) = kidWord (2 * n.val + k) := by
  rw [← table_apply k hk n]
  have := Host.reduce_andi_all _ _ hr hu j h (ix1 n)
  exact of_decide_eq_true ((StableHlo.Predicate.ofBool_eq_one_iff _).mp this)

variable (x : FVec Ideal S32x4095x128 .f32) (l r : IVec S4095 32) (w : FVec Ideal S128x128 .f32) (b : FVec Ideal S128 .f32)
  (d : FVec Ideal S128x128 .f32) (nu th ga : FVec Ideal S64 .f32) (bre bim : FVec Ideal S64x128 .f32) (cre cim : FVec Ideal S128x64 .f32)

/-- What the precondition says. -/
structure Says : Prop where
  left : ∀ n : Fin 4095, l (ix1 n) = kidWord (2 * n.val + 1)
  right : ∀ n : Fin 4095, r (ix1 n) = kidWord (2 * n.val + 2)
  x : ∀ i, IsReal (x i)
  w : ∀ i, IsReal (w i)
  b : ∀ i, IsReal (b i)
  d : ∀ i, IsReal (d i)
  th : ∀ i, th i < ⊤
  ga : ∀ i, ga i < ⊤
  bre : ∀ i, IsReal (bre i)
  bim : ∀ i, IsReal (bim i)
  cim : ∀ i, IsReal (cim i)

/-- The precondition read back. -/
theorem decoded (h : fn (F := Ideal) x l r w b d nu th ga bre bim cre cim = fun _ => 1#1) : Says x l r w b d th ga bre bim cim := by
  have h := congrFun h ix0
  dsimp only [fn, fn_part1, fn_part2, fn_part3, fn_part4] at h
  obtain ⟨htree, h⟩ := and_ones _ _ h
  obtain ⟨hl, hr⟩ := and_ones _ _ htree
  obtain ⟨h, hcim⟩ := and_ones _ _ h
  obtain ⟨h, hbim⟩ := and_ones _ _ h
  obtain ⟨h, hbre⟩ := and_ones _ _ h
  obtain ⟨h, hga⟩ := and_ones _ _ h
  obtain ⟨h, hth⟩ := and_ones _ _ h
  obtain ⟨h, hd⟩ := and_ones _ _ h
  obtain ⟨h, hb⟩ := and_ones _ _ h
  obtain ⟨hx, hw⟩ := and_ones _ _ h
  exact ⟨is_tree l 1 (by decide) _ _ _ hl, is_tree r 2 (by decide) _ _ _ hr, all_real _ _ _ _ _ hx, all_real _ _ _ _ _ hw,
    all_real _ _ _ _ _ hb, all_real _ _ _ _ _ hd, below_top _ _ _ _ _ hth, below_top _ _ _ _ _ hga,
    all_real _ _ _ _ _ hbre, all_real _ _ _ _ _ hbim, all_real _ _ _ _ _ hcim⟩

end Cert.Pre_complete_tree_and_finite
-- ==== Proof.Value.lean ====
/-
  The value claim: on a complete tree and finite factors the idealized kernel ends with the
  reference's result.
-/
module

public import proofs.«01_k».proof.Defs
public import proofs.«01_k».proof.Proof.Agree
public import proofs.«01_k».proof.Proof.Decode
public import proofs.«01_k».proof.Proof.LaunchKernelIdeal

@[expose] public section

noncomputable section

namespace Cert.KernelIdeal.Launch

open Idealize.ShloMosaic
open TreeScan

attribute [local instance] Cert.KernelIdeal.Gen.facts

variable (m : (ℓ : Loc nD τ sig) → Buf (Elt Ideal) ℓ) (c : Dev nD)

/-- A vector laid out as one row. -/
theorem row_apply {w : ℕ} (v : FVec Ideal ⟨1, ![w]⟩ .f32) (h : (⟨1, ![w]⟩ : Shape).BroadcastsInDim ⟨2, ![1, w]⟩ ![1]) (i : Fin w) :
    broadcastInDim ⟨2, ![1, w]⟩ ![1] h v (ix2 0 i) = v (ix1 i) := by
  refine congrArg v (funext fun a => ?_)
  match a with
  | ⟨0, _⟩ =>
    refine Fin.ext ?_
    by_cases h1 : w = 1
    · subst h1
      have := i.isLt
      exact (congrArg Fin.val (dif_pos rfl)).trans (show 0 = i.val by omega)
    · exact congrArg Fin.val (dif_neg h1)

/-- The bias row the region finds. -/
theorem bias_row (i : Fin 128) : (argsOf m c).b (ix2 0 i) = m ((c.tc : Thread nD τ).loc main_arg4) (ix1 i) := by
  refine Eq.trans ?_ (row_apply (m ((c.tc : Thread nD τ).loc main_arg4)) (by decide) i)
  refine congrFun ?_ (ix2 0 i)
  show StableHlo.after _ _ _ = _
  rw [StableHlo.after_cons, StableHlo.after_cons, StableHlo.after_cons, StableHlo.after_cons, StableHlo.after_nil,
    StableHlo.unary_result_ne _ _ _ _ _ _ (by decide), StableHlo.unary_result_ne _ _ _ _ _ _ (by decide),
    StableHlo.unary_result_ne _ _ _ _ _ _ (by decide), StableHlo.unary_result]

/-- The row of the decays' logarithms the region finds. -/
theorem nu_row (i : Fin 64) : (argsOf m c).nu (ix2 0 i) = m ((c.tc : Thread nD τ).loc main_arg6) (ix1 i) := by
  refine Eq.trans ?_ (row_apply (m ((c.tc : Thread nD τ).loc main_arg6)) (by decide) i)
  refine congrFun ?_ (ix2 0 i)
  show StableHlo.after _ _ _ = _
  rw [StableHlo.after_cons, StableHlo.after_cons, StableHlo.after_cons, StableHlo.after_cons, StableHlo.after_nil,
    StableHlo.unary_result_ne _ _ _ _ _ _ (by decide), StableHlo.unary_result_ne _ _ _ _ _ _ (by decide),
    StableHlo.unary_result, StableHlo.unary_result_ne _ _ _ _ _ _ (by decide)]

/-- The row of the angles' logarithms the region finds. -/
theorem th_row (i : Fin 64) : (argsOf m c).th (ix2 0 i) = m ((c.tc : Thread nD τ).loc main_arg7) (ix1 i) := by
  refine Eq.trans ?_ (row_apply (m ((c.tc : Thread nD τ).loc main_arg7)) (by decide) i)
  refine congrFun ?_ (ix2 0 i)
  show StableHlo.after _ _ _ = _
  rw [StableHlo.after_cons, StableHlo.after_cons, StableHlo.after_cons, StableHlo.after_cons, StableHlo.after_nil,
    StableHlo.unary_result_ne _ _ _ _ _ _ (by decide), StableHlo.unary_result, StableHlo.unary_result_ne _ _ _ _ _ _ (by decide),
    StableHlo.unary_result_ne _ _ _ _ _ _ (by decide)]

/-- The row of the normalization's logarithms the region finds. -/
theorem ga_row (i : Fin 64) : (argsOf m c).ga (ix2 0 i) = m ((c.tc : Thread nD τ).loc main_arg8) (ix1 i) := by
  refine Eq.trans ?_ (row_apply (m ((c.tc : Thread nD τ).loc main_arg8)) (by decide) i)
  refine congrFun ?_ (ix2 0 i)
  show StableHlo.after _ _ _ = _
  rw [StableHlo.after_cons, StableHlo.after_cons, StableHlo.after_cons, StableHlo.after_cons, StableHlo.after_nil,
    StableHlo.unary_result, StableHlo.unary_result_ne _ _ _ _ _ _ (by decide),
    StableHlo.unary_result_ne _ _ _ _ _ _ (by decide), StableHlo.unary_result_ne _ _ _ _ _ _ (by decide)]

end Cert.KernelIdeal.Launch

namespace Cert.Proof

open Idealize.ShloMosaic Idealize.ShloMosaic.StableHlo Idealize.SL.Sem
open Cert.KernelIdeal.Launch (argsOf featOf outOf bias_row nu_row th_row ga_row)
open Cert.ReferenceIdeal.Scan (Same Finite outRef run_out result_agree)

attribute [local instance] Cert.KernelIdeal.Gen.facts Cert.ReferenceIdeal.Gen.facts Cert.Pre_complete_tree_and_finite.facts

/-- Both programs run from arguments that are the same and meet the precondition, and end with the
    same result, the arguments unchanged. -/
theorem value : Cert.algebraic_KernelIdeal_ReferenceIdeal_pre_complete_tree_and_finite := by
  intro m g m' g' hpre hargs
  refine ⟨fun c => outOf m c, ?_, ?_⟩
  · refine (θ_run _ _ _).mono (fun r h c => ?_) (Cert.KernelIdeal.Launch.run m g)
    obtain ⟨h0, h1, h2, h3, h4, h5, h6, h7, h8, h9, h10, h11, h12, hv⟩ := h.1 c
    exact ⟨hv, h0, h1, h2, h3, h4, h5, h6, h7, h8, h9, h10, h11, h12⟩
  · refine (θ_run _ _ _).mono (fun r h c => ⟨(h c).1.trans ?_, (h c).2⟩) (Cert.ReferenceIdeal.Value.run m' g')
    obtain ⟨a0, a1, a2, a3, a4, a5, a6, a7, a8, a9, a10, a11, a12⟩ := hargs c
    have p := Cert.Pre_complete_tree_and_finite.decoded _ _ _ _ _ _ _ _ _ _ _ _ _ (hpre c)
    have hs : Same (argsOf m c) (featOf m c) (launchContents m' c) :=
      { feat := fun b n k => (congrFun (Cert.KernelIdeal.Gen.V_main_arg0 m c) _).trans (congrFun a0 _).symm
        win := fun i k => (congrFun (Cert.KernelIdeal.Gen.V_main_arg3 m c) _).trans (congrFun a3 _).symm
        bias := fun i => (bias_row m c i).trans (congrFun a4 _).symm
        skip := fun f i => (congrFun (Cert.KernelIdeal.Gen.V_main_arg5 m c) _).trans (congrFun a5 _).symm
        nu := fun i => (nu_row m c i).trans (congrFun a6 _).symm
        th := fun i => (th_row m c i).trans (congrFun a7 _).symm
        ga := fun i => (ga_row m c i).trans (congrFun a8 _).symm
        bre := fun i k => (congrFun (Cert.KernelIdeal.Gen.V_main_arg9 m c) _).trans (congrFun a9 _).symm
        bim := fun i k => (congrFun (Cert.KernelIdeal.Gen.V_main_arg10 m c) _).trans (congrFun a10 _).symm
        cre := fun f i => (congrFun (Cert.KernelIdeal.Gen.V_main_arg11 m c) _).trans (congrFun a11 _).symm
        cim := fun f i => (congrFun (Cert.KernelIdeal.Gen.V_main_arg12 m c) _).trans (congrFun a12 _).symm }
    have hf : Finite (launchContents m' c) :=
      { feat := fun b n k => (p.x _).of_eq (congrFun a0 (ix3 b n k))
        win := fun i k => (p.w _).of_eq (congrFun a3 (ix2 i k))
        bias := fun i => (p.b _).of_eq (congrFun a4 (ix1 i))
        skip := fun f i => (p.d _).of_eq (congrFun a5 (ix2 f i))
        th := fun i => lt_of_eq_of_lt (α := EReal) (congrFun a7 (ix1 i)) (p.th _)
        ga := fun i => lt_of_eq_of_lt (α := EReal) (congrFun a8 (ix1 i)) (p.ga _)
        bre := fun i k => (p.bre _).of_eq (congrFun a9 (ix2 i k))
        bim := fun i k => (p.bim _).of_eq (congrFun a10 (ix2 i k))
        cim := fun f i => (p.cim _).of_eq (congrFun a12 (ix2 f i)) }
    exact (result_agree hs hf (fun n => (congrFun a1 (ix1 n)).trans (p.left n)) (fun n => (congrFun a2 (ix1 n)).trans (p.right n))).symm

end Cert.Proof
-- ==== Proof.lean ====
/-
  The certificate: every claim, put together from the modules under `Proof/`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import proofs.«01_k».proof.Proof.LaunchKernel
public import proofs.«01_k».proof.Proof.LaunchKernelIdeal
public import proofs.«01_k».proof.Proof.Value
public import Idealize.ShloMosaic.Lib.Quiescent
public import Idealize.ShloMosaic.Init

@[expose] public section

noncomputable section

namespace Cert.Proof

open Idealize.ShloMosaic Idealize.SL.Sem

/-- A run that leaves a result as well leaves the arguments. -/
theorem frame_kernel : Cert.quiescent_Kernel (hKernel := Cert.Kernel.Gen.facts) := fun m g _ =>
  (θ_run _ _ _).mono (fun _ h => ⟨fun c => by
    obtain ⟨h0, h1, h2, h3, h4, h5, h6, h7, h8, h9, h10, h11, h12, -⟩ := h.1 c
    exact ⟨h0, h1, h2, h3, h4, h5, h6, h7, h8, h9, h10, h11, h12⟩, h.2⟩) (Cert.Kernel.Launch.run m g)

/-- The same of the idealized kernel. -/
theorem frame_kernelIdeal : Cert.quiescent_KernelIdeal (hKernelIdeal := Cert.KernelIdeal.Gen.facts) := fun m g _ =>
  (θ_run _ _ _).mono (fun _ h => ⟨fun c => by
    obtain ⟨h0, h1, h2, h3, h4, h5, h6, h7, h8, h9, h10, h11, h12, -⟩ := h.1 c
    exact ⟨h0, h1, h2, h3, h4, h5, h6, h7, h8, h9, h10, h11, h12⟩, h.2⟩) (Cert.KernelIdeal.Launch.run m g)

/-- The reference's arguments end unchanged; it has no semaphore. -/
theorem frame_referenceIdeal : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- All the claims. The two frames under the precondition follow from those without it. -/
theorem claim : Cert.Claim := ⟨Cert.Kernel.Gen.facts, Cert.KernelIdeal.Gen.facts, Cert.ReferenceIdeal.Gen.facts,
  Cert.Pre_complete_tree_and_finite.facts, frame_kernel, frame_kernelIdeal, fun m g _ => frame_kernelIdeal m g trivial,
  frame_referenceIdeal, fun m g _ => frame_referenceIdeal m g trivial, trivial, value⟩

end Cert.Proof

end
